-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v30_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v30_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x640x1536 : Shape := ⟨3, ![2, 640, 1536]⟩
abbrev S2x640 : Shape := ⟨2, ![2, 640]⟩
abbrev S128x12x8x128 : Shape := ⟨4, ![128, 12, 8, 128]⟩
abbrev S384x12x8x128 : Shape := ⟨4, ![384, 12, 8, 128]⟩
abbrev S512x12x8x128 : Shape := ⟨4, ![512, 12, 8, 128]⟩
abbrev S40x12x8x128 : Shape := ⟨4, ![40, 12, 8, 128]⟩
abbrev S128x8x128 : Shape := ⟨3, ![128, 8, 128]⟩
abbrev S384x8x128 : Shape := ⟨3, ![384, 8, 128]⟩
abbrev S512x8x128 : Shape := ⟨3, ![512, 8, 128]⟩
abbrev S40x8x128 : Shape := ⟨3, ![40, 8, 128]⟩
abbrev S65536 : Shape := ⟨1, ![65536]⟩
abbrev S1280x1536 : Shape := ⟨2, ![1280, 1536]⟩
abbrev S1280 : Shape := ⟨1, ![1280]⟩
abbrev S1280x1 : Shape := ⟨2, ![1280, 1]⟩
abbrev S1280x128 : Shape := ⟨2, ![1280, 128]⟩
abbrev S_ : Shape := ⟨0, ![]⟩
abbrev S4096 : Shape := ⟨1, ![4096]⟩
abbrev S1x4096 : Shape := ⟨2, ![1, 4096]⟩
abbrev S640x65536 : Shape := ⟨2, ![640, 65536]⟩
abbrev S32x12x8x128 : Shape := ⟨4, ![32, 12, 8, 128]⟩
abbrev S32x8x128 : Shape := ⟨3, ![32, 8, 128]⟩
abbrev S1x1024 : Shape := ⟨2, ![1, 1024]⟩
abbrev S640x1024 : Shape := ⟨2, ![640, 1024]⟩
abbrev S1024x1536 : Shape := ⟨2, ![1024, 1536]⟩
abbrev S8x128 : Shape := ⟨2, ![8, 128]⟩
abbrev S1x8x128 : Shape := ⟨3, ![1, 8, 128]⟩
abbrev S1x1x8x128 : Shape := ⟨4, ![1, 1, 8, 128]⟩
abbrev S32x128 : Shape := ⟨2, ![32, 128]⟩
abbrev S8x128x1 : Shape := ⟨3, ![8, 128, 1]⟩
abbrev S16x128 : Shape := ⟨2, ![16, 128]⟩
abbrev S640x1536 : Shape := ⟨2, ![640, 1536]⟩
abbrev S512x1536 : Shape := ⟨2, ![512, 1536]⟩
abbrev S640x512 : Shape := ⟨2, ![640, 512]⟩
abbrev S1x512 : Shape := ⟨2, ![1, 512]⟩
abbrev S640x128 : Shape := ⟨2, ![640, 128]⟩
abbrev S1x128 : Shape := ⟨2, ![1, 128]⟩
abbrev S12288 : Shape := ⟨1, ![12288]⟩
abbrev S1x12288 : Shape := ⟨2, ![1, 12288]⟩
abbrev S16384 : Shape := ⟨1, ![16384]⟩
abbrev S1x16384 : Shape := ⟨2, ![1, 16384]⟩

abbrev nBuf : Space → Nat
  | .hbm => 63
  | .vmem => 94
  | .smem => 0
  | _ => 0

abbrev bufTy : (tb : Table) → Fin (tcTables nBuf tb) → BufTy
  | .hbm, ⟨0, _⟩ => ⟨S2x640x1536, .bf16⟩
  | .hbm, ⟨1, _⟩ => ⟨S2x640, .i32⟩
  | .hbm, ⟨2, _⟩ => ⟨S128x12x8x128, .i32⟩
  | .hbm, ⟨3, _⟩ => ⟨S384x12x8x128, .i32⟩
  | .hbm, ⟨4, _⟩ => ⟨S512x12x8x128, .i32⟩
  | .hbm, ⟨5, _⟩ => ⟨S512x12x8x128, .i32⟩
  | .hbm, ⟨6, _⟩ => ⟨S512x12x8x128, .i32⟩
  | .hbm, ⟨7, _⟩ => ⟨S40x12x8x128, .i32⟩
  | .hbm, ⟨8, _⟩ => ⟨S128x8x128, .i32⟩
  | .hbm, ⟨9, _⟩ => ⟨S384x8x128, .i32⟩
  | .hbm, ⟨10, _⟩ => ⟨S512x8x128, .i32⟩
  | .hbm, ⟨11, _⟩ => ⟨S512x8x128, .i32⟩
  | .hbm, ⟨12, _⟩ => ⟨S512x8x128, .i32⟩
  | .hbm, ⟨13, _⟩ => ⟨S40x8x128, .i32⟩
  | .hbm, ⟨14, _⟩ => ⟨S65536, .i32⟩
  | .hbm, ⟨15, _⟩ => ⟨S65536, .f32⟩
  | .hbm, ⟨16, _⟩ => ⟨S2x640, .f32⟩
  | .hbm, ⟨17, _⟩ => ⟨S1280x1536, .bf16⟩
  | .hbm, ⟨18, _⟩ => ⟨S1280, .i32⟩
  | .hbm, ⟨19, _⟩ => ⟨S1280x1, .i32⟩
  | .hbm, ⟨20, _⟩ => ⟨S1280x128, .i32⟩
  | .hbm, ⟨21, _⟩ => ⟨S_, .f32⟩
  | .hbm, ⟨22, _⟩ => ⟨S1280x128, .f32⟩
  | .hbm, ⟨23, _⟩ => ⟨S_, .f32⟩
  | .hbm, ⟨24, _⟩ => ⟨S1280x128, .f32⟩
  | .hbm, ⟨25, _⟩ => ⟨S4096, .i32⟩
  | .hbm, ⟨26, _⟩ => ⟨S4096, .f32⟩
  | .hbm, ⟨27, _⟩ => ⟨S1x4096, .i32⟩
  | .hbm, ⟨28, _⟩ => ⟨S1x4096, .f32⟩
  | .hbm, ⟨29, _⟩ => ⟨S640x65536, .f32⟩
  | .hbm, ⟨30, _⟩ => ⟨S1280x128, .f32⟩
  | .hbm, ⟨31, _⟩ => ⟨S1280x128, .f32⟩
  | .hbm, ⟨32, _⟩ => ⟨S12288, .i32⟩
  | .hbm, ⟨33, _⟩ => ⟨S12288, .f32⟩
  | .hbm, ⟨34, _⟩ => ⟨S1x12288, .i32⟩
  | .hbm, ⟨35, _⟩ => ⟨S1x12288, .f32⟩
  | .hbm, ⟨36, _⟩ => ⟨S640x65536, .f32⟩
  | .hbm, ⟨37, _⟩ => ⟨S1280x128, .f32⟩
  | .hbm, ⟨38, _⟩ => ⟨S1280x128, .f32⟩
  | .hbm, ⟨39, _⟩ => ⟨S16384, .i32⟩
  | .hbm, ⟨40, _⟩ => ⟨S16384, .f32⟩
  | .hbm, ⟨41, _⟩ => ⟨S1x16384, .i32⟩
  | .hbm, ⟨42, _⟩ => ⟨S1x16384, .f32⟩
  | .hbm, ⟨43, _⟩ => ⟨S640x65536, .f32⟩
  | .hbm, ⟨44, _⟩ => ⟨S1280x128, .f32⟩
  | .hbm, ⟨45, _⟩ => ⟨S1280x128, .f32⟩
  | .hbm, ⟨46, _⟩ => ⟨S16384, .i32⟩
  | .hbm, ⟨47, _⟩ => ⟨S16384, .f32⟩
  | .hbm, ⟨48, _⟩ => ⟨S1x16384, .i32⟩
  | .hbm, ⟨49, _⟩ => ⟨S1x16384, .f32⟩
  | .hbm, ⟨50, _⟩ => ⟨S640x65536, .f32⟩
  | .hbm, ⟨51, _⟩ => ⟨S1280x128, .f32⟩
  | .hbm, ⟨52, _⟩ => ⟨S1280x128, .f32⟩
  | .hbm, ⟨53, _⟩ => ⟨S16384, .i32⟩
  | .hbm, ⟨54, _⟩ => ⟨S16384, .f32⟩
  | .hbm, ⟨55, _⟩ => ⟨S1x16384, .i32⟩
  | .hbm, ⟨56, _⟩ => ⟨S1x16384, .f32⟩
  | .hbm, ⟨57, _⟩ => ⟨S640x65536, .f32⟩
  | .hbm, ⟨58, _⟩ => ⟨S1280x128, .f32⟩
  | .hbm, ⟨59, _⟩ => ⟨S1280x128, .f32⟩
  | .hbm, ⟨60, _⟩ => ⟨S1280x1, .f32⟩
  | .hbm, ⟨61, _⟩ => ⟨S1280x1, .f32⟩
  | .hbm, ⟨62, _⟩ => ⟨S1280x1, .f32⟩
  | .local _ .vmem, ⟨0, _⟩ => ⟨S1280x1536, .bf16⟩
  | .local _ .vmem, ⟨1, _⟩ => ⟨S32x12x8x128, .i32⟩
  | .local _ .vmem, ⟨2, _⟩ => ⟨S32x12x8x128, .i32⟩
  | .local _ .vmem, ⟨3, _⟩ => ⟨S32x8x128, .i32⟩
  | .local _ .vmem, ⟨4, _⟩ => ⟨S32x8x128, .i32⟩
  | .local _ .vmem, ⟨5, _⟩ => ⟨S1x1024, .i32⟩
  | .local _ .vmem, ⟨6, _⟩ => ⟨S1x1024, .i32⟩
  | .local _ .vmem, ⟨7, _⟩ => ⟨S1x1024, .f32⟩
  | .local _ .vmem, ⟨8, _⟩ => ⟨S1x1024, .f32⟩
  | .local _ .vmem, ⟨9, _⟩ => ⟨S1280x128, .i32⟩
  | .local _ .vmem, ⟨10, _⟩ => ⟨S1280x128, .f32⟩
  | .local _ .vmem, ⟨11, _⟩ => ⟨S1280x128, .f32⟩
  | .local _ .vmem, ⟨12, _⟩ => ⟨S640x1024, .f32⟩
  | .local _ .vmem, ⟨13, _⟩ => ⟨S640x1024, .f32⟩
  | .local _ .vmem, ⟨14, _⟩ => ⟨S1280x128, .f32⟩
  | .local _ .vmem, ⟨15, _⟩ => ⟨S1280x128, .f32⟩
  | .local _ .vmem, ⟨16, _⟩ => ⟨S1024x1536, .bf16⟩
  | .local _ .vmem, ⟨17, _⟩ => ⟨S1280x1536, .bf16⟩
  | .local _ .vmem, ⟨18, _⟩ => ⟨S32x12x8x128, .i32⟩
  | .local _ .vmem, ⟨19, _⟩ => ⟨S32x12x8x128, .i32⟩
  | .local _ .vmem, ⟨20, _⟩ => ⟨S32x8x128, .i32⟩
  | .local _ .vmem, ⟨21, _⟩ => ⟨S32x8x128, .i32⟩
  | .local _ .vmem, ⟨22, _⟩ => ⟨S1x1024, .i32⟩
  | .local _ .vmem, ⟨23, _⟩ => ⟨S1x1024, .i32⟩
  | .local _ .vmem, ⟨24, _⟩ => ⟨S1x1024, .f32⟩
  | .local _ .vmem, ⟨25, _⟩ => ⟨S1x1024, .f32⟩
  | .local _ .vmem, ⟨26, _⟩ => ⟨S1280x128, .i32⟩
  | .local _ .vmem, ⟨27, _⟩ => ⟨S1280x128, .f32⟩
  | .local _ .vmem, ⟨28, _⟩ => ⟨S1280x128, .f32⟩
  | .local _ .vmem, ⟨29, _⟩ => ⟨S640x1024, .f32⟩
  | .local _ .vmem, ⟨30, _⟩ => ⟨S640x1024, .f32⟩
  | .local _ .vmem, ⟨31, _⟩ => ⟨S1280x128, .f32⟩
  | .local _ .vmem, ⟨32, _⟩ => ⟨S1280x128, .f32⟩
  | .local _ .vmem, ⟨33, _⟩ => ⟨S1024x1536, .bf16⟩
  | .local _ .vmem, ⟨34, _⟩ => ⟨S1280x1536, .bf16⟩
  | .local _ .vmem, ⟨35, _⟩ => ⟨S32x12x8x128, .i32⟩
  | .local _ .vmem, ⟨36, _⟩ => ⟨S32x12x8x128, .i32⟩
  | .local _ .vmem, ⟨37, _⟩ => ⟨S32x8x128, .i32⟩
  | .local _ .vmem, ⟨38, _⟩ => ⟨S32x8x128, .i32⟩
  | .local _ .vmem, ⟨39, _⟩ => ⟨S1x1024, .i32⟩
  | .local _ .vmem, ⟨40, _⟩ => ⟨S1x1024, .i32⟩
  | .local _ .vmem, ⟨41, _⟩ => ⟨S1x1024, .f32⟩
  | .local _ .vmem, ⟨42, _⟩ => ⟨S1x1024, .f32⟩
  | .local _ .vmem, ⟨43, _⟩ => ⟨S1280x128, .i32⟩
  | .local _ .vmem, ⟨44, _⟩ => ⟨S1280x128, .f32⟩
  | .local _ .vmem, ⟨45, _⟩ => ⟨S1280x128, .f32⟩
  | .local _ .vmem, ⟨46, _⟩ => ⟨S640x1024, .f32⟩
  | .local _ .vmem, ⟨47, _⟩ => ⟨S640x1024, .f32⟩
  | .local _ .vmem, ⟨48, _⟩ => ⟨S1280x128, .f32⟩
  | .local _ .vmem, ⟨49, _⟩ => ⟨S1280x128, .f32⟩
  | .local _ .vmem, ⟨50, _⟩ => ⟨S1024x1536, .bf16⟩
  | .local _ .vmem, ⟨51, _⟩ => ⟨S1280x1536, .bf16⟩
  | .local _ .vmem, ⟨52, _⟩ => ⟨S32x12x8x128, .i32⟩
  | .local _ .vmem, ⟨53, _⟩ => ⟨S32x12x8x128, .i32⟩
  | .local _ .vmem, ⟨54, _⟩ => ⟨S32x8x128, .i32⟩
  | .local _ .vmem, ⟨55, _⟩ => ⟨S32x8x128, .i32⟩
  | .local _ .vmem, ⟨56, _⟩ => ⟨S1x1024, .i32⟩
  | .local _ .vmem, ⟨57, _⟩ => ⟨S1x1024, .i32⟩
  | .local _ .vmem, ⟨58, _⟩ => ⟨S1x1024, .f32⟩
  | .local _ .vmem, ⟨59, _⟩ => ⟨S1x1024, .f32⟩
  | .local _ .vmem, ⟨60, _⟩ => ⟨S1280x128, .i32⟩
  | .local _ .vmem, ⟨61, _⟩ => ⟨S1280x128, .f32⟩
  | .local _ .vmem, ⟨62, _⟩ => ⟨S1280x128, .f32⟩
  | .local _ .vmem, ⟨63, _⟩ => ⟨S640x1024, .f32⟩
  | .local _ .vmem, ⟨64, _⟩ => ⟨S640x1024, .f32⟩
  | .local _ .vmem, ⟨65, _⟩ => ⟨S1280x128, .f32⟩
  | .local _ .vmem, ⟨66, _⟩ => ⟨S1280x128, .f32⟩
  | .local _ .vmem, ⟨67, _⟩ => ⟨S1024x1536, .bf16⟩
  | .local _ .vmem, ⟨68, _⟩ => ⟨S1280x1536, .bf16⟩
  | .local _ .vmem, ⟨69, _⟩ => ⟨S32x12x8x128, .i32⟩
  | .local _ .vmem, ⟨70, _⟩ => ⟨S32x12x8x128, .i32⟩
  | .local _ .vmem, ⟨71, _⟩ => ⟨S32x8x128, .i32⟩
  | .local _ .vmem, ⟨72, _⟩ => ⟨S32x8x128, .i32⟩
  | .local _ .vmem, ⟨73, _⟩ => ⟨S1x1024, .i32⟩
  | .local _ .vmem, ⟨74, _⟩ => ⟨S1x1024, .i32⟩
  | .local _ .vmem, ⟨75, _⟩ => ⟨S1x1024, .f32⟩
  | .local _ .vmem, ⟨76, _⟩ => ⟨S1x1024, .f32⟩
  | .local _ .vmem, ⟨77, _⟩ => ⟨S1280x128, .i32⟩
  | .local _ .vmem, ⟨78, _⟩ => ⟨S1280x128, .f32⟩
  | .local _ .vmem, ⟨79, _⟩ => ⟨S1280x128, .f32⟩
  | .local _ .vmem, ⟨80, _⟩ => ⟨S640x1024, .f32⟩
  | .local _ .vmem, ⟨81, _⟩ => ⟨S640x1024, .f32⟩
  | .local _ .vmem, ⟨82, _⟩ => ⟨S1280x128, .f32⟩
  | .local _ .vmem, ⟨83, _⟩ => ⟨S1280x128, .f32⟩
  | .local _ .vmem, ⟨84, _⟩ => ⟨S1024x1536, .bf16⟩
  | .local _ .vmem, ⟨85, _⟩ => ⟨S1280x1536, .bf16⟩
  | .local _ .vmem, ⟨86, _⟩ => ⟨S40x12x8x128, .i32⟩
  | .local _ .vmem, ⟨87, _⟩ => ⟨S40x8x128, .i32⟩
  | .local _ .vmem, ⟨88, _⟩ => ⟨S1280x1, .f32⟩
  | .local _ .vmem, ⟨89, _⟩ => ⟨S1280x128, .f32⟩
  | .local _ .vmem, ⟨90, _⟩ => ⟨S1280x128, .f32⟩
  | .local _ .vmem, ⟨91, _⟩ => ⟨S1280x1, .f32⟩
  | .local _ .vmem, ⟨92, _⟩ => ⟨S1280x1, .f32⟩
  | .local _ .vmem, ⟨93, _⟩ => ⟨S1280x1536, .bf16⟩
  | _, _ => ⟨S2x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev main_v31 : Ref sig .tc := ⟨.hbm, 60, rfl⟩
abbrev main_v32_0 : Ref sig .tc := ⟨.hbm, 61, rfl⟩
abbrev main_v32_1 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg10_0 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg8_1 : Ref sig .tc := ⟨.vmem, 47, rfl⟩
abbrev cc2_stg9_0 : Ref sig .tc := ⟨.vmem, 48, rfl⟩
abbrev cc2_stg10_0 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc3_stg3_0 : Ref sig .tc := ⟨.vmem, 56, rfl⟩
abbrev cc3_stg3_1 : Ref sig .tc := ⟨.vmem, 57, rfl⟩
abbrev cc3_stg4_0 : Ref sig .tc := ⟨.vmem, 58, rfl⟩
abbrev cc3_stg4_1 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg8_0 : Ref sig .tc := ⟨.vmem, 63, rfl⟩
abbrev cc3_stg8_1 : Ref sig .tc := ⟨.vmem, 64, rfl⟩
abbrev cc3_stg9_0 : Ref sig .tc := ⟨.vmem, 65, rfl⟩
abbrev cc3_stg10_0 : Ref sig .tc := ⟨.vmem, 66, rfl⟩
abbrev cc3_scratch0 : Ref sig .tc := ⟨.vmem, 67, rfl⟩
abbrev cc4_stg0_0 : Ref sig .tc := ⟨.vmem, 68, rfl⟩
abbrev cc4_stg1_0 : Ref sig .tc := ⟨.vmem, 69, rfl⟩
abbrev cc4_stg1_1 : Ref sig .tc := ⟨.vmem, 70, rfl⟩
abbrev cc4_stg2_0 : Ref sig .tc := ⟨.vmem, 71, rfl⟩
abbrev cc4_stg2_1 : Ref sig .tc := ⟨.vmem, 72, rfl⟩
abbrev cc4_stg3_0 : Ref sig .tc := ⟨.vmem, 73, rfl⟩
abbrev cc4_stg3_1 : Ref sig .tc := ⟨.vmem, 74, rfl⟩
abbrev cc4_stg4_0 : Ref sig .tc := ⟨.vmem, 75, rfl⟩
abbrev cc4_stg4_1 : Ref sig .tc := ⟨.vmem, 76, rfl⟩
abbrev cc4_stg5_0 : Ref sig .tc := ⟨.vmem, 77, rfl⟩
abbrev cc4_stg6_0 : Ref sig .tc := ⟨.vmem, 78, rfl⟩
abbrev cc4_stg7_0 : Ref sig .tc := ⟨.vmem, 79, rfl⟩
abbrev cc4_stg8_0 : Ref sig .tc := ⟨.vmem, 80, rfl⟩
abbrev cc4_stg8_1 : Ref sig .tc := ⟨.vmem, 81, rfl⟩
abbrev cc4_stg9_0 : Ref sig .tc := ⟨.vmem, 82, rfl⟩
abbrev cc4_stg10_0 : Ref sig .tc := ⟨.vmem, 83, rfl⟩
abbrev cc4_scratch0 : Ref sig .tc := ⟨.vmem, 84, rfl⟩
abbrev cc5_stg0_0 : Ref sig .tc := ⟨.vmem, 85, rfl⟩
abbrev cc5_stg1_0 : Ref sig .tc := ⟨.vmem, 86, rfl⟩
abbrev cc5_stg2_0 : Ref sig .tc := ⟨.vmem, 87, rfl⟩
abbrev cc5_stg3_0 : Ref sig .tc := ⟨.vmem, 88, rfl⟩
abbrev cc5_stg4_0 : Ref sig .tc := ⟨.vmem, 89, rfl⟩
abbrev cc5_stg5_0 : Ref sig .tc := ⟨.vmem, 90, rfl⟩
abbrev cc5_stg6_0 : Ref sig .tc := ⟨.vmem, 91, rfl⟩
abbrev cc5_stg7_0 : Ref sig .tc := ⟨.vmem, 92, rfl⟩
abbrev cc5_scratch0 : Ref sig .tc := ⟨.vmem, 93, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem10_0 : DmaSem sig := 31
abbrev cc2_sem0_0 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem8_1 : DmaSem sig := 45
abbrev cc2_sem9_0 : DmaSem sig := 46
abbrev cc2_sem10_0 : DmaSem sig := 47
abbrev cc3_sem0_0 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem3_1 : DmaSem sig := 54
abbrev cc3_sem4_0 : DmaSem sig := 55
abbrev cc3_sem4_1 : DmaSem sig := 56
abbrev cc3_sem5_0 : DmaSem sig := 57
abbrev cc3_sem6_0 : DmaSem sig := 58
abbrev cc3_sem7_0 : DmaSem sig := 59
abbrev cc3_sem8_0 : DmaSem sig := 60
abbrev cc3_sem8_1 : DmaSem sig := 61
abbrev cc3_sem9_0 : DmaSem sig := 62
abbrev cc3_sem10_0 : DmaSem sig := 63
abbrev cc4_sem0_0 : DmaSem sig := 64
abbrev cc4_sem1_0 : DmaSem sig := 65
abbrev cc4_sem1_1 : DmaSem sig := 66
abbrev cc4_sem2_0 : DmaSem sig := 67
abbrev cc4_sem2_1 : DmaSem sig := 68
abbrev cc4_sem3_0 : DmaSem sig := 69
abbrev cc4_sem3_1 : DmaSem sig := 70
abbrev cc4_sem4_0 : DmaSem sig := 71
abbrev cc4_sem4_1 : DmaSem sig := 72
abbrev cc4_sem5_0 : DmaSem sig := 73
abbrev cc4_sem6_0 : DmaSem sig := 74
abbrev cc4_sem7_0 : DmaSem sig := 75
abbrev cc4_sem8_0 : DmaSem sig := 76
abbrev cc4_sem8_1 : DmaSem sig := 77
abbrev cc4_sem9_0 : DmaSem sig := 78
abbrev cc4_sem10_0 : DmaSem sig := 79
abbrev cc5_sem0_0 : DmaSem sig := 80
abbrev cc5_sem1_0 : DmaSem sig := 81
abbrev cc5_sem2_0 : DmaSem sig := 82
abbrev cc5_sem3_0 : DmaSem sig := 83
abbrev cc5_sem4_0 : DmaSem sig := 84
abbrev cc5_sem5_0 : DmaSem sig := 85
abbrev cc5_sem6_0 : DmaSem sig := 86
abbrev cc5_sem7_0 : DmaSem sig := 87

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  v280
def k0_off1 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let v283 : Index := Scalar.indexCast arg13
  let c0_135 : Index := 0#32
  let c0_136 : Index := 0#32
  ![v283.toNat, 0, 0]
def k0_off2 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v286 : Index := Scalar.indexCast arg13
  let c0_137 : Index := 0#32
  let c0_138 : Index := 0#32
  let c0_139 : Index := 0#32
  ![v286.toNat, 0, 0, 0]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v329 : Index := Scalar.indexCast v281
  let c0_147 : Index := 0#32
  ![v329.toNat, 0]
def k0_off4 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v333 : Index := Scalar.indexCast arg13
  let c1 : Index := 1#32
  let c0_148 : Index := 0#32
  let c0_149 : Index := 0#32
  ![v333.toNat, 1, 0, 0]
def k0_off5 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v376 : Index := Scalar.indexCast v281
  let c128_161 : Index := 128#32
  ![v376.toNat, 128]
def k0_off6 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v380 : Index := Scalar.indexCast arg13
  let c2 : Index := 2#32
  let c0_162 : Index := 0#32
  let c0_163 : Index := 0#32
  ![v380.toNat, 2, 0, 0]
def k0_off7 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v423 : Index := Scalar.indexCast v281
  let c256_175 : Index := 256#32
  ![v423.toNat, 256]
def k0_off8 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v427 : Index := Scalar.indexCast arg13
  let c3 : Index := 3#32
  let c0_176 : Index := 0#32
  let c0_177 : Index := 0#32
  ![v427.toNat, 3, 0, 0]
def k0_off9 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v470 : Index := Scalar.indexCast v281
  let c384_190 : Index := 384#32
  ![v470.toNat, 384]
def k0_off10 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v474 : Index := Scalar.indexCast arg13
  let c4 : Index := 4#32
  let c0_191 : Index := 0#32
  let c0_192 : Index := 0#32
  ![v474.toNat, 4, 0, 0]
def k0_off11 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v517 : Index := Scalar.indexCast v281
  let c512_205 : Index := 512#32
  ![v517.toNat, 512]
def k0_off12 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v521 : Index := Scalar.indexCast arg13
  let c5 : Index := 5#32
  let c0_206 : Index := 0#32
  let c0_207 : Index := 0#32
  ![v521.toNat, 5, 0, 0]
def k0_off13 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v564 : Index := Scalar.indexCast v281
  let c640_219 : Index := 640#32
  ![v564.toNat, 640]
def k0_off14 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v568 : Index := Scalar.indexCast arg13
  let c6 : Index := 6#32
  let c0_220 : Index := 0#32
  let c0_221 : Index := 0#32
  ![v568.toNat, 6, 0, 0]
def k0_off15 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v611 : Index := Scalar.indexCast v281
  let c768_233 : Index := 768#32
  ![v611.toNat, 768]
def k0_off16 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v615 : Index := Scalar.indexCast arg13
  let c7 : Index := 7#32
  let c0_234 : Index := 0#32
  let c0_235 : Index := 0#32
  ![v615.toNat, 7, 0, 0]
def k0_off17 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v658 : Index := Scalar.indexCast v281
  let c896_247 : Index := 896#32
  ![v658.toNat, 896]
def k0_off18 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v662 : Index := Scalar.indexCast arg13
  let c8 : Index := 8#32
  let c0_248 : Index := 0#32
  let c0_249 : Index := 0#32
  ![v662.toNat, 8, 0, 0]
def k0_off19 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v705 : Index := Scalar.indexCast v281
  let c1024 : Index := 1024#32
  ![v705.toNat, 1024]
def k0_off20 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v709 : Index := Scalar.indexCast arg13
  let c9 : Index := 9#32
  let c0_262 : Index := 0#32
  let c0_263 : Index := 0#32
  ![v709.toNat, 9, 0, 0]
def k0_off21 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v752 : Index := Scalar.indexCast v281
  let c1152 : Index := 1152#32
  ![v752.toNat, 1152]
def k0_off22 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v756 : Index := Scalar.indexCast arg13
  let c10 : Index := 10#32
  let c0_275 : Index := 0#32
  let c0_276 : Index := 0#32
  ![v756.toNat, 10, 0, 0]
def k0_off23 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v799 : Index := Scalar.indexCast v281
  let c1280 : Index := 1280#32
  ![v799.toNat, 1280]
def k0_off24 (k0_t1 : Fin k0_t1_loop.trips) : Fin 4 → Nat :=
  let c0_i32_1 : BitVec 32 := 0#32
  let c1_i32 : BitVec 32 := 1#32
  let arg13 : BitVec 32 := Scf.iv c0_i32_1 c1_i32 k0_t1
  let v803 : Index := Scalar.indexCast arg13
  let c11 : Index := 11#32
  let c0_288 : Index := 0#32
  let c0_289 : Index := 0#32
  ![v803.toNat, 11, 0, 0]
def k0_off25 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c32_i32_134 : BitVec 32 := 32#32
  let v280 : BitVec 32 := Scalar.muli arg13 c32_i32_134
  let v281 : BitVec 32 := v280
  let v846 : Index := Scalar.indexCast v281
  let c1408 : Index := 1408#32
  ![v846.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x12x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1280x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![12], ![false]⟩

@[reducible] def k1_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k1_mult1 (k1_t1 : Fin k1_t1_loop.trips) : BitVec 32 :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  v280
def k1_off1 (k1_t1 : Fin k1_t1_loop.trips) : Fin 3 → Nat :=
  let c0_i32_1 : BitVec 32 := 0#32
  let c1_i32 : BitVec 32 := 1#32
  let arg14 : BitVec 32 := Scf.iv c0_i32_1 c1_i32 k1_t1
  let v283 : Index := Scalar.indexCast arg14
  let c0_135 : Index := 0#32
  let c0_136 : Index := 0#32
  ![v283.toNat, 0, 0]
def k1_off2 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v286 : Index := Scalar.indexCast arg14
  let c0_137 : Index := 0#32
  let c0_138 : Index := 0#32
  let c0_139 : Index := 0#32
  ![v286.toNat, 0, 0, 0]
def k1_off3 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v329 : Index := Scalar.indexCast v281
  let c0_147 : Index := 0#32
  ![v329.toNat, 0]
def k1_off4 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v333 : Index := Scalar.indexCast arg14
  let c1 : Index := 1#32
  let c0_148 : Index := 0#32
  let c0_149 : Index := 0#32
  ![v333.toNat, 1, 0, 0]
def k1_off5 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v376 : Index := Scalar.indexCast v281
  let c128_161 : Index := 128#32
  ![v376.toNat, 128]
def k1_off6 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v380 : Index := Scalar.indexCast arg14
  let c2 : Index := 2#32
  let c0_162 : Index := 0#32
  let c0_163 : Index := 0#32
  ![v380.toNat, 2, 0, 0]
def k1_off7 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v423 : Index := Scalar.indexCast v281
  let c256_175 : Index := 256#32
  ![v423.toNat, 256]
def k1_off8 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v427 : Index := Scalar.indexCast arg14
  let c3 : Index := 3#32
  let c0_176 : Index := 0#32
  let c0_177 : Index := 0#32
  ![v427.toNat, 3, 0, 0]
def k1_off9 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v470 : Index := Scalar.indexCast v281
  let c384_190 : Index := 384#32
  ![v470.toNat, 384]
def k1_off10 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v474 : Index := Scalar.indexCast arg14
  let c4 : Index := 4#32
  let c0_191 : Index := 0#32
  let c0_192 : Index := 0#32
  ![v474.toNat, 4, 0, 0]
def k1_off11 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v517 : Index := Scalar.indexCast v281
  let c512_205 : Index := 512#32
  ![v517.toNat, 512]
def k1_off12 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v521 : Index := Scalar.indexCast arg14
  let c5 : Index := 5#32
  let c0_206 : Index := 0#32
  let c0_207 : Index := 0#32
  ![v521.toNat, 5, 0, 0]
def k1_off13 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v564 : Index := Scalar.indexCast v281
  let c640_219 : Index := 640#32
  ![v564.toNat, 640]
def k1_off14 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v568 : Index := Scalar.indexCast arg14
  let c6 : Index := 6#32
  let c0_220 : Index := 0#32
  let c0_221 : Index := 0#32
  ![v568.toNat, 6, 0, 0]
def k1_off15 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v611 : Index := Scalar.indexCast v281
  let c768_233 : Index := 768#32
  ![v611.toNat, 768]
def k1_off16 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v615 : Index := Scalar.indexCast arg14
  let c7 : Index := 7#32
  let c0_234 : Index := 0#32
  let c0_235 : Index := 0#32
  ![v615.toNat, 7, 0, 0]
def k1_off17 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v658 : Index := Scalar.indexCast v281
  let c896_247 : Index := 896#32
  ![v658.toNat, 896]
def k1_off18 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v662 : Index := Scalar.indexCast arg14
  let c8 : Index := 8#32
  let c0_248 : Index := 0#32
  let c0_249 : Index := 0#32
  ![v662.toNat, 8, 0, 0]
def k1_off19 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v705 : Index := Scalar.indexCast v281
  let c1024 : Index := 1024#32
  ![v705.toNat, 1024]
def k1_off20 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v709 : Index := Scalar.indexCast arg14
  let c9 : Index := 9#32
  let c0_262 : Index := 0#32
  let c0_263 : Index := 0#32
  ![v709.toNat, 9, 0, 0]
def k1_off21 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v752 : Index := Scalar.indexCast v281
  let c1152 : Index := 1152#32
  ![v752.toNat, 1152]
def k1_off22 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v756 : Index := Scalar.indexCast arg14
  let c10 : Index := 10#32
  let c0_275 : Index := 0#32
  let c0_276 : Index := 0#32
  ![v756.toNat, 10, 0, 0]
def k1_off23 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v799 : Index := Scalar.indexCast v281
  let c1280 : Index := 1280#32
  ![v799.toNat, 1280]
def k1_off24 (k1_t1 : Fin k1_t1_loop.trips) : Fin 4 → Nat :=
  let c0_i32_1 : BitVec 32 := 0#32
  let c1_i32 : BitVec 32 := 1#32
  let arg14 : BitVec 32 := Scf.iv c0_i32_1 c1_i32 k1_t1
  let v803 : Index := Scalar.indexCast arg14
  let c11 : Index := 11#32
  let c0_288 : Index := 0#32
  let c0_289 : Index := 0#32
  ![v803.toNat, 11, 0, 0]
def k1_off25 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32_134 : BitVec 32 := 32#32
  let v280 : BitVec 32 := Scalar.muli arg14 c32_i32_134
  let v281 : BitVec 32 := v280
  let v846 : Index := Scalar.indexCast v281
  let c1408 : Index := 1408#32
  ![v846.toNat, 1408]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1280x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x12x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x8x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1280x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1280x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1280x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S640x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1280x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1280x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![16], ![false]⟩

@[reducible] def k2_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k2_mult1 (k2_t1 : Fin k2_t1_loop.trips) : BitVec 32 :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  v280
def k2_off1 (k2_t1 : Fin k2_t1_loop.trips) : Fin 3 → Nat :=
  let c0_i32_1 : BitVec 32 := 0#32
  let c1_i32 : BitVec 32 := 1#32
  let arg14 : BitVec 32 := Scf.iv c0_i32_1 c1_i32 k2_t1
  let v283 : Index := Scalar.indexCast arg14
  let c0_135 : Index := 0#32
  let c0_136 : Index := 0#32
  ![v283.toNat, 0, 0]
def k2_off2 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v286 : Index := Scalar.indexCast arg14
  let c0_137 : Index := 0#32
  let c0_138 : Index := 0#32
  let c0_139 : Index := 0#32
  ![v286.toNat, 0, 0, 0]
def k2_off3 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v329 : Index := Scalar.indexCast v281
  let c0_147 : Index := 0#32
  ![v329.toNat, 0]
def k2_off4 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v333 : Index := Scalar.indexCast arg14
  let c1 : Index := 1#32
  let c0_148 : Index := 0#32
  let c0_149 : Index := 0#32
  ![v333.toNat, 1, 0, 0]
def k2_off5 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v376 : Index := Scalar.indexCast v281
  let c128_161 : Index := 128#32
  ![v376.toNat, 128]
def k2_off6 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v380 : Index := Scalar.indexCast arg14
  let c2 : Index := 2#32
  let c0_162 : Index := 0#32
  let c0_163 : Index := 0#32
  ![v380.toNat, 2, 0, 0]
def k2_off7 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v423 : Index := Scalar.indexCast v281
  let c256_175 : Index := 256#32
  ![v423.toNat, 256]
def k2_off8 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v427 : Index := Scalar.indexCast arg14
  let c3 : Index := 3#32
  let c0_176 : Index := 0#32
  let c0_177 : Index := 0#32
  ![v427.toNat, 3, 0, 0]
def k2_off9 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v470 : Index := Scalar.indexCast v281
  let c384_190 : Index := 384#32
  ![v470.toNat, 384]
def k2_off10 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v474 : Index := Scalar.indexCast arg14
  let c4 : Index := 4#32
  let c0_191 : Index := 0#32
  let c0_192 : Index := 0#32
  ![v474.toNat, 4, 0, 0]
def k2_off11 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v517 : Index := Scalar.indexCast v281
  let c512_205 : Index := 512#32
  ![v517.toNat, 512]
def k2_off12 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v521 : Index := Scalar.indexCast arg14
  let c5 : Index := 5#32
  let c0_206 : Index := 0#32
  let c0_207 : Index := 0#32
  ![v521.toNat, 5, 0, 0]
def k2_off13 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v564 : Index := Scalar.indexCast v281
  let c640_219 : Index := 640#32
  ![v564.toNat, 640]
def k2_off14 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v568 : Index := Scalar.indexCast arg14
  let c6 : Index := 6#32
  let c0_220 : Index := 0#32
  let c0_221 : Index := 0#32
  ![v568.toNat, 6, 0, 0]
def k2_off15 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v611 : Index := Scalar.indexCast v281
  let c768_233 : Index := 768#32
  ![v611.toNat, 768]
def k2_off16 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v615 : Index := Scalar.indexCast arg14
  let c7 : Index := 7#32
  let c0_234 : Index := 0#32
  let c0_235 : Index := 0#32
  ![v615.toNat, 7, 0, 0]
def k2_off17 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v658 : Index := Scalar.indexCast v281
  let c896_247 : Index := 896#32
  ![v658.toNat, 896]
def k2_off18 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v662 : Index := Scalar.indexCast arg14
  let c8 : Index := 8#32
  let c0_248 : Index := 0#32
  let c0_249 : Index := 0#32
  ![v662.toNat, 8, 0, 0]
def k2_off19 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v705 : Index := Scalar.indexCast v281
  let c1024 : Index := 1024#32
  ![v705.toNat, 1024]
def k2_off20 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v709 : Index := Scalar.indexCast arg14
  let c9 : Index := 9#32
  let c0_262 : Index := 0#32
  let c0_263 : Index := 0#32
  ![v709.toNat, 9, 0, 0]
def k2_off21 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v752 : Index := Scalar.indexCast v281
  let c1152 : Index := 1152#32
  ![v752.toNat, 1152]
def k2_off22 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v756 : Index := Scalar.indexCast arg14
  let c10 : Index := 10#32
  let c0_275 : Index := 0#32
  let c0_276 : Index := 0#32
  ![v756.toNat, 10, 0, 0]
def k2_off23 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v799 : Index := Scalar.indexCast v281
  let c1280 : Index := 1280#32
  ![v799.toNat, 1280]
def k2_off24 (k2_t1 : Fin k2_t1_loop.trips) : Fin 4 → Nat :=
  let c0_i32_1 : BitVec 32 := 0#32
  let c1_i32 : BitVec 32 := 1#32
  let arg14 : BitVec 32 := Scf.iv c0_i32_1 c1_i32 k2_t1
  let v803 : Index := Scalar.indexCast arg14
  let c11 : Index := 11#32
  let c0_288 : Index := 0#32
  let c0_289 : Index := 0#32
  ![v803.toNat, 11, 0, 0]
def k2_off25 (k2_t1 : Fin k2_t1_loop.trips) : Fin 2 → Nat :=
  let c0_i32_1 : BitVec 32 := 0#32
  let c1_i32 : BitVec 32 := 1#32
  let arg14 : BitVec 32 := Scf.iv c0_i32_1 c1_i32 k2_t1
  let c32_i32_134 : BitVec 32 := 32#32
  let v280 : BitVec 32 := Scalar.muli arg14 c32_i32_134
  let v281 : BitVec 32 := v280
  let v846 : Index := Scalar.indexCast v281
  let c1408 : Index := 1408#32
  ![v846.toNat, 1408]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1280x1536 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S32x12x8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x8x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1280x128 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1280x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1280x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S640x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1280x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1280x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![16], ![false]⟩

@[reducible] def k3_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k3_mult1 (k3_t1 : Fin k3_t1_loop.trips) : BitVec 32 :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  v280
def k3_off1 (k3_t1 : Fin k3_t1_loop.trips) : Fin 3 → Nat :=
  let c0_i32_1 : BitVec 32 := 0#32
  let c1_i32 : BitVec 32 := 1#32
  let arg14 : BitVec 32 := Scf.iv c0_i32_1 c1_i32 k3_t1
  let v283 : Index := Scalar.indexCast arg14
  let c0_135 : Index := 0#32
  let c0_136 : Index := 0#32
  ![v283.toNat, 0, 0]
def k3_off2 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v286 : Index := Scalar.indexCast arg14
  let c0_137 : Index := 0#32
  let c0_138 : Index := 0#32
  let c0_139 : Index := 0#32
  ![v286.toNat, 0, 0, 0]
def k3_off3 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v329 : Index := Scalar.indexCast v281
  let c0_147 : Index := 0#32
  ![v329.toNat, 0]
def k3_off4 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v333 : Index := Scalar.indexCast arg14
  let c1 : Index := 1#32
  let c0_148 : Index := 0#32
  let c0_149 : Index := 0#32
  ![v333.toNat, 1, 0, 0]
def k3_off5 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v376 : Index := Scalar.indexCast v281
  let c128_161 : Index := 128#32
  ![v376.toNat, 128]
def k3_off6 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v380 : Index := Scalar.indexCast arg14
  let c2 : Index := 2#32
  let c0_162 : Index := 0#32
  let c0_163 : Index := 0#32
  ![v380.toNat, 2, 0, 0]
def k3_off7 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v423 : Index := Scalar.indexCast v281
  let c256_175 : Index := 256#32
  ![v423.toNat, 256]
def k3_off8 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v427 : Index := Scalar.indexCast arg14
  let c3 : Index := 3#32
  let c0_176 : Index := 0#32
  let c0_177 : Index := 0#32
  ![v427.toNat, 3, 0, 0]
def k3_off9 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v470 : Index := Scalar.indexCast v281
  let c384_190 : Index := 384#32
  ![v470.toNat, 384]
def k3_off10 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v474 : Index := Scalar.indexCast arg14
  let c4 : Index := 4#32
  let c0_191 : Index := 0#32
  let c0_192 : Index := 0#32
  ![v474.toNat, 4, 0, 0]
def k3_off11 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v517 : Index := Scalar.indexCast v281
  let c512_205 : Index := 512#32
  ![v517.toNat, 512]
def k3_off12 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v521 : Index := Scalar.indexCast arg14
  let c5 : Index := 5#32
  let c0_206 : Index := 0#32
  let c0_207 : Index := 0#32
  ![v521.toNat, 5, 0, 0]
def k3_off13 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v564 : Index := Scalar.indexCast v281
  let c640_219 : Index := 640#32
  ![v564.toNat, 640]
def k3_off14 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v568 : Index := Scalar.indexCast arg14
  let c6 : Index := 6#32
  let c0_220 : Index := 0#32
  let c0_221 : Index := 0#32
  ![v568.toNat, 6, 0, 0]
def k3_off15 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v611 : Index := Scalar.indexCast v281
  let c768_233 : Index := 768#32
  ![v611.toNat, 768]
def k3_off16 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v615 : Index := Scalar.indexCast arg14
  let c7 : Index := 7#32
  let c0_234 : Index := 0#32
  let c0_235 : Index := 0#32
  ![v615.toNat, 7, 0, 0]
def k3_off17 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v658 : Index := Scalar.indexCast v281
  let c896_247 : Index := 896#32
  ![v658.toNat, 896]
def k3_off18 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v662 : Index := Scalar.indexCast arg14
  let c8 : Index := 8#32
  let c0_248 : Index := 0#32
  let c0_249 : Index := 0#32
  ![v662.toNat, 8, 0, 0]
def k3_off19 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v705 : Index := Scalar.indexCast v281
  let c1024 : Index := 1024#32
  ![v705.toNat, 1024]
def k3_off20 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v709 : Index := Scalar.indexCast arg14
  let c9 : Index := 9#32
  let c0_262 : Index := 0#32
  let c0_263 : Index := 0#32
  ![v709.toNat, 9, 0, 0]
def k3_off21 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v752 : Index := Scalar.indexCast v281
  let c1152 : Index := 1152#32
  ![v752.toNat, 1152]
def k3_off22 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v756 : Index := Scalar.indexCast arg14
  let c10 : Index := 10#32
  let c0_275 : Index := 0#32
  let c0_276 : Index := 0#32
  ![v756.toNat, 10, 0, 0]
def k3_off23 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v799 : Index := Scalar.indexCast v281
  let c1280 : Index := 1280#32
  ![v799.toNat, 1280]
def k3_off24 (k3_t1 : Fin k3_t1_loop.trips) : Fin 4 → Nat :=
  let c0_i32_1 : BitVec 32 := 0#32
  let c1_i32 : BitVec 32 := 1#32
  let arg14 : BitVec 32 := Scf.iv c0_i32_1 c1_i32 k3_t1
  let v803 : Index := Scalar.indexCast arg14
  let c11 : Index := 11#32
  let c0_288 : Index := 0#32
  let c0_289 : Index := 0#32
  ![v803.toNat, 11, 0, 0]
def k3_off25 (k3_t1 : Fin k3_t1_loop.trips) : Fin 2 → Nat :=
  let c0_i32_1 : BitVec 32 := 0#32
  let c1_i32 : BitVec 32 := 1#32
  let arg14 : BitVec 32 := Scf.iv c0_i32_1 c1_i32 k3_t1
  let c32_i32_134 : BitVec 32 := 32#32
  let v280 : BitVec 32 := Scalar.muli arg14 c32_i32_134
  let v281 : BitVec 32 := v280
  let v846 : Index := Scalar.indexCast v281
  let c1408 : Index := 1408#32
  ![v846.toNat, 1408]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1280x1536 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S32x12x8x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S32x8x128 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1280x128 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1280x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1280x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S640x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1280x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1280x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![16], ![false]⟩

@[reducible] def k4_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k4_mult1 (k4_t1 : Fin k4_t1_loop.trips) : BitVec 32 :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  v280
def k4_off1 (k4_t1 : Fin k4_t1_loop.trips) : Fin 3 → Nat :=
  let c0_i32_1 : BitVec 32 := 0#32
  let c1_i32 : BitVec 32 := 1#32
  let arg14 : BitVec 32 := Scf.iv c0_i32_1 c1_i32 k4_t1
  let v283 : Index := Scalar.indexCast arg14
  let c0_135 : Index := 0#32
  let c0_136 : Index := 0#32
  ![v283.toNat, 0, 0]
def k4_off2 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v286 : Index := Scalar.indexCast arg14
  let c0_137 : Index := 0#32
  let c0_138 : Index := 0#32
  let c0_139 : Index := 0#32
  ![v286.toNat, 0, 0, 0]
def k4_off3 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v329 : Index := Scalar.indexCast v281
  let c0_147 : Index := 0#32
  ![v329.toNat, 0]
def k4_off4 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v333 : Index := Scalar.indexCast arg14
  let c1 : Index := 1#32
  let c0_148 : Index := 0#32
  let c0_149 : Index := 0#32
  ![v333.toNat, 1, 0, 0]
def k4_off5 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v376 : Index := Scalar.indexCast v281
  let c128_161 : Index := 128#32
  ![v376.toNat, 128]
def k4_off6 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v380 : Index := Scalar.indexCast arg14
  let c2 : Index := 2#32
  let c0_162 : Index := 0#32
  let c0_163 : Index := 0#32
  ![v380.toNat, 2, 0, 0]
def k4_off7 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v423 : Index := Scalar.indexCast v281
  let c256_175 : Index := 256#32
  ![v423.toNat, 256]
def k4_off8 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v427 : Index := Scalar.indexCast arg14
  let c3 : Index := 3#32
  let c0_176 : Index := 0#32
  let c0_177 : Index := 0#32
  ![v427.toNat, 3, 0, 0]
def k4_off9 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v470 : Index := Scalar.indexCast v281
  let c384_190 : Index := 384#32
  ![v470.toNat, 384]
def k4_off10 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v474 : Index := Scalar.indexCast arg14
  let c4 : Index := 4#32
  let c0_191 : Index := 0#32
  let c0_192 : Index := 0#32
  ![v474.toNat, 4, 0, 0]
def k4_off11 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v517 : Index := Scalar.indexCast v281
  let c512_205 : Index := 512#32
  ![v517.toNat, 512]
def k4_off12 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v521 : Index := Scalar.indexCast arg14
  let c5 : Index := 5#32
  let c0_206 : Index := 0#32
  let c0_207 : Index := 0#32
  ![v521.toNat, 5, 0, 0]
def k4_off13 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v564 : Index := Scalar.indexCast v281
  let c640_219 : Index := 640#32
  ![v564.toNat, 640]
def k4_off14 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v568 : Index := Scalar.indexCast arg14
  let c6 : Index := 6#32
  let c0_220 : Index := 0#32
  let c0_221 : Index := 0#32
  ![v568.toNat, 6, 0, 0]
def k4_off15 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v611 : Index := Scalar.indexCast v281
  let c768_233 : Index := 768#32
  ![v611.toNat, 768]
def k4_off16 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v615 : Index := Scalar.indexCast arg14
  let c7 : Index := 7#32
  let c0_234 : Index := 0#32
  let c0_235 : Index := 0#32
  ![v615.toNat, 7, 0, 0]
def k4_off17 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v658 : Index := Scalar.indexCast v281
  let c896_247 : Index := 896#32
  ![v658.toNat, 896]
def k4_off18 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v662 : Index := Scalar.indexCast arg14
  let c8 : Index := 8#32
  let c0_248 : Index := 0#32
  let c0_249 : Index := 0#32
  ![v662.toNat, 8, 0, 0]
def k4_off19 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v705 : Index := Scalar.indexCast v281
  let c1024 : Index := 1024#32
  ![v705.toNat, 1024]
def k4_off20 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v709 : Index := Scalar.indexCast arg14
  let c9 : Index := 9#32
  let c0_262 : Index := 0#32
  let c0_263 : Index := 0#32
  ![v709.toNat, 9, 0, 0]
def k4_off21 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v752 : Index := Scalar.indexCast v281
  let c1152 : Index := 1152#32
  ![v752.toNat, 1152]
def k4_off22 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v756 : Index := Scalar.indexCast arg14
  let c10 : Index := 10#32
  let c0_275 : Index := 0#32
  let c0_276 : Index := 0#32
  ![v756.toNat, 10, 0, 0]
def k4_off23 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v799 : Index := Scalar.indexCast v281
  let c1280 : Index := 1280#32
  ![v799.toNat, 1280]
def k4_off24 (k4_t1 : Fin k4_t1_loop.trips) : Fin 4 → Nat :=
  let c0_i32_1 : BitVec 32 := 0#32
  let c1_i32 : BitVec 32 := 1#32
  let arg14 : BitVec 32 := Scf.iv c0_i32_1 c1_i32 k4_t1
  let v803 : Index := Scalar.indexCast arg14
  let c11 : Index := 11#32
  let c0_288 : Index := 0#32
  let c0_289 : Index := 0#32
  ![v803.toNat, 11, 0, 0]
def k4_off25 (k4_t1 : Fin k4_t1_loop.trips) : Fin 2 → Nat :=
  let c0_i32_1 : BitVec 32 := 0#32
  let c1_i32 : BitVec 32 := 1#32
  let arg14 : BitVec 32 := Scf.iv c0_i32_1 c1_i32 k4_t1
  let c32_i32_134 : BitVec 32 := 32#32
  let v280 : BitVec 32 := Scalar.muli arg14 c32_i32_134
  let v281 : BitVec 32 := v280
  let v846 : Index := Scalar.indexCast v281
  let c1408 : Index := 1408#32
  ![v846.toNat, 1408]
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1280x1536 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S32x12x8x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S32x8x128 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1024 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1280x128 .i32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1280x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1280x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S640x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1280x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1280x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := .none

@[reducible] def k5_t1_loop : Scf.Loop 32 :=
  let c0_i32 : BitVec 32 := 0#32
  let c40_i32 : BitVec 32 := 40#32
  let v0 : BitVec 32 := Scalar.addi c0_i32 c40_i32
  let c1_i32 : BitVec 32 := 1#32
  ⟨c0_i32, v0, c1_i32⟩
def k5_mult1 (k5_t1 : Fin k5_t1_loop.trips) : BitVec 32 :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  v38
def k5_off1 (k5_t1 : Fin k5_t1_loop.trips) : Fin 3 → Nat :=
  let c0_i32 : BitVec 32 := 0#32
  let c1_i32 : BitVec 32 := 1#32
  let arg9 : BitVec 32 := Scf.iv c0_i32 c1_i32 k5_t1
  let v41 : Index := Scalar.indexCast arg9
  let c0_18 : Index := 0#32
  let c0_19 : Index := 0#32
  ![v41.toNat, 0, 0]
def k5_off2 (k5_t1 : Fin k5_t1_loop.trips) : Fin 4 → Nat :=
  let c0_i32 : BitVec 32 := 0#32
  let c1_i32 : BitVec 32 := 1#32
  let arg9 : BitVec 32 := Scf.iv c0_i32 c1_i32 k5_t1
  let v44 : Index := Scalar.indexCast arg9
  let c0_20 : Index := 0#32
  let c0_21 : Index := 0#32
  let c0_22 : Index := 0#32
  ![v44.toNat, 0, 0, 0]
def k5_off3 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v87 : Index := Scalar.indexCast v39
  let c0_30 : Index := 0#32
  ![v87.toNat, 0]
def k5_off4 (k5_t1 : Fin k5_t1_loop.trips) : Fin 4 → Nat :=
  let c0_i32 : BitVec 32 := 0#32
  let c1_i32 : BitVec 32 := 1#32
  let arg9 : BitVec 32 := Scf.iv c0_i32 c1_i32 k5_t1
  let v91 : Index := Scalar.indexCast arg9
  let c1 : Index := 1#32
  let c0_31 : Index := 0#32
  let c0_32 : Index := 0#32
  ![v91.toNat, 1, 0, 0]
def k5_off5 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v134 : Index := Scalar.indexCast v39
  let c128 : Index := 128#32
  ![v134.toNat, 128]
def k5_off6 (k5_t1 : Fin k5_t1_loop.trips) : Fin 4 → Nat :=
  let c0_i32 : BitVec 32 := 0#32
  let c1_i32 : BitVec 32 := 1#32
  let arg9 : BitVec 32 := Scf.iv c0_i32 c1_i32 k5_t1
  let v138 : Index := Scalar.indexCast arg9
  let c2 : Index := 2#32
  let c0_44 : Index := 0#32
  let c0_45 : Index := 0#32
  ![v138.toNat, 2, 0, 0]
def k5_off7 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v181 : Index := Scalar.indexCast v39
  let c256 : Index := 256#32
  ![v181.toNat, 256]
def k5_off8 (k5_t1 : Fin k5_t1_loop.trips) : Fin 4 → Nat :=
  let c0_i32 : BitVec 32 := 0#32
  let c1_i32 : BitVec 32 := 1#32
  let arg9 : BitVec 32 := Scf.iv c0_i32 c1_i32 k5_t1
  let v185 : Index := Scalar.indexCast arg9
  let c3 : Index := 3#32
  let c0_57 : Index := 0#32
  let c0_58 : Index := 0#32
  ![v185.toNat, 3, 0, 0]
def k5_off9 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v228 : Index := Scalar.indexCast v39
  let c384 : Index := 384#32
  ![v228.toNat, 384]
def k5_off10 (k5_t1 : Fin k5_t1_loop.trips) : Fin 4 → Nat :=
  let c0_i32 : BitVec 32 := 0#32
  let c1_i32 : BitVec 32 := 1#32
  let arg9 : BitVec 32 := Scf.iv c0_i32 c1_i32 k5_t1
  let v232 : Index := Scalar.indexCast arg9
  let c4 : Index := 4#32
  let c0_71 : Index := 0#32
  let c0_72 : Index := 0#32
  ![v232.toNat, 4, 0, 0]
def k5_off11 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v275 : Index := Scalar.indexCast v39
  let c512 : Index := 512#32
  ![v275.toNat, 512]
def k5_off12 (k5_t1 : Fin k5_t1_loop.trips) : Fin 4 → Nat :=
  let c0_i32 : BitVec 32 := 0#32
  let c1_i32 : BitVec 32 := 1#32
  let arg9 : BitVec 32 := Scf.iv c0_i32 c1_i32 k5_t1
  let v279 : Index := Scalar.indexCast arg9
  let c5 : Index := 5#32
  let c0_85 : Index := 0#32
  let c0_86 : Index := 0#32
  ![v279.toNat, 5, 0, 0]
def k5_off13 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v322 : Index := Scalar.indexCast v39
  let c640 : Index := 640#32
  ![v322.toNat, 640]
def k5_off14 (k5_t1 : Fin k5_t1_loop.trips) : Fin 4 → Nat :=
  let c0_i32 : BitVec 32 := 0#32
  let c1_i32 : BitVec 32 := 1#32
  let arg9 : BitVec 32 := Scf.iv c0_i32 c1_i32 k5_t1
  let v326 : Index := Scalar.indexCast arg9
  let c6 : Index := 6#32
  let c0_98 : Index := 0#32
  let c0_99 : Index := 0#32
  ![v326.toNat, 6, 0, 0]
def k5_off15 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v369 : Index := Scalar.indexCast v39
  let c768 : Index := 768#32
  ![v369.toNat, 768]
def k5_off16 (k5_t1 : Fin k5_t1_loop.trips) : Fin 4 → Nat :=
  let c0_i32 : BitVec 32 := 0#32
  let c1_i32 : BitVec 32 := 1#32
  let arg9 : BitVec 32 := Scf.iv c0_i32 c1_i32 k5_t1
  let v373 : Index := Scalar.indexCast arg9
  let c7 : Index := 7#32
  let c0_111 : Index := 0#32
  let c0_112 : Index := 0#32
  ![v373.toNat, 7, 0, 0]
def k5_off17 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v416 : Index := Scalar.indexCast v39
  let c896 : Index := 896#32
  ![v416.toNat, 896]
def k5_off18 (k5_t1 : Fin k5_t1_loop.trips) : Fin 4 → Nat :=
  let c0_i32 : BitVec 32 := 0#32
  let c1_i32 : BitVec 32 := 1#32
  let arg9 : BitVec 32 := Scf.iv c0_i32 c1_i32 k5_t1
  let v420 : Index := Scalar.indexCast arg9
  let c8 : Index := 8#32
  let c0_124 : Index := 0#32
  let c0_125 : Index := 0#32
  ![v420.toNat, 8, 0, 0]
def k5_off19 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v463 : Index := Scalar.indexCast v39
  let c1024 : Index := 1024#32
  ![v463.toNat, 1024]
def k5_off20 (k5_t1 : Fin k5_t1_loop.trips) : Fin 4 → Nat :=
  let c0_i32 : BitVec 32 := 0#32
  let c1_i32 : BitVec 32 := 1#32
  let arg9 : BitVec 32 := Scf.iv c0_i32 c1_i32 k5_t1
  let v467 : Index := Scalar.indexCast arg9
  let c9 : Index := 9#32
  let c0_138 : Index := 0#32
  let c0_139 : Index := 0#32
  ![v467.toNat, 9, 0, 0]
def k5_off21 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v510 : Index := Scalar.indexCast v39
  let c1152 : Index := 1152#32
  ![v510.toNat, 1152]
def k5_off22 (k5_t1 : Fin k5_t1_loop.trips) : Fin 4 → Nat :=
  let c0_i32 : BitVec 32 := 0#32
  let c1_i32 : BitVec 32 := 1#32
  let arg9 : BitVec 32 := Scf.iv c0_i32 c1_i32 k5_t1
  let v514 : Index := Scalar.indexCast arg9
  let c10 : Index := 10#32
  let c0_151 : Index := 0#32
  let c0_152 : Index := 0#32
  ![v514.toNat, 10, 0, 0]
def k5_off23 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v557 : Index := Scalar.indexCast v39
  let c1280 : Index := 1280#32
  ![v557.toNat, 1280]
def k5_off24 (k5_t1 : Fin k5_t1_loop.trips) : Fin 4 → Nat :=
  let c0_i32 : BitVec 32 := 0#32
  let c1_i32 : BitVec 32 := 1#32
  let arg9 : BitVec 32 := Scf.iv c0_i32 c1_i32 k5_t1
  let v561 : Index := Scalar.indexCast arg9
  let c11 : Index := 11#32
  let c0_164 : Index := 0#32
  let c0_165 : Index := 0#32
  ![v561.toNat, 11, 0, 0]
def k5_off25 (k5_t1 : Fin k5_t1_loop.trips) : Fin 2 → Nat :=
  let c0_i32 : BitVec 32 := 0#32
  let c1_i32 : BitVec 32 := 1#32
  let arg9 : BitVec 32 := Scf.iv c0_i32 c1_i32 k5_t1
  let c32_i32 : BitVec 32 := 32#32
  let v38 : BitVec 32 := Scalar.muli arg9 c32_i32
  let v39 : BitVec 32 := v38
  let v604 : Index := Scalar.indexCast v39
  let c1408 : Index := 1408#32
  ![v604.toNat, 1408]
abbrev stage5_0 : Fin 1 → Memref sig .tc .vmem S1280x1536 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S40x12x8x128 .i32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S40x8x128 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1280x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1280x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1280x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1280x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S1280x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
-- ==== ReferenceIdeal.lean ====
abbrev S2x640x1536 : Shape := ⟨3, ![2, 640, 1536]⟩
abbrev S2x640 : Shape := ⟨2, ![2, 640]⟩
abbrev S128x12x8x128 : Shape := ⟨4, ![128, 12, 8, 128]⟩
abbrev S384x12x8x128 : Shape := ⟨4, ![384, 12, 8, 128]⟩
abbrev S512x12x8x128 : Shape := ⟨4, ![512, 12, 8, 128]⟩
abbrev S40x12x8x128 : Shape := ⟨4, ![40, 12, 8, 128]⟩
abbrev S128x8x128 : Shape := ⟨3, ![128, 8, 128]⟩
abbrev S384x8x128 : Shape := ⟨3, ![384, 8, 128]⟩
abbrev S512x8x128 : Shape := ⟨3, ![512, 8, 128]⟩
abbrev S40x8x128 : Shape := ⟨3, ![40, 8, 128]⟩
abbrev S65536 : Shape := ⟨1, ![65536]⟩
abbrev S1280x1536 : Shape := ⟨2, ![1280, 1536]⟩
abbrev S1280 : Shape := ⟨1, ![1280]⟩
abbrev S2088x12x8x128 : Shape := ⟨4, ![2088, 12, 8, 128]⟩
abbrev S2088x8x128 : Shape := ⟨3, ![2088, 8, 128]⟩
abbrev S_ : Shape := ⟨0, ![]⟩
abbrev S1x2088x12x8x128 : Shape := ⟨5, ![1, 2088, 12, 8, 128]⟩
abbrev S4x2088x12x8x128 : Shape := ⟨5, ![4, 2088, 12, 8, 128]⟩
abbrev S2088x8x4x12x128 : Shape := ⟨5, ![2088, 8, 4, 12, 128]⟩
abbrev S66816x24x64 : Shape := ⟨3, ![66816, 24, 64]⟩
abbrev S2088x8x1x128 : Shape := ⟨4, ![2088, 8, 1, 128]⟩
abbrev S2088x8x2x128 : Shape := ⟨4, ![2088, 8, 2, 128]⟩
abbrev S2088x16x2x64 : Shape := ⟨4, ![2088, 16, 2, 64]⟩
abbrev S2088x2x16x64 : Shape := ⟨4, ![2088, 2, 16, 64]⟩
abbrev S66816x64 : Shape := ⟨2, ![66816, 64]⟩
abbrev S66816x8 : Shape := ⟨2, ![66816, 8]⟩
abbrev S66816x24 : Shape := ⟨2, ![66816, 24]⟩
abbrev S66816x24x1 : Shape := ⟨3, ![66816, 24, 1]⟩
abbrev S66816x1536 : Shape := ⟨2, ![66816, 1536]⟩
abbrev S65536x1536 : Shape := ⟨2, ![65536, 1536]⟩
abbrev S1280x65536 : Shape := ⟨2, ![1280, 65536]⟩
abbrev S1x65536 : Shape := ⟨2, ![1, 65536]⟩
abbrev S1280x1 : Shape := ⟨2, ![1280, 1]⟩
abbrev S640x65536 : Shape := ⟨2, ![640, 65536]⟩

abbrev nBuf : Space → Nat
  | .hbm => 120
  | .vmem => 0
  | .smem => 0
  | _ => 0

abbrev bufTy : (tb : Table) → Fin (tcTables nBuf tb) → BufTy
  | .hbm, ⟨0, _⟩ => ⟨S2x640x1536, .bf16⟩
  | .hbm, ⟨1, _⟩ => ⟨S2x640, .i32⟩
  | .hbm, ⟨2, _⟩ => ⟨S128x12x8x128, .i32⟩
  | .hbm, ⟨3, _⟩ => ⟨S384x12x8x128, .i32⟩
  | .hbm, ⟨4, _⟩ => ⟨S512x12x8x128, .i32⟩
  | .hbm, ⟨5, _⟩ => ⟨S512x12x8x128, .i32⟩
  | .hbm, ⟨6, _⟩ => ⟨S512x12x8x128, .i32⟩
  | .hbm, ⟨7, _⟩ => ⟨S40x12x8x128, .i32⟩
  | .hbm, ⟨8, _⟩ => ⟨S128x8x128, .i32⟩
  | .hbm, ⟨9, _⟩ => ⟨S384x8x128, .i32⟩
  | .hbm, ⟨10, _⟩ => ⟨S512x8x128, .i32⟩
  | .hbm, ⟨11, _⟩ => ⟨S512x8x128, .i32⟩
  | .hbm, ⟨12, _⟩ => ⟨S512x8x128, .i32⟩
  | .hbm, ⟨13, _⟩ => ⟨S40x8x128, .i32⟩
  | .hbm, ⟨14, _⟩ => ⟨S65536, .i32⟩
  | .hbm, ⟨15, _⟩ => ⟨S65536, .f32⟩
  | .hbm, ⟨16, _⟩ => ⟨S2x640, .f32⟩
  | .hbm, ⟨17, _⟩ => ⟨S1280x1536, .bf16⟩
  | .hbm, ⟨18, _⟩ => ⟨S1280, .i32⟩
  | .hbm, ⟨19, _⟩ => ⟨S1280, .f32⟩
  | .hbm, ⟨20, _⟩ => ⟨S2088x12x8x128, .i32⟩
  | .hbm, ⟨21, _⟩ => ⟨S2088x8x128, .i32⟩
  | .hbm, ⟨22, _⟩ => ⟨S_, .i32⟩
  | .hbm, ⟨23, _⟩ => ⟨S2088x12x8x128, .i32⟩
  | .hbm, ⟨24, _⟩ => ⟨S2088x12x8x128, .i32⟩
  | .hbm, ⟨25, _⟩ => ⟨S_, .i32⟩
  | .hbm, ⟨26, _⟩ => ⟨S2088x12x8x128, .i32⟩
  | .hbm, ⟨27, _⟩ => ⟨S2088x12x8x128, .i32⟩
  | .hbm, ⟨28, _⟩ => ⟨S_, .i32⟩
  | .hbm, ⟨29, _⟩ => ⟨S2088x12x8x128, .i32⟩
  | .hbm, ⟨30, _⟩ => ⟨S2088x12x8x128, .i32⟩
  | .hbm, ⟨31, _⟩ => ⟨S_, .i32⟩
  | .hbm, ⟨32, _⟩ => ⟨S2088x12x8x128, .i32⟩
  | .hbm, ⟨33, _⟩ => ⟨S2088x12x8x128, .i32⟩
  | .hbm, ⟨34, _⟩ => ⟨S_, .i32⟩
  | .hbm, ⟨35, _⟩ => ⟨S2088x12x8x128, .i32⟩
  | .hbm, ⟨36, _⟩ => ⟨S2088x12x8x128, .i32⟩
  | .hbm, ⟨37, _⟩ => ⟨S_, .i32⟩
  | .hbm, ⟨38, _⟩ => ⟨S2088x12x8x128, .i32⟩
  | .hbm, ⟨39, _⟩ => ⟨S2088x12x8x128, .i32⟩
  | .hbm, ⟨40, _⟩ => ⟨S_, .i32⟩
  | .hbm, ⟨41, _⟩ => ⟨S2088x12x8x128, .i32⟩
  | .hbm, ⟨42, _⟩ => ⟨S2088x12x8x128, .i32⟩
  | .hbm, ⟨43, _⟩ => ⟨S_, .i32⟩
  | .hbm, ⟨44, _⟩ => ⟨S2088x12x8x128, .i32⟩
  | .hbm, ⟨45, _⟩ => ⟨S2088x12x8x128, .i32⟩
  | .hbm, ⟨46, _⟩ => ⟨S1x2088x12x8x128, .i32⟩
  | .hbm, ⟨47, _⟩ => ⟨S1x2088x12x8x128, .i32⟩
  | .hbm, ⟨48, _⟩ => ⟨S1x2088x12x8x128, .i32⟩
  | .hbm, ⟨49, _⟩ => ⟨S1x2088x12x8x128, .i32⟩
  | .hbm, ⟨50, _⟩ => ⟨S4x2088x12x8x128, .i32⟩
  | .hbm, ⟨51, _⟩ => ⟨S2088x8x4x12x128, .i32⟩
  | .hbm, ⟨52, _⟩ => ⟨S66816x24x64, .i32⟩
  | .hbm, ⟨53, _⟩ => ⟨S66816x24x64, .f32⟩
  | .hbm, ⟨54, _⟩ => ⟨S66816x24x64, .bf16⟩
  | .hbm, ⟨55, _⟩ => ⟨S_, .i32⟩
  | .hbm, ⟨56, _⟩ => ⟨S2088x8x128, .i32⟩
  | .hbm, ⟨57, _⟩ => ⟨S2088x8x128, .i32⟩
  | .hbm, ⟨58, _⟩ => ⟨S_, .i32⟩
  | .hbm, ⟨59, _⟩ => ⟨S2088x8x128, .i32⟩
  | .hbm, ⟨60, _⟩ => ⟨S2088x8x128, .i32⟩
  | .hbm, ⟨61, _⟩ => ⟨S2088x8x1x128, .i32⟩
  | .hbm, ⟨62, _⟩ => ⟨S2088x8x1x128, .i32⟩
  | .hbm, ⟨63, _⟩ => ⟨S2088x8x2x128, .i32⟩
  | .hbm, ⟨64, _⟩ => ⟨S2088x8x2x128, .f32⟩
  | .hbm, ⟨65, _⟩ => ⟨S2088x8x2x128, .bf16⟩
  | .hbm, ⟨66, _⟩ => ⟨S2088x16x2x64, .bf16⟩
  | .hbm, ⟨67, _⟩ => ⟨S2088x2x16x64, .bf16⟩
  | .hbm, ⟨68, _⟩ => ⟨S66816x64, .bf16⟩
  | .hbm, ⟨69, _⟩ => ⟨S66816x8, .bf16⟩
  | .hbm, ⟨70, _⟩ => ⟨S66816x8, .bf16⟩
  | .hbm, ⟨71, _⟩ => ⟨S66816x8, .bf16⟩
  | .hbm, ⟨72, _⟩ => ⟨S66816x24, .bf16⟩
  | .hbm, ⟨73, _⟩ => ⟨S66816x24x1, .bf16⟩
  | .hbm, ⟨74, _⟩ => ⟨S66816x24x64, .bf16⟩
  | .hbm, ⟨75, _⟩ => ⟨S66816x24x64, .bf16⟩
  | .hbm, ⟨76, _⟩ => ⟨S66816x1536, .bf16⟩
  | .hbm, ⟨77, _⟩ => ⟨S65536x1536, .bf16⟩
  | .hbm, ⟨78, _⟩ => ⟨S1280x1536, .bf16⟩
  | .hbm, ⟨79, _⟩ => ⟨S1280x65536, .f32⟩
  | .hbm, ⟨80, _⟩ => ⟨S1x65536, .f32⟩
  | .hbm, ⟨81, _⟩ => ⟨S1280x65536, .f32⟩
  | .hbm, ⟨82, _⟩ => ⟨S1280x65536, .f32⟩
  | .hbm, ⟨83, _⟩ => ⟨S1280x1, .i32⟩
  | .hbm, ⟨84, _⟩ => ⟨S1x65536, .i32⟩
  | .hbm, ⟨85, _⟩ => ⟨S1280x65536, .i32⟩
  | .hbm, ⟨86, _⟩ => ⟨S1280x65536, .i32⟩
  | .hbm, ⟨87, _⟩ => ⟨S1280x65536, .i1⟩
  | .hbm, ⟨88, _⟩ => ⟨S_, .f32⟩
  | .hbm, ⟨89, _⟩ => ⟨S_, .f32⟩
  | .hbm, ⟨90, _⟩ => ⟨S1280x65536, .f32⟩
  | .hbm, ⟨91, _⟩ => ⟨S1280x65536, .f32⟩
  | .hbm, ⟨92, _⟩ => ⟨S_, .f32⟩
  | .hbm, ⟨93, _⟩ => ⟨S1280, .f32⟩
  | .hbm, ⟨94, _⟩ => ⟨S1280x1, .f32⟩
  | .hbm, ⟨95, _⟩ => ⟨S1280x65536, .f32⟩
  | .hbm, ⟨96, _⟩ => ⟨S1280x65536, .f32⟩
  | .hbm, ⟨97, _⟩ => ⟨S1280x65536, .f32⟩
  | .hbm, ⟨98, _⟩ => ⟨S_, .f32⟩
  | .hbm, ⟨99, _⟩ => ⟨S1280, .f32⟩
  | .hbm, ⟨100, _⟩ => ⟨S640x65536, .i1⟩
  | .hbm, ⟨101, _⟩ => ⟨S640x65536, .f32⟩
  | .hbm, ⟨102, _⟩ => ⟨S_, .f32⟩
  | .hbm, ⟨103, _⟩ => ⟨S_, .f32⟩
  | .hbm, ⟨104, _⟩ => ⟨S640x65536, .f32⟩
  | .hbm, ⟨105, _⟩ => ⟨S640x65536, .f32⟩
  | .hbm, ⟨106, _⟩ => ⟨S1280, .f32⟩
  | .hbm, ⟨107, _⟩ => ⟨S1280, .f32⟩
  | .hbm, ⟨108, _⟩ => ⟨S1280, .f32⟩
  | .hbm, ⟨109, _⟩ => ⟨S1280, .f32⟩
  | .hbm, ⟨110, _⟩ => ⟨S1280, .f32⟩
  | .hbm, ⟨111, _⟩ => ⟨S1280, .f32⟩
  | .hbm, ⟨112, _⟩ => ⟨S1280, .f32⟩
  | .hbm, ⟨113, _⟩ => ⟨S1280, .f32⟩
  | .hbm, ⟨114, _⟩ => ⟨S1280, .f32⟩
  | .hbm, ⟨115, _⟩ => ⟨S1280, .f32⟩
  | .hbm, ⟨116, _⟩ => ⟨S1280, .f32⟩
  | .hbm, ⟨117, _⟩ => ⟨S1280, .f32⟩
  | .hbm, ⟨118, _⟩ => ⟨S1280x1, .f32⟩
  | .hbm, ⟨119, _⟩ => ⟨S1280x1, .f32⟩
  | _, _ => ⟨S2x640x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst : Ref sig .tc := ⟨.hbm, 88, rfl⟩
abbrev main_call0_v0 : Ref sig .tc := ⟨.hbm, 89, rfl⟩
abbrev main_call0_v1 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_call1_v0 : Ref sig .tc := ⟨.hbm, 103, rfl⟩
abbrev main_call1_v1 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Proof.Run.lean ====
/- The launch, with what its results hold at the end: the frame's argument, keeping the results' arrays. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every execution ends with the results holding the last boundary's contents and the arguments as launched. -/
theorem run : θ_run defs (onTc (τ := τ) (main (F := F))) ⟨m, fun _ => 0, ρ⟩ (fun r => ∀ c : Dev nD,
      r.2.mem ((c.tc : Thread nD τ).loc main_v32_0) = W12 m ρ c (Proc.devRef .tc main_v32_0)
      ∧ r.2.mem ((c.tc : Thread nD τ).loc main_v32_1) = W12 m ρ c (Proc.devRef .tc main_v32_1)
      ∧ r.2.mem ((c.tc : Thread nD τ).loc main_v30_0) = W12 m ρ c (Proc.devRef .tc main_v30_0)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨h c _ (mem_uc main_v32_0 (by decide)), h c _ (mem_uc main_v32_1 (by decide)), h c _ (mem_uc main_v30_0 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.Gen

end
-- ==== Proof.Dequant.lean ====
/- The dequantisation of one block of thirty-two table rows by one hundred and twenty-eight columns, read at an index. -/
module

public import proofs.«01_k».proof.Proof.Gen.KernelIdeal.Skeleton
public import Idealize.ShloMosaic.Lib.BitcastPair
public import Idealize.ShloMosaic.Lib.Pointwise
public import Idealize.ShloMosaic.Lib.ValueIdx
public import Idealize.ShloMosaic.PureOps.Ideal.Laws

@[expose] public section

noncomputable section

namespace Cert.Proof.Dequant

open Idealize.ShloMosaic Cert.KernelIdeal Cert.KernelIdeal.Gen

/-- The signed code in byte `b` of a word, times the bfloat16 scale in half `h` of a word: one element of the table. -/
def elt (wd : BitVec 32) (b : ℕ) (pr : BitVec 32) (h : ℕ) : EReal :=
  (((wd.extractLsb' (8 * b) 8).toInt : ℝ) : EReal) * Ideal.ieee 8 7 (pr.extractLsb' (16 * h) 16)

/-- The lane, in its half of a word row, at which the scales of group `g` lie. -/
def glane (g : ℕ) : ℕ := if g < 8 then g else if g < 16 then g + 8 else g - 8

theorem glane_lt (g : ℕ) (h : g < 24) : glane g < 24 := by
  unfold glane; split <;> [omega; split <;> omega]

/-- The lane of a group as the kernel's vector code computes it, at every lane of the block. -/
def laneV (g : BitVec 32) : IVec S8x128 32 :=
  let n := addi (broadcast S8x128 g) (shrsi (iota .tc S8x128 32 [1] iota_S8x128_d1_w32) (broadcast S8x128 6#32))
  select (cmpi .slt n (broadcast S8x128 8#32)) n
    (select (cmpi .slt n (broadcast S8x128 16#32)) (addi n (broadcast S8x128 8#32)) (subi n (broadcast S8x128 8#32)))

/-- One half of the scales of a block: gathered along the lanes at offset `o`, then split into bfloat16 rows. -/
def halfV (g o : BitVec 32) (pr : IVec S8x128 32) : FVec Ideal S16x128 .bf16 :=
  let n := addi (laneV g) (broadcast S8x128 o)
  bitcastToFloat .bf16 (bitcast S16x128 16 (dynamicGather 1 pr
    (shapeCast S8x128 (shapeCast S8x128x1 (select (cmpi .slt n (broadcast S8x128 0#32)) (addi n (broadcast S8x128 128#32)) n)
      shapeCasts_S8x128_S8x128x1) shapeCasts_S8x128x1_S8x128)) bitcasts_S8x128_w32_S16x128_w16)

/-- One dequantised block, as the kernel's vector code computes it. -/
def blkV (g : BitVec 32) (pr wd : IVec S8x128 32) : FVec Ideal S32x128 .bf16 :=
  mulf (sitofp .bf16 (bitcast S32x128 8 wd bitcasts_S8x128_w32_S32x128_w8))
    (concatenate S32x128 0 [⟨S16x128, halfV g 0#32 pr⟩, ⟨S16x128, halfV g 64#32 pr⟩] concatenates_S16x128_S16x128_S32x128_d0)

/-- Words read at eight bits: row `r` of a column is byte `r % 4` of word row `r / 4`. -/
theorem bitcast_32_8 (x : IVec S8x128 32) (h : S8x128.Bitcasts 32 S32x128 8) (r : Fin 32) (l : Fin 128) :
    bitcast S32x128 8 x h (ix2 r l) = (x (ix2 ⟨r.val / 4, by omega⟩ l)).extractLsb' (8 * (r.val % 4)) 8 := by
  apply BitVec.eq_of_getLsbD_eq
  intro i hi
  rw [bitcast_getLsbD x h _ i hi (by decide), BitVec.getLsbD_extractLsb']
  have er : S32x128.row (ix2 r l) = r.val := rfl
  have ep : (S32x128.row (ix2 r l) * 8 + i) / 32 = r.val / 4 := by rw [er]; omega
  have eq : (S32x128.row (ix2 r l) * 8 + i) % 32 = 8 * (r.val % 4) + i := by rw [er]; omega
  rw [h.srcIdx_congr _ ep _ (fun a ha => by have := h.pos_lt (ix2 r l) 0 (by decide) a ha; rw [er] at this; omega), eq]
  have e2 : h.srcIdx (ix2 r l) (r.val / 4) (fun a ha => by have := h.pos_lt (ix2 r l) 0 (by decide) a ha; rw [er] at this; omega)
      = ix2 ⟨r.val / 4, by omega⟩ l := by
    funext a; match a with | ⟨0, _⟩ => rfl | ⟨1, _⟩ => rfl
  rw [e2]; simp [hi]

/-- Words read at sixteen bits: row `r` of a column is half `r % 2` of word row `r / 2`. -/
theorem bitcast_32_16_ix (x : IVec S8x128 32) (h : S8x128.Bitcasts 32 S16x128 16) (r : Fin 16) (l : Fin 128) :
    bitcast S16x128 16 x h (ix2 r l) = (x (ix2 ⟨r.val / 2, by omega⟩ l)).extractLsb' (16 * (r.val % 2)) 16 := by
  rw [bitcast_32_16]
  congr 2
  funext a
  match a with
  | ⟨0, _⟩ => rfl
  | ⟨1, _⟩ => rfl

/-- The gathered lane, as a number. -/
def laneW (g o : BitVec 32) (l : ℕ) : BitVec 32 :=
  let n := IntOp.addi g (IntOp.shrsi .vector (BitVec.ofNat 32 l) 6#32)
  let m := IntOp.addi (Scalar.select (IntOp.cmpi .slt n 8#32) n
    (Scalar.select (IntOp.cmpi .slt n 16#32) (IntOp.addi n 8#32) (IntOp.subi n 8#32))) o
  Scalar.select (IntOp.cmpi .slt m 0#32) (IntOp.addi m 128#32) m

theorem laneW_lo : ∀ c : Fin 12, ∀ l : Fin 128,
    (laneW (BitVec.ofNat 32 (2 * c.val)) 0#32 l.val).toNat % 128 = glane (2 * c.val + l.val / 64) := by decide +kernel

theorem laneW_hi : ∀ c : Fin 12, ∀ l : Fin 128,
    (laneW (BitVec.ofNat 32 (2 * c.val)) 64#32 l.val).toNat % 128 = glane (2 * c.val + l.val / 64) + 64 := by decide +kernel

theorem gather_ix (g o : BitVec 32) (pr : IVec S8x128 32) (r : Fin 8) (l p : Fin 128)
    (hp : (laneW g o l.val).toNat % 128 = p.val) :
    dynamicGather 1 pr (shapeCast S8x128 (shapeCast S8x128x1
      (select (cmpi .slt (addi (laneV g) (broadcast S8x128 o)) (broadcast S8x128 0#32))
        (addi (addi (laneV g) (broadcast S8x128 o)) (broadcast S8x128 128#32)) (addi (laneV g) (broadcast S8x128 o)))
      shapeCasts_S8x128_S8x128x1) shapeCasts_S8x128x1_S8x128) (ix2 r l)
      = pr (ix2 r p) := by
  have hsc (x : IVec S8x128 32) : shapeCast S8x128 (shapeCast S8x128x1 x shapeCasts_S8x128_S8x128x1) shapeCasts_S8x128x1_S8x128 = x := by
    rw [shapeCast_shapeCast]
  rw [hsc]
  unfold dynamicGather
  congr 1
  funext a
  match a with
  | ⟨0, _⟩ => rfl
  | ⟨1, _⟩ =>
    apply Fin.ext
    refine Eq.trans ?_ hp
    have e : iota .tc S8x128 32 [1] iota_S8x128_d1_w32 (ix2 r l) = BitVec.ofNat 32 l.val := by
      rw [iota_apply]; congr 1; show 0 * 128 + l.val = l.val; omega
    unfold laneW
    rw [← e]; rfl

theorem halfV_lo (c : Fin 12) (pr : IVec S8x128 32) (r : Fin 16) (l : Fin 128) :
    halfV (BitVec.ofNat 32 (2 * c.val)) 0#32 pr (ix2 r l)
      = Ideal.ieee 8 7 ((pr (ix2 ⟨r.val / 2, by omega⟩ ⟨glane (2 * c.val + l.val / 64), by
          have := glane_lt (2 * c.val + l.val / 64) (by omega); omega⟩)).extractLsb' (16 * (r.val % 2)) 16) := by
  show Ideal.ieee 8 7 (bitcast S16x128 16 _ _ (ix2 r l)) = _
  rw [bitcast_32_16_ix, gather_ix _ _ _ _ l ⟨glane (2 * c.val + l.val / 64), by
    have := glane_lt (2 * c.val + l.val / 64) (by omega); omega⟩ (laneW_lo c l)]

theorem halfV_hi (c : Fin 12) (pr : IVec S8x128 32) (r : Fin 16) (l : Fin 128) :
    halfV (BitVec.ofNat 32 (2 * c.val)) 64#32 pr (ix2 r l)
      = Ideal.ieee 8 7 ((pr (ix2 ⟨r.val / 2, by omega⟩ ⟨glane (2 * c.val + l.val / 64) + 64, by
          have := glane_lt (2 * c.val + l.val / 64) (by omega); omega⟩)).extractLsb' (16 * (r.val % 2)) 16) := by
  show Ideal.ieee 8 7 (bitcast S16x128 16 _ _ (ix2 r l)) = _
  rw [bitcast_32_16_ix, gather_ix _ _ _ _ l ⟨glane (2 * c.val + l.val / 64) + 64, by
    have := glane_lt (2 * c.val + l.val / 64) (by omega); omega⟩ (laneW_hi c l)]

/-- The element of a dequantised block at row `r` and lane `l` of column block `c`. -/
theorem blkV_ix (c : Fin 12) (pr wd : IVec S8x128 32) (r : Fin 32) (l : Fin 128) :
    blkV (BitVec.ofNat 32 (2 * c.val)) pr wd (ix2 r l)
      = elt (wd (ix2 ⟨r.val / 4, by omega⟩ l)) (r.val % 4)
          (pr (ix2 ⟨r.val % 16 / 2, by omega⟩ ⟨glane (2 * c.val + l.val / 64) + 64 * (r.val / 16), by
            have := glane_lt (2 * c.val + l.val / 64) (by omega); omega⟩)) (r.val % 2) := by
  unfold blkV elt
  show ((((bitcast S32x128 8 wd _ (ix2 r l)).toInt : ℝ) : EReal)) * _ = _
  rw [bitcast_32_8]
  congr 1
  by_cases h : r.val < 16
  · rw [concatenate_pair_apply_left (s₁ := S16x128) (s₂ := S16x128) 0 _ _ _ (ix2 r l) rfl (ix2 ⟨r.val, h⟩ l) (fun b => by match b with | ⟨0, _⟩ => rfl | ⟨1, _⟩ => rfl),
      halfV_lo]
    congr 4
    · exact Fin.ext (show r.val / 2 = r.val % 16 / 2 by omega)
    · exact Fin.ext (show glane _ = glane _ + 64 * (r.val / 16) by omega)
  · rw [concatenate_pair_apply_right (s₁ := S16x128) (s₂ := S16x128) 0 _ _ _ (ix2 r l) rfl rfl (ix2 ⟨r.val - 16, by omega⟩ l)
      (fun b hb => by match b with | ⟨0, _⟩ => exact absurd rfl hb | ⟨1, _⟩ => rfl)
      (by show r.val - 16 + 16 = r.val; omega), halfV_hi]
    have e2 : (r.val - 16) % 2 = r.val % 2 := by omega
    show Ideal.ieee 8 7 (BitVec.extractLsb' (16 * ((r.val - 16) % 2)) 16 _) = _
    rw [e2]
    congr 4
    · exact Fin.ext (show (r.val - 16) / 2 = r.val % 16 / 2 by omega)
    · exact Fin.ext (show glane _ + 64 = glane _ + 64 * (r.val / 16) by omega)

/-- A bfloat16 bit pattern followed by sixteen zero bits is the float32 pattern of the same number. -/
theorem ieee_widen (h : BitVec 16) (w : BitVec 32) (hw : w.extractLsb' 16 16 = h) (hz : w.extractLsb' 0 16 = 0#16) :
    Ideal.ieee 8 23 w = Ideal.ieee 8 7 h := by
  have hh : h.toNat = w.toNat / 65536 % 65536 := by
    rw [← hw, BitVec.extractLsb'_toNat, Nat.shiftRight_eq_div_pow]
  have h0 : w.toNat % 65536 = 0 := by
    have := congrArg BitVec.toNat hz
    rw [BitVec.extractLsb'_toNat, Nat.shiftRight_eq_div_pow] at this
    simpa using this
  have hwl := w.isLt
  have e1 : (w.extractLsb' (8 + 23) 1 == 1#1) = (h.extractLsb' (8 + 7) 1 == 1#1) := by
    have : w.extractLsb' (8 + 23) 1 = h.extractLsb' (8 + 7) 1 := by
      apply BitVec.eq_of_toNat_eq
      rw [BitVec.extractLsb'_toNat, BitVec.extractLsb'_toNat, Nat.shiftRight_eq_div_pow, Nat.shiftRight_eq_div_pow, hh]
      norm_num
      omega
    rw [this]
  have e2 : (w.extractLsb' 23 8).toNat = (h.extractLsb' 7 8).toNat := by
    rw [BitVec.extractLsb'_toNat, BitVec.extractLsb'_toNat, Nat.shiftRight_eq_div_pow, Nat.shiftRight_eq_div_pow, hh]
    norm_num
    omega
  have e3 : (w.extractLsb' 0 23).toNat = (h.extractLsb' 0 7).toNat * 65536 := by
    rw [BitVec.extractLsb'_toNat, BitVec.extractLsb'_toNat, Nat.shiftRight_eq_div_pow, Nat.shiftRight_eq_div_pow, hh]
    norm_num
    omega
  unfold Ideal.ieee
  dsimp only
  rw [e1, e2, e3]
  generalize (h.extractLsb' 0 7).toNat = f
  generalize (h.extractLsb' 7 8).toNat = x
  generalize (if (h.extractLsb' (8 + 7) 1 == 1#1) = true then (-1 : ℝ) else 1) = sg
  have hz' : (f * 65536 = 0) = (f = 0) := by simp
  simp only [hz']
  split
  · rfl
  · split
    · congr 1
      push_cast
      rw [show (-133 : ℤ) = -149 + 16 by norm_num, zpow_add₀ (by norm_num)]
      norm_num
      ring
    · congr 1
      push_cast
      rw [show ((x : ℤ) - 127 - 7) = ((x : ℤ) - 127 - 23) + 16 by ring, zpow_add₀ (by norm_num)]
      norm_num
      ring

end Cert.Proof.Dequant
-- ==== Proof.Scratch.lean ====
/- What the dequantising loop of a chunk leaves in the scratch table: its pieces, and the contents they leave. -/
module

public import proofs.«01_k».proof.Proof.Dequant
public import proofs.«01_k».proof.Proof.Gen.KernelIdeal.Loops
public import Idealize.ShloMosaic.Lib.Pipeline.Value

@[expose] public section

noncomputable section

namespace Cert.Proof.Dequant

open Idealize.ShloMosaic Idealize.SL Cert.KernelIdeal Cert.KernelIdeal.Gen

/-- One element of a table of packed blocks of thirty-two rows: block `q`, row `r` of the block, column `col`. -/
def tab {n : ℕ} (X2 : (⟨4, ![n, 12, 8, 128]⟩ : Shape).Idx → BitVec 32) (X3 : (⟨3, ![n, 8, 128]⟩ : Shape).Idx → BitVec 32)
    (q : Fin n) (r : Fin 32) (col : Fin 1536) : EReal :=
  elt (X2 (ix4 q ⟨col.val / 128, by omega⟩ ⟨r.val / 4, by omega⟩ ⟨col.val % 128, by omega⟩)) (r.val % 4)
    (X3 (ix3 q ⟨r.val % 16 / 2, by omega⟩ ⟨glane (col.val / 64) + 64 * (r.val / 16), by
      have := glane_lt (col.val / 64) (by omega); omega⟩)) (r.val % 2)

/-- The scratch table of one block of a chunk: thirty-two packed blocks dequantised. -/
def scr (X2 : Vec Ideal S32x12x8x128 .i32) (X3 : Vec Ideal S32x8x128 .i32) : Vec Ideal S1024x1536 .bf16 := fun y =>
  tab X2 X3 ⟨(y 0).val / 32, by have := (y 0).isLt; simp at this; omega⟩ ⟨(y 0).val % 32, by omega⟩ (y 1)

/-- A block as the loop stores it, from the words it loads. -/
def blkL (c : Fin 12) (A : Vec Ideal S1x8x128 .i32) (B : Vec Ideal S1x1x8x128 .i32) : FVec Ideal S32x128 .bf16 :=
  blkV (BitVec.ofNat 32 (2 * c.val)) (shapeCast S8x128 A shapeCasts_S1x8x128_S8x128) (shapeCast S8x128 B shapeCasts_S1x1x8x128_S8x128)

/-- A stored block is the part of the table its rectangle names. -/
theorem piece_ok {N M : ℕ} (X2 : (⟨4, ![N, 12, 8, 128]⟩ : Shape).Idx → BitVec 32) (X3 : (⟨3, ![N, 8, 128]⟩ : Shape).Idx → BitVec 32)
    (k : Fin N) (c : Fin 12)
    (o2 : Fin 2 → ℕ) (e2 : o2 = ![32 * k.val, 128 * c.val]) (i2 : ∀ a, o2 a + S32x128.size a ≤ (⟨2, ![M, 1536]⟩ : Shape).size a)
    (o3 : Fin 3 → ℕ) (e3 : o3 = ![k.val, 0, 0]) (i3 : ∀ a, o3 a + S1x8x128.size a ≤ (⟨3, ![N, 8, 128]⟩ : Shape).size a)
    (o4 : Fin 4 → ℕ) (e4 : o4 = ![k.val, c.val, 0, 0]) (i4 : ∀ a, o4 a + S1x1x8x128.size a ≤ (⟨4, ![N, 12, 8, 128]⟩ : Shape).size a)
    (G : (⟨2, ![M, 1536]⟩ : Shape).Idx → EReal)
    (hG : ∀ (r : Fin 32) (col : Fin 1536) (y : (⟨2, ![M, 1536]⟩ : Shape).Idx), (y 0).val = 32 * k.val + r.val → (y 1).val = col.val → G y = tab X2 X3 k r col)
    (x : S32x128.Idx) :
    blkL c (View.ld (Val := Elt Ideal) (e' := .i32) (S := ⟨3, ![N, 8, 128]⟩) X3 (Rect.unit o3 S1x8x128.size i3))
      (View.ld (Val := Elt Ideal) (e' := .i32) (S := ⟨4, ![N, 12, 8, 128]⟩) X2 (Rect.unit o4 S1x1x8x128.size i4)) x
      = G ((Rect.unit (s := ⟨2, ![M, 1536]⟩) o2 S32x128.size i2).emb x) := by
  subst e2 e3 e4
  unfold blkL
  obtain ⟨r, l, rfl⟩ : ∃ (r : Fin 32) (l : Fin 128), x = ix2 r l :=
    ⟨x 0, x 1, by funext a; match a with | ⟨0, _⟩ => rfl | ⟨1, _⟩ => rfl⟩
  have hr : r.val < 32 := r.isLt
  have hl : l.val < 128 := l.isLt
  rw [hG r ⟨128 * c.val + l.val, by omega⟩ _ (by show 32 * k.val + 1 * r.val = 32 * k.val + r.val; omega)
    (by show 128 * c.val + 1 * l.val = 128 * c.val + l.val; omega), blkV_ix]
  unfold tab
  rw [shapeCast_apply (s := S1x1x8x128) _ _ _ (ix4 (0 : Fin 1) (0 : Fin 1) (⟨r.val / 4, by omega⟩ : Fin 8) l)
      (by rw [Shape.rowMajor_val_four, Shape.rowMajor_val_two]; show ((0 * 1 + 0) * 8 + _) * 128 + _ = _ * 128 + _; simp),
    shapeCast_apply (s := S1x8x128) _ _ _ (ix3 (0 : Fin 1) (⟨r.val % 16 / 2, by omega⟩ : Fin 8) (⟨glane (2 * c.val + l.val / 64) + 64 * (r.val / 16), by
        have := glane_lt (2 * c.val + l.val / 64) (by omega); omega⟩ : Fin 128))
      (by rw [Shape.rowMajor_val_three, Shape.rowMajor_val_two]; show (0 * 8 + _) * 128 + _ = _ * 128 + _; simp)]
  have h1 : (128 * c.val + l.val) / 128 = c.val := by omega
  have h2 : (128 * c.val + l.val) % 128 = l.val := by omega
  have h3 : (128 * c.val + l.val) / 64 = 2 * c.val + l.val / 64 := by omega
  unfold View.ld
  congr 1
  · apply congrArg X2
    funext a
    match a with
    | ⟨0, _⟩ => exact Fin.ext (show k.val + 1 * 0 = k.val by omega)
    | ⟨1, _⟩ => exact Fin.ext (show c.val + 1 * 0 = (128 * c.val + l.val) / 128 by omega)
    | ⟨2, _⟩ => exact Fin.ext (show 0 + 1 * (r.val / 4) = r.val / 4 by omega)
    | ⟨3, _⟩ => exact Fin.ext (show 0 + 1 * l.val = (128 * c.val + l.val) % 128 by omega)
  · apply congrArg X3
    funext a
    match a with
    | ⟨0, _⟩ => exact Fin.ext (show k.val + 1 * 0 = k.val by omega)
    | ⟨1, _⟩ => exact Fin.ext (show 0 + 1 * (r.val % 16 / 2) = r.val % 16 / 2 by omega)
    | ⟨2, _⟩ => exact Fin.ext (show 0 + 1 * (glane (2 * c.val + l.val / 64) + 64 * (r.val / 16))
        = glane ((128 * c.val + l.val) / 64) + 64 * (r.val / 16) by rw [h3]; omega)

theorem scr_at (X2 : Vec Ideal S32x12x8x128 .i32) (X3 : Vec Ideal S32x8x128 .i32) (k r : Fin 32) (col : Fin 1536) (y : S1024x1536.Idx)
    (h0 : (y 0).val = 32 * k.val + r.val) (h1 : (y 1).val = col.val) : scr X2 X3 y = tab X2 X3 k r col := by
  unfold scr
  have a1 : (⟨(y 0).val / 32, by have := (y 0).isLt; simp at this; omega⟩ : Fin 32) = k := Fin.ext (show (y 0).val / 32 = k.val by omega)
  have a2 : (⟨(y 0).val % 32, by omega⟩ : Fin 32) = r := Fin.ext (show (y 0).val % 32 = r.val by omega)
  have a3 : y 1 = col := Fin.ext h1
  rw [a1, a2, a3]

/-! The twelve stored payloads of a trip are the twelve column blocks. -/

theorem pay_eq_0 (A : Vec Ideal S1x8x128 .i32) (B : Vec Ideal S1x1x8x128 .i32) :
    k0_pay9 (k0_pay2 A) (k0_pay3 B) (k0_pay5 A) k0_pay6 k0_pay7 k0_pay8 = blkL 0 A B := by
  refine Eq.trans ?_ (shapeCast_self (blkL 0 A B) shapeCasts_S32x128_S32x128)
  rfl
theorem pay_eq_1 (A : Vec Ideal S1x8x128 .i32) (B : Vec Ideal S1x1x8x128 .i32) :
    k0_pay14 (k0_pay2 A) (k0_pay10 B) (k0_pay12 (iota .tc S8x128 32 [1] iota_S8x128_d1_w32) (k0_pay2 A)) (k0_pay13 (iota .tc S8x128 32 [1] iota_S8x128_d1_w32)) 0#32 = blkL 1 A B := by
  refine Eq.trans ?_ (shapeCast_self (blkL 1 A B) shapeCasts_S32x128_S32x128)
  rfl
theorem pay_eq_2 (A : Vec Ideal S1x8x128 .i32) (B : Vec Ideal S1x1x8x128 .i32) :
    k0_pay18 (k0_pay2 A) (k0_pay15 B) (k0_pay16 (iota .tc S8x128 32 [1] iota_S8x128_d1_w32)) (k0_pay17 (iota .tc S8x128 32 [1] iota_S8x128_d1_w32) (k0_pay2 A)) = blkL 2 A B := by
  refine Eq.trans ?_ (shapeCast_self (blkL 2 A B) shapeCasts_S32x128_S32x128)
  rfl
theorem pay_eq_3 (A : Vec Ideal S1x8x128 .i32) (B : Vec Ideal S1x1x8x128 .i32) :
    k0_pay22 (k0_pay2 A) (k0_pay19 B) (k0_pay20 (iota .tc S8x128 32 [1] iota_S8x128_d1_w32)) (k0_pay21 (iota .tc S8x128 32 [1] iota_S8x128_d1_w32)) = blkL 3 A B := by
  refine Eq.trans ?_ (shapeCast_self (blkL 3 A B) shapeCasts_S32x128_S32x128)
  rfl
theorem pay_eq_4 (A : Vec Ideal S1x8x128 .i32) (B : Vec Ideal S1x1x8x128 .i32) :
    k0_pay27 (k0_pay2 A) (k0_pay23 B) (k0_pay24 (iota .tc S8x128 32 [1] iota_S8x128_d1_w32)) (k0_pay25 (iota .tc S8x128 32 [1] iota_S8x128_d1_w32)) (k0_pay26 (iota .tc S8x128 32 [1] iota_S8x128_d1_w32)) = blkL 4 A B := by
  refine Eq.trans ?_ (shapeCast_self (blkL 4 A B) shapeCasts_S32x128_S32x128)
  rfl
theorem pay_eq_5 (A : Vec Ideal S1x8x128 .i32) (B : Vec Ideal S1x1x8x128 .i32) :
    k0_pay31 (k0_pay2 A) (k0_pay28 B) (k0_pay29 (iota .tc S8x128 32 [1] iota_S8x128_d1_w32)) k0_pay30 = blkL 5 A B := by
  refine Eq.trans ?_ (shapeCast_self (blkL 5 A B) shapeCasts_S32x128_S32x128)
  rfl
theorem pay_eq_6 (A : Vec Ideal S1x8x128 .i32) (B : Vec Ideal S1x1x8x128 .i32) :
    k0_pay38 (k0_pay2 A) (k0_pay32 B) (k0_pay33 (iota .tc S8x128 32 [1] iota_S8x128_d1_w32)) (k0_pay34 (iota .tc S8x128 32 [1] iota_S8x128_d1_w32)) (k0_pay35 (iota .tc S8x128 32 [1] iota_S8x128_d1_w32)) (k0_pay36 (iota .tc S8x128 32 [1] iota_S8x128_d1_w32)) (k0_pay37 (iota .tc S8x128 32 [1] iota_S8x128_d1_w32)) = blkL 6 A B := by
  refine Eq.trans ?_ (shapeCast_self (blkL 6 A B) shapeCasts_S32x128_S32x128)
  rfl
theorem pay_eq_7 (A : Vec Ideal S1x8x128 .i32) (B : Vec Ideal S1x1x8x128 .i32) :
    k0_pay44 (k0_pay2 A) (k0_pay39 B) (k0_pay40 (iota .tc S8x128 32 [1] iota_S8x128_d1_w32)) (k0_pay41 (iota .tc S8x128 32 [1] iota_S8x128_d1_w32)) (k0_pay42 (iota .tc S8x128 32 [1] iota_S8x128_d1_w32)) k0_pay43 = blkL 7 A B := by
  refine Eq.trans ?_ (shapeCast_self (blkL 7 A B) shapeCasts_S32x128_S32x128)
  rfl
theorem pay_eq_8 (A : Vec Ideal S1x8x128 .i32) (B : Vec Ideal S1x1x8x128 .i32) :
    k0_pay48 (k0_pay2 A) (k0_pay45 B) (k0_pay46 (iota .tc S8x128 32 [1] iota_S8x128_d1_w32)) (k0_pay47 (iota .tc S8x128 32 [1] iota_S8x128_d1_w32)) 16#32 = blkL 8 A B := by
  refine Eq.trans ?_ (shapeCast_self (blkL 8 A B) shapeCasts_S32x128_S32x128)
  rfl
theorem pay_eq_9 (A : Vec Ideal S1x8x128 .i32) (B : Vec Ideal S1x1x8x128 .i32) :
    k0_pay51 (k0_pay2 A) (k0_pay49 B) (k0_pay50 (iota .tc S8x128 32 [1] iota_S8x128_d1_w32)) = blkL 9 A B := by
  refine Eq.trans ?_ (shapeCast_self (blkL 9 A B) shapeCasts_S32x128_S32x128)
  rfl
theorem pay_eq_10 (A : Vec Ideal S1x8x128 .i32) (B : Vec Ideal S1x1x8x128 .i32) :
    k0_pay54 (iota .tc S8x128 32 [1] iota_S8x128_d1_w32) (k0_pay2 A) (k0_pay52 B) k0_pay53 = blkL 10 A B := by
  refine Eq.trans ?_ (shapeCast_self (blkL 10 A B) shapeCasts_S32x128_S32x128)
  rfl
theorem pay_eq_11 (A : Vec Ideal S1x8x128 .i32) (B : Vec Ideal S1x1x8x128 .i32) :
    k0_pay62 (k0_pay2 A) (k0_pay56 (k0_pay55 B)) (k0_pay58 (iota .tc S8x128 32 [1] iota_S8x128_d1_w32) (k0_pay2 A)) (k0_pay59 (iota .tc S8x128 32 [1] iota_S8x128_d1_w32)) = blkL 11 A B := by
  refine Eq.trans ?_ (shapeCast_self (blkL 11 A B) shapeCasts_S32x128_S32x128)
  rfl
/-- Every piece of one trip of the loop is a part of the scratch table. -/
theorem trip_pieces (𝒱 : Variants) (c : Dev nD) (bd : Option 𝒱.V) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (X_arg2 : BufTy.Contents (Elt Ideal) arg2.view.ty) (X_arg3 : BufTy.Contents (Elt Ideal) arg3.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg3 k, ∀ x : p.1.shape.Idx, p.2 x = scr (arg2.view.read (Elt Ideal) X_arg2) (arg3.view.read (Elt Ideal) X_arg3) (p.1.emb x) := by
  have hk : k.val < 32 := Nat.lt_of_lt_of_le k.isLt k0_t1_abs.2.1
  unfold tripL_k0_t1 trip_k0_t1
  dsimp only
  sl_unfold_words
  simp only [View.readAt_eq_ld]
  simp only [List.forall_mem_cons]
  refine ⟨?_, ?_, ?_, ?_, ?_, ?_, ?_, ?_, ?_, ?_, ?_, ?_, by simp⟩
  · intro x
    refine (congrFun (pay_eq_11 _ _) x).trans ?_
    exact piece_ok (N := 32) (M := 1024) _ _ ⟨k.val, hk⟩ 11 (k0_off25 k) (k0_off25_eq k) _ (k0_off1 k) (k0_off1_eq k) _ (k0_off24 k) (k0_off24_eq k) _ _ (fun r col y => scr_at _ _ ⟨k.val, hk⟩ r col y) x
  · intro x
    refine (congrFun (pay_eq_10 _ _) x).trans ?_
    exact piece_ok (N := 32) (M := 1024) _ _ ⟨k.val, hk⟩ 10 (k0_off23 k) (k0_off23_eq k) _ (k0_off1 k) (k0_off1_eq k) _ (k0_off22 k) (k0_off22_eq k) _ _ (fun r col y => scr_at _ _ ⟨k.val, hk⟩ r col y) x
  · intro x
    refine (congrFun (pay_eq_9 _ _) x).trans ?_
    exact piece_ok (N := 32) (M := 1024) _ _ ⟨k.val, hk⟩ 9 (k0_off21 k) (k0_off21_eq k) _ (k0_off1 k) (k0_off1_eq k) _ (k0_off20 k) (k0_off20_eq k) _ _ (fun r col y => scr_at _ _ ⟨k.val, hk⟩ r col y) x
  · intro x
    refine (congrFun (pay_eq_8 _ _) x).trans ?_
    exact piece_ok (N := 32) (M := 1024) _ _ ⟨k.val, hk⟩ 8 (k0_off19 k) (k0_off19_eq k) _ (k0_off1 k) (k0_off1_eq k) _ (k0_off18 k) (k0_off18_eq k) _ _ (fun r col y => scr_at _ _ ⟨k.val, hk⟩ r col y) x
  · intro x
    refine (congrFun (pay_eq_7 _ _) x).trans ?_
    exact piece_ok (N := 32) (M := 1024) _ _ ⟨k.val, hk⟩ 7 (k0_off17 k) (k0_off17_eq k) _ (k0_off1 k) (k0_off1_eq k) _ (k0_off16 k) (k0_off16_eq k) _ _ (fun r col y => scr_at _ _ ⟨k.val, hk⟩ r col y) x
  · intro x
    refine (congrFun (pay_eq_6 _ _) x).trans ?_
    exact piece_ok (N := 32) (M := 1024) _ _ ⟨k.val, hk⟩ 6 (k0_off15 k) (k0_off15_eq k) _ (k0_off1 k) (k0_off1_eq k) _ (k0_off14 k) (k0_off14_eq k) _ _ (fun r col y => scr_at _ _ ⟨k.val, hk⟩ r col y) x
  · intro x
    refine (congrFun (pay_eq_5 _ _) x).trans ?_
    exact piece_ok (N := 32) (M := 1024) _ _ ⟨k.val, hk⟩ 5 (k0_off13 k) (k0_off13_eq k) _ (k0_off1 k) (k0_off1_eq k) _ (k0_off12 k) (k0_off12_eq k) _ _ (fun r col y => scr_at _ _ ⟨k.val, hk⟩ r col y) x
  · intro x
    refine (congrFun (pay_eq_4 _ _) x).trans ?_
    exact piece_ok (N := 32) (M := 1024) _ _ ⟨k.val, hk⟩ 4 (k0_off11 k) (k0_off11_eq k) _ (k0_off1 k) (k0_off1_eq k) _ (k0_off10 k) (k0_off10_eq k) _ _ (fun r col y => scr_at _ _ ⟨k.val, hk⟩ r col y) x
  · intro x
    refine (congrFun (pay_eq_3 _ _) x).trans ?_
    exact piece_ok (N := 32) (M := 1024) _ _ ⟨k.val, hk⟩ 3 (k0_off9 k) (k0_off9_eq k) _ (k0_off1 k) (k0_off1_eq k) _ (k0_off8 k) (k0_off8_eq k) _ _ (fun r col y => scr_at _ _ ⟨k.val, hk⟩ r col y) x
  · intro x
    refine (congrFun (pay_eq_2 _ _) x).trans ?_
    exact piece_ok (N := 32) (M := 1024) _ _ ⟨k.val, hk⟩ 2 (k0_off7 k) (k0_off7_eq k) _ (k0_off1 k) (k0_off1_eq k) _ (k0_off6 k) (k0_off6_eq k) _ _ (fun r col y => scr_at _ _ ⟨k.val, hk⟩ r col y) x
  · intro x
    refine (congrFun (pay_eq_1 _ _) x).trans ?_
    exact piece_ok (N := 32) (M := 1024) _ _ ⟨k.val, hk⟩ 1 (k0_off5 k) (k0_off5_eq k) _ (k0_off1 k) (k0_off1_eq k) _ (k0_off4 k) (k0_off4_eq k) _ _ (fun r col y => scr_at _ _ ⟨k.val, hk⟩ r col y) x
  · intro x
    refine (congrFun (pay_eq_0 _ _) x).trans ?_
    exact piece_ok (N := 32) (M := 1024) _ _ ⟨k.val, hk⟩ 0 (k0_off3 k) (k0_off3_eq k) _ (k0_off1 k) (k0_off1_eq k) _ (k0_off2 k) (k0_off2_eq k) _ _ (fun r col y => scr_at _ _ ⟨k.val, hk⟩ r col y) x

theorem mem_ok {M : ℕ} (k : ℕ) (c : Fin 12) (o2 : Fin 2 → ℕ) (e2 : o2 = ![32 * k, 128 * c.val])
    (i2 : ∀ a, o2 a + S32x128.size a ≤ (⟨2, ![M, 1536]⟩ : Shape).size a) (y : (⟨2, ![M, 1536]⟩ : Shape).Idx)
    (h0 : (y 0).val / 32 = k) (h1 : (y 1).val / 128 = c.val) : y ∈ (Rect.unit (s := ⟨2, ![M, 1536]⟩) o2 S32x128.size i2).set := by
  subst e2
  rw [Rect.mem_set_unit]
  intro a
  match a with
  | ⟨0, _⟩ => constructor
              · show 32 * k ≤ (y 0).val; omega
              · show (y 0).val < 32 * k + 32; omega
  | ⟨1, _⟩ => constructor
              · show 128 * c.val ≤ (y 1).val; omega
              · show (y 1).val < 128 * c.val + 128; omega

/-- The pieces of one trip cover the thirty-two rows of its block. -/
theorem trip_cover (𝒱 : Variants) (c : Dev nD) (bd : Option 𝒱.V) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (X_arg2 : BufTy.Contents (Elt Ideal) arg2.view.ty) (X_arg3 : BufTy.Contents (Elt Ideal) arg3.view.ty) (k : Fin k0_t1_loop.trips) (y : S1024x1536.Idx) (h0 : (y 0).val / 32 = k.val) :
    ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg3 k, y ∈ p.1.set := by
  unfold tripL_k0_t1 trip_k0_t1
  dsimp only
  sl_unfold_words
  obtain ⟨c, hc⟩ : ∃ c : Fin 12, (y 1).val / 128 = c.val := ⟨⟨(y 1).val / 128, by have : (y 1).val < 1536 := (y 1).isLt; omega⟩, rfl⟩
  simp only [List.exists_mem_cons_iff]
  fin_cases c
  · exact Or.inr (Or.inr (Or.inr (Or.inr (Or.inr (Or.inr (Or.inr (Or.inr (Or.inr (Or.inr (Or.inr (Or.inl (mem_ok (M := 1024) k.val 0 (k0_off3 k) (k0_off3_eq k) _ y h0 hc))))))))))))
  · exact Or.inr (Or.inr (Or.inr (Or.inr (Or.inr (Or.inr (Or.inr (Or.inr (Or.inr (Or.inr (Or.inl (mem_ok (M := 1024) k.val 1 (k0_off5 k) (k0_off5_eq k) _ y h0 hc)))))))))))
  · exact Or.inr (Or.inr (Or.inr (Or.inr (Or.inr (Or.inr (Or.inr (Or.inr (Or.inr (Or.inl (mem_ok (M := 1024) k.val 2 (k0_off7 k) (k0_off7_eq k) _ y h0 hc))))))))))
  · exact Or.inr (Or.inr (Or.inr (Or.inr (Or.inr (Or.inr (Or.inr (Or.inr (Or.inl (mem_ok (M := 1024) k.val 3 (k0_off9 k) (k0_off9_eq k) _ y h0 hc)))))))))
  · exact Or.inr (Or.inr (Or.inr (Or.inr (Or.inr (Or.inr (Or.inr (Or.inl (mem_ok (M := 1024) k.val 4 (k0_off11 k) (k0_off11_eq k) _ y h0 hc))))))))
  · exact Or.inr (Or.inr (Or.inr (Or.inr (Or.inr (Or.inr (Or.inl (mem_ok (M := 1024) k.val 5 (k0_off13 k) (k0_off13_eq k) _ y h0 hc)))))))
  · exact Or.inr (Or.inr (Or.inr (Or.inr (Or.inr (Or.inl (mem_ok (M := 1024) k.val 6 (k0_off15 k) (k0_off15_eq k) _ y h0 hc))))))
  · exact Or.inr (Or.inr (Or.inr (Or.inr (Or.inl (mem_ok (M := 1024) k.val 7 (k0_off17 k) (k0_off17_eq k) _ y h0 hc)))))
  · exact Or.inr (Or.inr (Or.inr (Or.inl (mem_ok (M := 1024) k.val 8 (k0_off19 k) (k0_off19_eq k) _ y h0 hc))))
  · exact Or.inr (Or.inr (Or.inl (mem_ok (M := 1024) k.val 9 (k0_off21 k) (k0_off21_eq k) _ y h0 hc)))
  · exact Or.inr (Or.inl (mem_ok (M := 1024) k.val 10 (k0_off23 k) (k0_off23_eq k) _ y h0 hc))
  · exact Or.inl (mem_ok (M := 1024) k.val 11 (k0_off25 k) (k0_off25_eq k) _ y h0 hc)

/-- Every piece of the trips before `n` is a part of the scratch table. -/
theorem loop_pieces (𝒱 : Variants) (c : Dev nD) (bd : Option 𝒱.V) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (X_arg2 : BufTy.Contents (Elt Ideal) arg2.view.ty) (X_arg3 : BufTy.Contents (Elt Ideal) arg3.view.ty) : ∀ n : ℕ, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg3 n, ∀ x : p.1.shape.Idx, p.2 x = scr (arg2.view.read (Elt Ideal) X_arg2) (arg3.view.read (Elt Ideal) X_arg3) (p.1.emb x)
  | 0, _, p, hp => absurd hp (by simp [pb_k0_t1])
  | n + 1, hn, p, hp => by
    rw [pb_k0_t1_succ 𝒱 c bd i arg1 harg1 arg2 harg2 arg3 harg3 arg4 harg4 arg5 harg5 arg6 harg6 arg7 harg7 arg8 harg8 arg9 harg9 arg10 harg10 arg11 harg11 arg12 harg12 X_arg2 X_arg3 ⟨n, hn⟩] at hp
    rcases List.mem_append.mp hp with h | h
    · exact trip_pieces 𝒱 c bd i arg1 harg1 arg2 harg2 arg3 harg3 arg4 harg4 arg5 harg5 arg6 harg6 arg7 harg7 arg8 harg8 arg9 harg9 arg10 harg10 arg11 harg11 arg12 harg12 X_arg2 X_arg3 ⟨n, hn⟩ p h
    · exact loop_pieces 𝒱 c bd i arg1 harg1 arg2 harg2 arg3 harg3 arg4 harg4 arg5 harg5 arg6 harg6 arg7 harg7 arg8 harg8 arg9 harg9 arg10 harg10 arg11 harg11 arg12 harg12 X_arg2 X_arg3 n (Nat.le_of_succ_le hn) p h

theorem loop_cover (𝒱 : Variants) (c : Dev nD) (bd : Option 𝒱.V) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (X_arg2 : BufTy.Contents (Elt Ideal) arg2.view.ty) (X_arg3 : BufTy.Contents (Elt Ideal) arg3.view.ty) (y : S1024x1536.Idx) : ∀ n : ℕ, n ≤ k0_t1_loop.trips → (y 0).val / 32 < n →
    ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg3 n, y ∈ p.1.set
  | 0, _, h => absurd h (Nat.not_lt_zero _)
  | n + 1, hn, h => by
    rw [pb_k0_t1_succ 𝒱 c bd i arg1 harg1 arg2 harg2 arg3 harg3 arg4 harg4 arg5 harg5 arg6 harg6 arg7 harg7 arg8 harg8 arg9 harg9 arg10 harg10 arg11 harg11 arg12 harg12 X_arg2 X_arg3 ⟨n, hn⟩]
    rcases Nat.lt_succ_iff_lt_or_eq.mp h with h | h
    · obtain ⟨p, hp, hy⟩ := loop_cover 𝒱 c bd i arg1 harg1 arg2 harg2 arg3 harg3 arg4 harg4 arg5 harg5 arg6 harg6 arg7 harg7 arg8 harg8 arg9 harg9 arg10 harg10 arg11 harg11 arg12 harg12 X_arg2 X_arg3 y n (Nat.le_of_succ_le hn) h
      exact ⟨p, List.mem_append_right _ hp, hy⟩
    · obtain ⟨p, hp, hy⟩ := trip_cover 𝒱 c bd i arg1 harg1 arg2 harg2 arg3 harg3 arg4 harg4 arg5 harg5 arg6 harg6 arg7 harg7 arg8 harg8 arg9 harg9 arg10 harg10 arg11 harg11 arg12 harg12 X_arg2 X_arg3 ⟨n, hn⟩ y h
      exact ⟨p, List.mem_append_left _ hp, hy⟩

/-- After the loop the scratch holds the dequantised table. -/
theorem loop_canon (𝒱 : Variants) (c : Dev nD) (bd : Option 𝒱.V) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (X_arg2 : BufTy.Contents (Elt Ideal) arg2.view.ty) (X_arg3 : BufTy.Contents (Elt Ideal) arg3.view.ty) (y : S1024x1536.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X_arg2 X_arg3 k0_t1_loop.trips) y = scr (arg2.view.read (Elt Ideal) X_arg2) (arg3.view.read (Elt Ideal) X_arg3) y :=
  View.canon_apply_of_pieces _ _ (loop_pieces 𝒱 c bd i arg1 harg1 arg2 harg2 arg3 harg3 arg4 harg4 arg5 harg5 arg6 harg6 arg7 harg7 arg8 harg8 arg9 harg9 arg10 harg10 arg11 harg11 arg12 harg12 X_arg2 X_arg3 _ le_rfl) y
    (loop_cover 𝒱 c bd i arg1 harg1 arg2 harg2 arg3 harg3 arg4 harg4 arg5 harg5 arg6 harg6 arg7 harg7 arg8 harg8 arg9 harg9 arg10 harg10 arg11 harg11 arg12 harg12 X_arg2 X_arg3 y _ le_rfl (by
      have h : (y 0).val < 1024 := (y 0).isLt
      have e : k0_t1_loop.trips = 32 := by decide
      omega))

end Cert.Proof.Dequant
-- ==== Proof.Softmax.lean ====
/-
  Running maximum and rescaled sum of exponentials over the extended reals: what a softmax normaliser kept a few
  columns at a time amounts to, and why the floor the running maximum starts from does not change the loss.
-/
module

public import Idealize.ShloMosaic.PureOps.Ideal

@[expose] public section

noncomputable section

namespace Cert.Proof.Softmax

open Idealize.ShloMosaic

/-- The exponential is nowhere negative. -/
theorem exp_nonneg (x : EReal) : 0 ≤ Ideal.exp x := by
  induction x with
  | bot => exact le_refl _
  | top => exact le_top
  | coe r => exact EReal.coe_nonneg.mpr (Real.exp_pos r).le

theorem exp_coe (r : ℝ) : Ideal.exp (r : EReal) = ((Real.exp r : ℝ) : EReal) := rfl
theorem exp_bot : Ideal.exp ⊥ = 0 := rfl

/-- Moving one term from the reference point `m` to the larger `m'`. -/
theorem exp_shift {a m m' : EReal} (h : a ≤ m) (h' : m ≤ m') :
    Ideal.exp (a - m) * Ideal.exp (m - m') = Ideal.exp (a - m') := by
  induction m' with
  | bot =>
    obtain rfl : m = ⊥ := le_bot_iff.mp h'
    obtain rfl : a = ⊥ := le_bot_iff.mp h
    simp [sub_eq_add_neg, exp_bot]
  | top => simp [sub_eq_add_neg, exp_bot]
  | coe r' =>
    induction m with
    | bot =>
      obtain rfl : a = ⊥ := le_bot_iff.mp h
      simp [sub_eq_add_neg, exp_bot]
    | top => exact absurd h' (not_le.mpr (EReal.coe_lt_top r'))
    | coe r =>
      induction a with
      | bot => simp [sub_eq_add_neg, exp_bot]
      | top => exact absurd h (not_le.mpr (EReal.coe_lt_top r))
      | coe x =>
        rw [← EReal.coe_sub, ← EReal.coe_sub, ← EReal.coe_sub, exp_coe, exp_coe, exp_coe, ← EReal.coe_mul,
          ← Real.exp_add]
        congr 2; ring

/-- A finite sum of nonnegative terms times a factor, term by term. -/
theorem sum_mul {ι : Type*} (s : Finset ι) (f : ι → EReal) (c : EReal) (h : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (h a (Finset.mem_insert_self a s))
        (Finset.sum_nonneg fun i hi => h i (Finset.mem_insert_of_mem hi)),
      ih fun i hi => h i (Finset.mem_insert_of_mem hi)]

/-- Moving a whole sum of exponentials from the reference point `m` to the larger `m'`. -/
theorem sum_exp_shift {ι : Type*} (s : Finset ι) (a : ι → EReal) {m m' : EReal} (h : ∀ i ∈ s, a i ≤ m) (h' : m ≤ m') :
    (∑ i ∈ s, Ideal.exp (a i - m)) * Ideal.exp (m - m') = ∑ i ∈ s, Ideal.exp (a i - m') := by
  rw [sum_mul _ _ _ fun i _ => exp_nonneg _]
  exact Finset.sum_congr rfl fun i hi => exp_shift (h i hi) h'

/-! ## Four columns at a time -/

/-- The running maximum after `T` steps of four columns, from the floor `H`. -/
def runM (H : EReal) (a : ℕ → EReal) : ℕ → EReal
  | 0 => H
  | T + 1 => max (max (max (max (runM H a T) (a (4 * T))) (a (4 * T + 1))) (a (4 * T + 2))) (a (4 * T + 3))

/-- The running sum of exponentials, rescaled to the running maximum at every step. -/
def runS (H : EReal) (a : ℕ → EReal) : ℕ → EReal
  | 0 => 0
  | T + 1 => runS H a T * Ideal.exp (runM H a T - runM H a (T + 1)) + Ideal.exp (a (4 * T) - runM H a (T + 1))
      + Ideal.exp (a (4 * T + 1) - runM H a (T + 1)) + Ideal.exp (a (4 * T + 2) - runM H a (T + 1))
      + Ideal.exp (a (4 * T + 3) - runM H a (T + 1))

/-- The running maximum is the floor or the greatest column so far. -/
theorem runM_eq (H : EReal) (a : ℕ → EReal) (T : ℕ) : runM H a T = max H ((Finset.range (4 * T)).sup a) := by
  induction T with
  | zero => simp [runM]
  | succ T ih =>
    rw [runM, ih, show 4 * (T + 1) = 4 * T + 1 + 1 + 1 + 1 from by ring]
    simp only [Finset.range_add_one, Finset.sup_insert]
    simp only [max_assoc]
    congr 1
    simp only [max_comm, max_left_comm, max_assoc]

theorem runM_mono (H : EReal) (a : ℕ → EReal) (T : ℕ) : runM H a T ≤ runM H a (T + 1) := by
  rw [runM]; simp

/-- The running sum is the sum of the exponentials against the current maximum. -/
theorem runS_eq (H : EReal) (a : ℕ → EReal) (T : ℕ) :
    runS H a T = ∑ k ∈ Finset.range (4 * T), Ideal.exp (a k - runM H a T) := by
  induction T with
  | zero => simp [runS]
  | succ T ih =>
    rw [runS, ih, sum_exp_shift _ _ (fun k hk => ?_) (runM_mono H a T),
      show 4 * (T + 1) = 4 * T + 1 + 1 + 1 + 1 from by ring]
    · simp only [Finset.sum_range_succ]
    · rw [runM_eq]; exact le_max_of_le_right (Finset.le_sup hk)

/-! ## All lanes together, and the loss -/

/-- The loss of one row from its true logit, the reference point `mx` and the sum `s` taken against it. -/
def lossOf (t mx s : EReal) : EReal :=
  max t mx + Ideal.log (Ideal.exp (t - max t mx) + s * Ideal.exp (mx - max t mx)) - t

theorem log_mul_exp {z : ℝ} (hz : 0 < z) (d : ℝ) :
    Ideal.log (((z * Real.exp d : ℝ) : EReal)) = ((Real.log z + d : ℝ) : EReal) := by
  have h : ¬ z * Real.exp d ≤ 0 := not_le.mpr (mul_pos hz (Real.exp_pos d))
  show (if z * Real.exp d ≤ 0 then ⊥ else ((Real.log (z * Real.exp d) : ℝ) : EReal)) = _
  rw [if_neg h, Real.log_mul hz.ne' (Real.exp_pos d).ne', Real.log_exp]

/-- A finite sum of exponentials of things below a real reference point is a real number, not negative. -/
theorem sum_exp_real {ι : Type*} (s : Finset ι) (a : ι → EReal) (m : ℝ) (h : ∀ i ∈ s, a i ≤ (m : EReal)) :
    ∃ z : ℝ, 0 ≤ z ∧ ∑ i ∈ s, Ideal.exp (a i - (m : EReal)) = (z : EReal) := by
  classical
  induction s using Finset.induction_on with
  | empty => exact ⟨0, le_refl _, by simp⟩
  | insert b s hb ih =>
    obtain ⟨z, hz, e⟩ := ih fun i hi => h i (Finset.mem_insert_of_mem hi)
    rw [Finset.sum_insert hb, e]
    have hbm := h b (Finset.mem_insert_self b s)
    generalize a b = x at hbm
    induction x with
    | bot => exact ⟨z, hz, by simp [sub_eq_add_neg, exp_bot]⟩
    | top => exact absurd hbm (not_le.mpr (EReal.coe_lt_top m))
    | coe r => exact ⟨Real.exp (r - m) + z, by positivity, by
        rw [← EReal.coe_sub, exp_coe, ← EReal.coe_add]⟩

/-- Log-sum-exp does not depend on the reference point: from the greatest term `p` up to a real `H` above it. -/
theorem lse_shift {ι : Type*} (s : Finset ι) (a : ι → EReal) {p H : EReal} (hH : H ≠ ⊤) (h : ∀ i ∈ s, a i ≤ p)
    (hp : p = ⊥ ∨ ∃ i ∈ s, a i = p) (hpH : p ≤ H) :
    p + Ideal.log (∑ i ∈ s, Ideal.exp (a i - p)) = H + Ideal.log (∑ i ∈ s, Ideal.exp (a i - H)) := by
  induction p with
  | bot =>
    have e : ∑ i ∈ s, Ideal.exp (a i - H) = 0 :=
      Finset.sum_eq_zero fun i hi => by rw [le_bot_iff.mp (h i hi)]; simp [sub_eq_add_neg, exp_bot]
    rw [e, show Ideal.log (0 : EReal) = ⊥ from by
      show Ideal.log ((0 : ℝ) : EReal) = ⊥
      show (if (0 : ℝ) ≤ 0 then (⊥ : EReal) else _) = ⊥
      rw [if_pos le_rfl]]
    simp
  | top => exact absurd (top_le_iff.mp hpH) hH
  | coe m =>
    induction H with
    | bot => exact absurd hpH (not_le.mpr (EReal.bot_lt_coe m))
    | top => exact absurd rfl hH
    | coe r =>
      obtain ⟨z, hz0, e⟩ := sum_exp_real s a m h
      have hz : 0 < z := by
        rcases hp with hb | ⟨i, hi, hai⟩
        · exact absurd hb (EReal.coe_ne_bot m)
        · have h1 : Ideal.exp (a i - (m : EReal)) ≤ (z : EReal) := by
            rw [← e]; exact Finset.single_le_sum (f := fun i => Ideal.exp (a i - (m : EReal)))
              (fun j _ => exp_nonneg _) hi
          rw [hai, ← EReal.coe_sub, sub_self, exp_coe, Real.exp_zero] at h1
          exact lt_of_lt_of_le one_pos (EReal.coe_le_coe_iff.mp h1)
      rw [← sum_exp_shift s a h hpH, e, ← EReal.coe_sub, exp_coe, ← EReal.coe_mul, log_mul_exp hz,
        show (z : EReal) = ((z * Real.exp 0 : ℝ) : EReal) from by rw [Real.exp_zero, mul_one], log_mul_exp hz,
        ← EReal.coe_add, ← EReal.coe_add]
      congr 1; ring

/-- The loss with the sum taken against any reference point at or above every column is the log-sum-exp form. -/
theorem lossOf_eq {ι : Type*} (s : Finset ι) (a : ι → EReal) (t mx : EReal) (h : ∀ i ∈ s, a i ≤ mx) :
    lossOf t mx (∑ i ∈ s, Ideal.exp (a i - mx))
      = max t mx + Ideal.log (∑ o ∈ s.insertNone, Ideal.exp (o.elim t a - max t mx)) - t := by
  unfold lossOf
  rw [sum_exp_shift s a h (le_max_right t mx), Finset.sum_insertNone]
  rfl

/-- The floor does not change the loss: the sum taken against `max H (sup a)` and against `sup a` give one loss. -/
theorem lossOf_floor {ι : Type*} (s : Finset ι) (a : ι → EReal) (t H : EReal) (hH : H ≠ ⊤) :
    lossOf t (max H (s.sup a)) (∑ i ∈ s, Ideal.exp (a i - max H (s.sup a)))
      = lossOf t (s.sup a) (∑ i ∈ s, Ideal.exp (a i - s.sup a)) := by
  rw [lossOf_eq s a t _ fun i hi => le_max_of_le_right (Finset.le_sup hi),
    lossOf_eq s a t _ fun i hi => Finset.le_sup hi]
  congr 1
  by_cases hc : H ≤ max t (s.sup a)
  · rw [max_left_comm, max_eq_right hc]
  · have hlt := le_of_lt (not_le.mp hc)
    rw [max_left_comm, max_eq_left hlt]
    refine (lse_shift _ _ hH (fun o ho => ?_) ?_ hlt).symm
    · cases o with
      | none => exact le_max_left _ _
      | some i => exact le_max_of_le_right (Finset.le_sup (Finset.some_mem_insertNone.mp ho))
    · rcases max_choice t (s.sup a) with hm | hm
      · exact Or.inr ⟨none, Finset.none_mem_insertNone, hm.symm⟩
      · rcases s.eq_empty_or_nonempty with rfl | hne
        · left; rw [hm]; simp
        · obtain ⟨i, hi, e⟩ := Finset.exists_mem_eq_sup s hne a
          exact Or.inr ⟨some i, Finset.some_mem_insertNone.mpr hi, by rw [hm, e]; rfl⟩

/-- Joining the lanes: each lane's sum moved to the common reference point adds up to the sum over all columns. -/
theorem join_lanes {ι κ : Type*} (L : Finset ι) (K : Finset κ) (a : ι → κ → EReal) (m : ι → EReal) (mx : EReal)
    (h : ∀ l ∈ L, ∀ k ∈ K, a l k ≤ m l) (h' : ∀ l ∈ L, m l ≤ mx) :
    ∑ l ∈ L, (∑ k ∈ K, Ideal.exp (a l k - m l)) * Ideal.exp (m l - mx) = ∑ l ∈ L, ∑ k ∈ K, Ideal.exp (a l k - mx) :=
  Finset.sum_congr rfl fun l hl => sum_exp_shift K (a l) (h l hl) (h' l hl)

end Cert.Proof.Softmax

end
-- ==== Proof.Step.lean ====
/- What one grid point of a chunk computes: the columns' logits, the logits kept in the output, and the running maximum and
   sum of every lane after the point's two halves of columns. -/
module

public import proofs.«01_k».proof.Proof.Scratch
public import proofs.«01_k».proof.Proof.Softmax
public import Idealize.ShloMosaic.Lib.MatmulPlain

@[expose] public section

noncomputable section

namespace Cert.Proof.Step

open Idealize.ShloMosaic Idealize.SL Cert.KernelIdeal Cert.KernelIdeal.Gen Cert.Proof.Dequant

/-! ## The values, index by index -/

/-- The logit of row `R` at a tile's column `n`, less the column's log-probability. -/
def negF (X : Vec Ideal S1280x1536 .bf16) (W : Vec Ideal S1024x1536 .bf16) (q : Vec Ideal S1x1024 .f32) (R : Fin 1280) (n : Fin 1024) : EReal :=
  (∑ k : Fin 1536, X (Idealize.ShloMosaic.ix2 R k) * W (Idealize.ShloMosaic.ix2 n k)) - q (Idealize.ShloMosaic.ix2 (0 : Fin 1) n)

/-- Whether the tile's column `n` is an accidental hit of row `R`: the row's target equals the column's id. -/
def hitF (I : Vec Ideal S1x1024 .i32) (T : Vec Ideal S1280x128 .i32) (R : Fin 1280) (n : Fin 1024) : Prop :=
  T (Idealize.ShloMosaic.ix2 R (⟨n.val % 128, by omega⟩ : Fin 128)) = I (Idealize.ShloMosaic.ix2 (0 : Fin 1) n)

instance (I : Vec Ideal S1x1024 .i32) (T : Vec Ideal S1280x128 .i32) (R : Fin 1280) (n : Fin 1024) : Decidable (hitF I T R n) := by
  unfold hitF; infer_instance

/-- The masked logit: an accidental hit counts for nothing. -/
def nmF (X : Vec Ideal S1280x1536 .bf16) (W : Vec Ideal S1024x1536 .bf16) (I : Vec Ideal S1x1024 .i32) (q : Vec Ideal S1x1024 .f32)
    (T : Vec Ideal S1280x128 .i32) (R : Fin 1280) (n : Fin 1024) : EReal :=
  if hitF I T R n then ⊥ else negF X W q R n

/-- The masked logits of one lane, as a sequence. -/
def cols (X : Vec Ideal S1280x1536 .bf16) (W : Vec Ideal S1024x1536 .bf16) (I : Vec Ideal S1x1024 .i32) (q : Vec Ideal S1x1024 .f32)
    (T : Vec Ideal S1280x128 .i32) (R : Fin 1280) (l : Fin 128) (k : ℕ) : EReal :=
  if h : k < 8 then nmF X W I q T R ⟨128 * k + l.val, by omega⟩ else ⊥

/-- A running sum from any start. -/
def runG (S H : EReal) (a : ℕ → EReal) : ℕ → EReal
  | 0 => S
  | T + 1 => runG S H a T * Ideal.exp (Softmax.runM H a T - Softmax.runM H a (T + 1)) + Ideal.exp (a (4 * T) - Softmax.runM H a (T + 1))
      + Ideal.exp (a (4 * T + 1) - Softmax.runM H a (T + 1)) + Ideal.exp (a (4 * T + 2) - Softmax.runM H a (T + 1))
      + Ideal.exp (a (4 * T + 3) - Softmax.runM H a (T + 1))

/-- The lanes' maxima after a grid point. -/
def mBlk (X : Vec Ideal S1280x1536 .bf16) (W : Vec Ideal S1024x1536 .bf16) (I : Vec Ideal S1x1024 .i32) (q : Vec Ideal S1x1024 .f32)
    (T : Vec Ideal S1280x128 .i32) (M : Vec Ideal S1280x128 .f32) : Vec Ideal S1280x128 .f32 := fun y =>
  Softmax.runM (M y) (cols X W I q T (y 0) (y 1)) 2

/-- The lanes' sums after a grid point. -/
def sBlk (X : Vec Ideal S1280x1536 .bf16) (W : Vec Ideal S1024x1536 .bf16) (I : Vec Ideal S1x1024 .i32) (q : Vec Ideal S1x1024 .f32)
    (T : Vec Ideal S1280x128 .i32) (M S : Vec Ideal S1280x128 .f32) : Vec Ideal S1280x128 .f32 := fun y =>
  runG (S y) (M y) (cols X W I q T (y 0) (y 1)) 2

/-- The kept logit: an accidental hit is kept as zero. -/
def zF (X : Vec Ideal S1280x1536 .bf16) (W : Vec Ideal S1024x1536 .bf16) (I : Vec Ideal S1x1024 .i32) (q : Vec Ideal S1x1024 .f32)
    (T : Vec Ideal S1280x128 .i32) (R : Fin 1280) (n : Fin 1024) : EReal :=
  if hitF I T R n then 0 else negF X W q R n

/-- The block of kept logits of a grid point: the rows of the first sequence. -/
def nBlk (X : Vec Ideal S1280x1536 .bf16) (W : Vec Ideal S1024x1536 .bf16) (I : Vec Ideal S1x1024 .i32) (q : Vec Ideal S1x1024 .f32)
    (T : Vec Ideal S1280x128 .i32) : Vec Ideal S640x1024 .f32 := fun y =>
  zF X W I q T ⟨(y 0).val, Nat.lt_of_lt_of_le (y 0).isLt (by decide)⟩ (y 1)

/-! ## The same as the kernel writes it: half of the rows, half of the columns -/

/-- The new maxima of one half of the rows after one half of the columns. -/
def stM (x : Vec Ideal S640x1536 .bf16) (w : Vec Ideal S512x1536 .bf16) (q : Vec Ideal S1x512 .f32) (t : Vec Ideal S640x128 .i32)
    (i0 i1 i2 i3 : Vec Ideal S1x128 .i32) (m : Vec Ideal S640x128 .f32) : Vec Ideal S640x128 .f32 :=
  k0_pay82 (k0_pay65 t i0) (k0_pay66 t i1) (k0_pay67 t i2) (k0_pay68 t i3)
    (k0_pay69 x w q) (k0_pay70 x w q) (k0_pay71 x w q) (k0_pay72 x w q) m

/-- The new sums of one half of the rows after one half of the columns. -/
def stS (x : Vec Ideal S640x1536 .bf16) (w : Vec Ideal S512x1536 .bf16) (q : Vec Ideal S1x512 .f32) (t : Vec Ideal S640x128 .i32)
    (i0 i1 i2 i3 : Vec Ideal S1x128 .i32) (m s : Vec Ideal S640x128 .f32) : Vec Ideal S640x128 .f32 :=
  k0_pay85 (k0_pay79 (k0_pay67 t i2) (k0_pay71 x w q)) (k0_pay80 (k0_pay68 t i3) (k0_pay72 x w q))
    (stM x w q t i0 i1 i2 i3 m)
    (k0_pay83 (k0_pay65 t i0) (k0_pay66 t i1) (k0_pay67 t i2) (k0_pay68 t i3)
      (k0_pay69 x w q) (k0_pay70 x w q) (k0_pay71 x w q) (k0_pay72 x w q) m s)
    (k0_pay84 (k0_pay65 t i0) (k0_pay66 t i1) (k0_pay67 t i2) (k0_pay68 t i3)
      (k0_pay69 x w q) (k0_pay70 x w q) (k0_pay71 x w q) (k0_pay72 x w q) m)

section
variable (X : Vec Ideal S1280x1536 .bf16) (W : Vec Ideal S1024x1536 .bf16) (I : Vec Ideal S1x1024 .i32) (q : Vec Ideal S1x1024 .f32)
  (T : Vec Ideal S1280x128 .i32)

/-- The logits of half of the rows and half of the columns. -/
theorem part_apply (o c : ℕ) (ho : o + 640 ≤ 1280) (hc : c + 512 ≤ 1024)
    (i1 : ∀ a, ![o, 0] a + S640x1536.size a ≤ S1280x1536.size a) (i2 : ∀ a, ![c, 0] a + S512x1536.size a ≤ S1024x1536.size a)
    (i3 : ∀ a, ![0, c] a + S1x512.size a ≤ S1x1024.size a) (r : Fin 640) (n : Fin 512) :
    k0_pay63 (View.ld (Val := Elt Ideal) X (Rect.unit ![o, 0] S640x1536.size i1)) (View.ld (Val := Elt Ideal) W (Rect.unit ![c, 0] S512x1536.size i2))
      (View.ld (Val := Elt Ideal) q (Rect.unit ![0, c] S1x512.size i3)) (Idealize.ShloMosaic.ix2 r n)
      = negF X W q ⟨o + r.val, by omega⟩ ⟨c + n.val, by omega⟩ := by
  unfold k0_pay63
  dsimp only
  rw [shapeCast_self, shapeCast_self]
  refine (congrArg₂ (fun a b : EReal => a - b) (Ideal.matmul_transposedRhs_apply (M := 640) (K := 1536) (N := 512) none _ _ _ r n)
    (broadcastTo_apply _ _ (Idealize.ShloMosaic.ix2 r n) (Idealize.ShloMosaic.ix2 (0 : Fin 1) n)
      (fun a => by match a with | ⟨0, _⟩ => rfl | ⟨1, _⟩ => rfl))).trans ?_
  unfold negF
  have e0 : constant (F := Ideal) S640x512 .f32 0x00000000#32 (ValueIdx.ix2 r n) = 0 := by
    show Ideal.ofBits .f32 0x00000000#32 = 0
    simp [Ideal.ofBits, Ideal.ieee]
  rw [e0, zero_add]
  congr 1
  · refine Finset.sum_congr rfl fun k _ => ?_
    congr 1
    · apply congrArg X; funext a
      match a with
      | ⟨0, _⟩ => exact Fin.ext (show o + 1 * r.val = o + r.val by omega)
      | ⟨1, _⟩ => exact Fin.ext (show 0 + 1 * k.val = k.val by omega)
    · apply congrArg W; funext a
      match a with
      | ⟨0, _⟩ => exact Fin.ext (show c + 1 * n.val = c + n.val by omega)
      | ⟨1, _⟩ => exact Fin.ext (show 0 + 1 * k.val = k.val by omega)
  · apply congrArg q; funext a
    match a with
    | ⟨0, _⟩ => exact Fin.ext (show 0 + 1 * 0 = 0 by omega)
    | ⟨1, _⟩ => exact Fin.ext (show c + 1 * n.val = c + n.val by omega)

theorem neg_inf : Ideal.ofBits .f32 0xFF800000#32 = ⊥ := by simp [Ideal.ofBits, Ideal.ieee]

/-- A logit masked where the row's target is the column's id. -/
theorem sel_apply (o c d : ℕ) (ho : o + 640 ≤ 1280) (hc : c + 512 ≤ 1024) (hd : d + 128 ≤ 512) (hm : (c + d) % 128 = 0) (z : EReal)
    (i1 : ∀ a, ![o, 0] a + S640x1536.size a ≤ S1280x1536.size a) (i2 : ∀ a, ![c, 0] a + S512x1536.size a ≤ S1024x1536.size a)
    (i3 : ∀ a, ![0, c] a + S1x512.size a ≤ S1x1024.size a) (i4 : ∀ a, ![o, 0] a + S640x128.size a ≤ S1280x128.size a)
    (i5 : ∀ a, ![0, c + d] a + S1x128.size a ≤ S1x1024.size a) (hs : S640x512.Slices ![0, d] S640x128) (r : Fin 640) (l : Fin 128) :
    select (cmpi .eq (shapeCast S640x128 (View.ld (Val := Elt Ideal) (e' := .i32) T (Rect.unit ![o, 0] S640x128.size i4)) shapeCasts_S640x128_S640x128)
        (broadcastTo S640x128 (shapeCast S1x128 (View.ld (Val := Elt Ideal) (e' := .i32) I (Rect.unit ![0, c + d] S1x128.size i5)) shapeCasts_S1x128_S1x128) broadcasts_S1x128_S640x128))
      (broadcast S640x128 z)
      (extractStridedSlice S640x128 ![0, d] (k0_pay63 (View.ld (Val := Elt Ideal) X (Rect.unit ![o, 0] S640x1536.size i1))
        (View.ld (Val := Elt Ideal) W (Rect.unit ![c, 0] S512x1536.size i2)) (View.ld (Val := Elt Ideal) q (Rect.unit ![0, c] S1x512.size i3))) hs)
      (Idealize.ShloMosaic.ix2 r l)
      = if hitF I T ⟨o + r.val, by omega⟩ ⟨c + d + l.val, by omega⟩ then z else negF X W q ⟨o + r.val, by omega⟩ ⟨c + d + l.val, by omega⟩ := by
  have e1 : shapeCast S640x128 (View.ld (Val := Elt Ideal) (e' := .i32) T (Rect.unit ![o, 0] S640x128.size i4)) shapeCasts_S640x128_S640x128 (Idealize.ShloMosaic.ix2 r l)
      = T (Idealize.ShloMosaic.ix2 (⟨o + r.val, by omega⟩ : Fin 1280) (⟨(c + d + l.val) % 128, by omega⟩ : Fin 128)) := by
    refine (congrFun (shapeCast_self (s := S640x128) (View.ld (Val := Elt Ideal) (e' := .i32) T (Rect.unit ![o, 0] S640x128.size i4)) shapeCasts_S640x128_S640x128) _).trans ?_
    apply congrArg T; funext a
    match a with
    | ⟨0, _⟩ => exact Fin.ext (show o + 1 * r.val = o + r.val by omega)
    | ⟨1, _⟩ => exact Fin.ext (show 0 + 1 * l.val = (c + d + l.val) % 128 by omega)
  have e2 : broadcastTo S640x128 (shapeCast S1x128 (View.ld (Val := Elt Ideal) (e' := .i32) I (Rect.unit ![0, c + d] S1x128.size i5)) shapeCasts_S1x128_S1x128) broadcasts_S1x128_S640x128 (Idealize.ShloMosaic.ix2 r l)
      = I (Idealize.ShloMosaic.ix2 (0 : Fin 1) (⟨c + d + l.val, by omega⟩ : Fin 1024)) := by
    rw [broadcastTo_apply _ _ (Idealize.ShloMosaic.ix2 r l) (Idealize.ShloMosaic.ix2 (0 : Fin 1) l) (fun a => by match a with | ⟨0, _⟩ => rfl | ⟨1, _⟩ => rfl)]
    refine (congrFun (shapeCast_self (s := S1x128) (View.ld (Val := Elt Ideal) (e' := .i32) I (Rect.unit ![0, c + d] S1x128.size i5)) shapeCasts_S1x128_S1x128) _).trans ?_
    apply congrArg I; funext a
    match a with
    | ⟨0, _⟩ => exact Fin.ext (show 0 + 1 * 0 = 0 by omega)
    | ⟨1, _⟩ => exact Fin.ext (show c + d + 1 * l.val = c + d + l.val by omega)
  have e3 := part_apply X W q o c ho hc i1 i2 i3 r ⟨d + l.val, by omega⟩
  have e4 := (extractStridedSlice_apply ![0, d] (k0_pay63 (View.ld (Val := Elt Ideal) X (Rect.unit ![o, 0] S640x1536.size i1))
        (View.ld (Val := Elt Ideal) W (Rect.unit ![c, 0] S512x1536.size i2)) (View.ld (Val := Elt Ideal) q (Rect.unit ![0, c] S1x512.size i3))) hs
      (Idealize.ShloMosaic.ix2 r l) (Idealize.ShloMosaic.ix2 r (⟨d + l.val, by omega⟩ : Fin 512))
    (fun a => by match a with | ⟨0, _⟩ => exact (Nat.zero_add _).symm | ⟨1, _⟩ => rfl)).trans e3
  have e5 : (⟨c + (d + l.val), by omega⟩ : Fin 1024) = ⟨c + d + l.val, by omega⟩ := Fin.ext (show c + (d + l.val) = c + d + l.val by omega)
  rw [show (⟨c + (⟨d + l.val, by omega⟩ : Fin 512).val, by omega⟩ : Fin 1024) = ⟨c + d + l.val, by omega⟩ from e5] at e4
  have key : ∀ (a b : BitVec 32) (x y : EReal), Scalar.select (BitVec.ofBool (a == b)) x y = if a = b then x else y := by
    intro a b x y
    unfold Scalar.select
    by_cases h : a = b
    · simp [h]
    · have : (a == b) = false := by simpa using h
      simp [h, this]
  refine (key _ _ _ _).trans ?_
  rw [e1, e2, e4]
  rfl

section
variable (o c : ℕ) (ho : o + 640 ≤ 1280) (hc : c + 512 ≤ 1024) (hm : c % 128 = 0)
    (i1 : ∀ a, ![o, 0] a + S640x1536.size a ≤ S1280x1536.size a) (i2 : ∀ a, ![c, 0] a + S512x1536.size a ≤ S1024x1536.size a)
    (i3 : ∀ a, ![0, c] a + S1x512.size a ≤ S1x1024.size a) (i4 : ∀ a, ![o, 0] a + S640x128.size a ≤ S1280x128.size a)
    (j0 : ∀ a, ![0, c + 0] a + S1x128.size a ≤ S1x1024.size a) (j1 : ∀ a, ![0, c + 128] a + S1x128.size a ≤ S1x1024.size a)
    (j2 : ∀ a, ![0, c + 256] a + S1x128.size a ≤ S1x1024.size a) (j3 : ∀ a, ![0, c + 384] a + S1x128.size a ≤ S1x1024.size a)
    (m s : Vec Ideal S640x128 .f32) (r : Fin 640) (l : Fin 128)

/-- The next maximum and the next sum of a lane over four columns. -/
def nextM (m n0 n1 n2 n3 : EReal) : EReal := max (max (max (max m n0) n1) n2) n3
def nextS (m s n0 n1 n2 n3 : EReal) : EReal :=
  s * Ideal.exp (m - nextM m n0 n1 n2 n3) + Ideal.exp (n0 - nextM m n0 n1 n2 n3) + Ideal.exp (n1 - nextM m n0 n1 n2 n3)
    + Ideal.exp (n2 - nextM m n0 n1 n2 n3) + Ideal.exp (n3 - nextM m n0 n1 n2 n3)

include hm in
/-- One half of the rows and columns, at a lane. -/
theorem st_apply :
    stM (View.ld (Val := Elt Ideal) X (Rect.unit ![o, 0] S640x1536.size i1)) (View.ld (Val := Elt Ideal) W (Rect.unit ![c, 0] S512x1536.size i2))
      (View.ld (Val := Elt Ideal) q (Rect.unit ![0, c] S1x512.size i3)) (View.ld (Val := Elt Ideal) (e' := .i32) T (Rect.unit ![o, 0] S640x128.size i4))
      (View.ld (Val := Elt Ideal) (e' := .i32) I (Rect.unit ![0, c + 0] S1x128.size j0)) (View.ld (Val := Elt Ideal) (e' := .i32) I (Rect.unit ![0, c + 128] S1x128.size j1))
      (View.ld (Val := Elt Ideal) (e' := .i32) I (Rect.unit ![0, c + 256] S1x128.size j2)) (View.ld (Val := Elt Ideal) (e' := .i32) I (Rect.unit ![0, c + 384] S1x128.size j3))
      m (Idealize.ShloMosaic.ix2 r l)
      = nextM (m (Idealize.ShloMosaic.ix2 r l)) (nmF X W I q T ⟨o + r.val, by omega⟩ ⟨c + 0 + l.val, by omega⟩) (nmF X W I q T ⟨o + r.val, by omega⟩ ⟨c + 128 + l.val, by omega⟩)
        (nmF X W I q T ⟨o + r.val, by omega⟩ ⟨c + 256 + l.val, by omega⟩) (nmF X W I q T ⟨o + r.val, by omega⟩ ⟨c + 384 + l.val, by omega⟩)
    ∧ stS (View.ld (Val := Elt Ideal) X (Rect.unit ![o, 0] S640x1536.size i1)) (View.ld (Val := Elt Ideal) W (Rect.unit ![c, 0] S512x1536.size i2))
      (View.ld (Val := Elt Ideal) q (Rect.unit ![0, c] S1x512.size i3)) (View.ld (Val := Elt Ideal) (e' := .i32) T (Rect.unit ![o, 0] S640x128.size i4))
      (View.ld (Val := Elt Ideal) (e' := .i32) I (Rect.unit ![0, c + 0] S1x128.size j0)) (View.ld (Val := Elt Ideal) (e' := .i32) I (Rect.unit ![0, c + 128] S1x128.size j1))
      (View.ld (Val := Elt Ideal) (e' := .i32) I (Rect.unit ![0, c + 256] S1x128.size j2)) (View.ld (Val := Elt Ideal) (e' := .i32) I (Rect.unit ![0, c + 384] S1x128.size j3))
      m s (Idealize.ShloMosaic.ix2 r l)
      = nextS (m (Idealize.ShloMosaic.ix2 r l)) (s (Idealize.ShloMosaic.ix2 r l)) (nmF X W I q T ⟨o + r.val, by omega⟩ ⟨c + 0 + l.val, by omega⟩) (nmF X W I q T ⟨o + r.val, by omega⟩ ⟨c + 128 + l.val, by omega⟩)
        (nmF X W I q T ⟨o + r.val, by omega⟩ ⟨c + 256 + l.val, by omega⟩) (nmF X W I q T ⟨o + r.val, by omega⟩ ⟨c + 384 + l.val, by omega⟩) := by
  generalize hx : View.ld (Val := Elt Ideal) X (Rect.unit ![o, 0] S640x1536.size i1) = x
  generalize hw : View.ld (Val := Elt Ideal) W (Rect.unit ![c, 0] S512x1536.size i2) = w
  generalize hq : View.ld (Val := Elt Ideal) q (Rect.unit ![0, c] S1x512.size i3) = qq
  generalize ht : View.ld (Val := Elt Ideal) (e' := .i32) T (Rect.unit ![o, 0] S640x128.size i4) = t
  generalize h0 : View.ld (Val := Elt Ideal) (e' := .i32) I (Rect.unit ![0, c + 0] S1x128.size j0) = n0
  generalize h1 : View.ld (Val := Elt Ideal) (e' := .i32) I (Rect.unit ![0, c + 128] S1x128.size j1) = n1
  generalize h2 : View.ld (Val := Elt Ideal) (e' := .i32) I (Rect.unit ![0, c + 256] S1x128.size j2) = n2
  generalize h3 : View.ld (Val := Elt Ideal) (e' := .i32) I (Rect.unit ![0, c + 384] S1x128.size j3) = n3
  have a0 : k0_pay77 (k0_pay65 t n0) (k0_pay69 x w qq) (Idealize.ShloMosaic.ix2 r l) = nmF X W I q T ⟨o + r.val, by omega⟩ ⟨c + 0 + l.val, by omega⟩ := by
    subst hx hw hq ht h0
    exact (sel_apply X W I q T o c 0 ho hc (by omega) (by omega) (Ideal.ofBits .f32 0xFF800000#32) i1 i2 i3 i4 j0 slices_S640x512_o0_0_S640x128 r l).trans (by rw [neg_inf]; rfl)
  have a1 : k0_pay78 (k0_pay66 t n1) (k0_pay70 x w qq) (Idealize.ShloMosaic.ix2 r l) = nmF X W I q T ⟨o + r.val, by omega⟩ ⟨c + 128 + l.val, by omega⟩ := by
    subst hx hw hq ht h1
    exact (sel_apply X W I q T o c 128 ho hc (by omega) (by omega) (Ideal.ofBits .f32 0xFF800000#32) i1 i2 i3 i4 j1 slices_S640x512_o0_128_S640x128 r l).trans (by rw [neg_inf]; rfl)
  have a2 : k0_pay79 (k0_pay67 t n2) (k0_pay71 x w qq) (Idealize.ShloMosaic.ix2 r l) = nmF X W I q T ⟨o + r.val, by omega⟩ ⟨c + 256 + l.val, by omega⟩ := by
    subst hx hw hq ht h2
    exact (sel_apply X W I q T o c 256 ho hc (by omega) (by omega) (Ideal.ofBits .f32 0xFF800000#32) i1 i2 i3 i4 j2 slices_S640x512_o0_256_S640x128 r l).trans (by rw [neg_inf]; rfl)
  have a3 : k0_pay80 (k0_pay68 t n3) (k0_pay72 x w qq) (Idealize.ShloMosaic.ix2 r l) = nmF X W I q T ⟨o + r.val, by omega⟩ ⟨c + 384 + l.val, by omega⟩ := by
    subst hx hw hq ht h3
    exact (sel_apply X W I q T o c 384 ho hc (by omega) (by omega) (Ideal.ofBits .f32 0xFF800000#32) i1 i2 i3 i4 j3 slices_S640x512_o0_384_S640x128 r l).trans (by rw [neg_inf]; rfl)
  have am : k0_pay81 m (Idealize.ShloMosaic.ix2 r l) = m (Idealize.ShloMosaic.ix2 r l) := congrFun (shapeCast_self m _) _
  have as' : shapeCast S640x128 s shapeCasts_S640x128_S640x128 (Idealize.ShloMosaic.ix2 r l) = s (Idealize.ShloMosaic.ix2 r l) := congrFun (shapeCast_self s _) _
  rw [← a0, ← a1, ← a2, ← a3, ← am, ← as']
  exact ⟨rfl, rfl⟩

end

end

end Cert.Proof.Step
-- ==== Proof.Problem.lean ====
/- The task in plain terms: logits of every row against every sampled column, accidental hits masked out; what a grid point
   leaves, stated over all columns so far. -/
module

public import proofs.«01_k».proof.Proof.Step

@[expose] public section

noncomputable section

namespace Cert.Proof.Problem

open Idealize.ShloMosaic Cert.KernelIdeal Cert.Proof.Step Cert.Proof.Dequant

/-- Two more steps of four columns, read from a sequence that goes on where the first `8 n` columns ended. -/
theorem run_shift (S H : EReal) (a b : ℕ → EReal) (n : ℕ) (h : ∀ k, k < 8 → b k = a (8 * n + k)) :
    Softmax.runM (Softmax.runM H a (2 * n)) b 2 = Softmax.runM H a (2 * (n + 1))
    ∧ runG (runG S H a (2 * n)) (Softmax.runM H a (2 * n)) b 2 = runG S H a (2 * (n + 1)) := by
  have e0 : b (4 * 0) = a (4 * (2 * n)) := (h 0 (by omega)).trans (congrArg a (by omega))
  have e1 : b (4 * 0 + 1) = a (4 * (2 * n) + 1) := (h 1 (by omega)).trans (congrArg a (by omega))
  have e2 : b (4 * 0 + 2) = a (4 * (2 * n) + 2) := (h 2 (by omega)).trans (congrArg a (by omega))
  have e3 : b (4 * 0 + 3) = a (4 * (2 * n) + 3) := (h 3 (by omega)).trans (congrArg a (by omega))
  have e4 : b (4 * (0 + 1)) = a (4 * (2 * n + 1)) := (h 4 (by omega)).trans (congrArg a (by omega))
  have e5 : b (4 * (0 + 1) + 1) = a (4 * (2 * n + 1) + 1) := (h 5 (by omega)).trans (congrArg a (by omega))
  have e6 : b (4 * (0 + 1) + 2) = a (4 * (2 * n + 1) + 2) := (h 6 (by omega)).trans (congrArg a (by omega))
  have e7 : b (4 * (0 + 1) + 3) = a (4 * (2 * n + 1) + 3) := (h 7 (by omega)).trans (congrArg a (by omega))
  rw [show 2 * (n + 1) = 2 * n + 1 + 1 from by ring, show (2 : ℕ) = 0 + 1 + 1 from rfl]
  constructor
  · simp only [Softmax.runM, e0, e1, e2, e3, e4, e5, e6, e7]
  · simp only [runG, Softmax.runM, e0, e1, e2, e3, e4, e5, e6, e7]

/-- The data of one launch: the rows, the dequantised sampled rows by column number, the columns' ids and log-probabilities,
    and the rows' targets. -/
structure Prob where
  x : Fin 1280 → Fin 1536 → EReal
  w : ℕ → Fin 1536 → EReal
  ids : ℕ → BitVec 32
  lq : ℕ → EReal
  tg : Fin 1280 → BitVec 32

variable (P : Prob)

/-- The logit of row `R` at column `j`, less the column's log-probability. -/
def neg (R : Fin 1280) (j : ℕ) : EReal := (∑ k : Fin 1536, P.x R k * P.w j k) - P.lq j

/-- The masked logit: an accidental hit counts for nothing. -/
def nm (R : Fin 1280) (j : ℕ) : EReal := if P.tg R = P.ids j then ⊥ else neg P R j

/-- The kept logit: an accidental hit is kept as zero. -/
def kept (R : Fin 1280) (j : ℕ) : EReal := if P.tg R = P.ids j then 0 else neg P R j

/-- The masked logits of one lane, as a sequence. -/
def lane (R : Fin 1280) (l : Fin 128) (k : ℕ) : EReal := nm P R (128 * k + l.val)

/-- The value the running maximum starts from. -/
def floor : EReal := Ideal.ofBits .f32 0xFF61B1E6#32

/-- The lanes' maxima after the first `n` tiles of 1024 columns. -/
def mAt (n : ℕ) : Vec Ideal S1280x128 .f32 := fun y => Softmax.runM floor (lane P (y 0) (y 1)) (2 * n)

/-- The lanes' sums after the first `n` tiles. -/
def sAt (n : ℕ) : Vec Ideal S1280x128 .f32 := fun y => runG 0 floor (lane P (y 0) (y 1)) (2 * n)

/-- The kept logits of tile `n`. -/
def keptBlk (n : ℕ) : Vec Ideal S640x1024 .f32 := fun y =>
  kept P ⟨(y 0).val, Nat.lt_of_lt_of_le (y 0).isLt (by decide)⟩ (1024 * n + (y 1).val)

/-- The operands of a grid point are those of tile `n`. -/
structure IsTile (n : ℕ) (X : Vec Ideal S1280x1536 .bf16) (W : Vec Ideal S1024x1536 .bf16) (I : Vec Ideal S1x1024 .i32)
    (q : Vec Ideal S1x1024 .f32) (T : Vec Ideal S1280x128 .i32) : Prop where
  hX : ∀ R k, X (Idealize.ShloMosaic.ix2 R k) = P.x R k
  hW : ∀ r k, W (Idealize.ShloMosaic.ix2 r k) = P.w (1024 * n + r.val) k
  hI : ∀ r, I (Idealize.ShloMosaic.ix2 (0 : Fin 1) r) = P.ids (1024 * n + r.val)
  hq : ∀ r, q (Idealize.ShloMosaic.ix2 (0 : Fin 1) r) = P.lq (1024 * n + r.val)
  hT : ∀ R l, T (Idealize.ShloMosaic.ix2 R l) = P.tg R

section
variable {P} {n : ℕ} {X : Vec Ideal S1280x1536 .bf16} {W : Vec Ideal S1024x1536 .bf16} {I : Vec Ideal S1x1024 .i32}
  {q : Vec Ideal S1x1024 .f32} {T : Vec Ideal S1280x128 .i32} (h : IsTile P n X W I q T)
include h

theorem IsTile.neg (R : Fin 1280) (r : Fin 1024) : negF X W q R r = Problem.neg P R (1024 * n + r.val) := by
  unfold negF Problem.neg
  rw [h.hq]
  congr 1
  exact Finset.sum_congr rfl fun k _ => by rw [h.hX, h.hW]

theorem IsTile.hit (R : Fin 1280) (r : Fin 1024) : hitF I T R r ↔ P.tg R = P.ids (1024 * n + r.val) := by
  unfold hitF; rw [h.hI, h.hT]

theorem IsTile.nm (R : Fin 1280) (r : Fin 1024) : nmF X W I q T R r = Problem.nm P R (1024 * n + r.val) := by
  unfold nmF Problem.nm
  rw [h.neg]
  by_cases c : P.tg R = P.ids (1024 * n + r.val)
  · rw [if_pos c, if_pos ((h.hit R r).mpr c)]
  · rw [if_neg c, if_neg fun g => c ((h.hit R r).mp g)]

theorem IsTile.z (R : Fin 1280) (r : Fin 1024) : zF X W I q T R r = kept P R (1024 * n + r.val) := by
  unfold zF kept
  rw [h.neg]
  by_cases c : P.tg R = P.ids (1024 * n + r.val)
  · rw [if_pos c, if_pos ((h.hit R r).mpr c)]
  · rw [if_neg c, if_neg fun g => c ((h.hit R r).mp g)]

/-- The kept logits of a point are the tile's. -/
theorem IsTile.keptBlk : nBlk X W I q T = keptBlk P n := funext fun y => h.z _ (y 1)

/-- A lane's columns in the tile go on where the lane's columns so far ended. -/
theorem IsTile.cols (R : Fin 1280) (l : Fin 128) (k : ℕ) (hk : k < 8) : cols X W I q T R l k = lane P R l (8 * n + k) := by
  unfold Step.cols lane
  rw [dif_pos hk, h.nm]
  congr 1
  show 1024 * n + (128 * k + l.val) = 128 * (8 * n + k) + l.val
  omega

/-- The lanes' maxima after the tile. -/
theorem IsTile.mBlk {M : Vec Ideal S1280x128 .f32} (hM : M = mAt P n) : mBlk X W I q T M = mAt P (n + 1) := by
  subst hM
  funext y
  exact (run_shift 0 floor (lane P (y 0) (y 1)) _ n fun k hk => h.cols (y 0) (y 1) k hk).1

/-- The lanes' sums after the tile. -/
theorem IsTile.sBlk {M S : Vec Ideal S1280x128 .f32} (hM : M = mAt P n) (hS : S = sAt P n) : sBlk X W I q T M S = sAt P (n + 1) := by
  subst hM hS
  funext y
  exact (run_shift 0 floor (lane P (y 0) (y 1)) _ n fun k hk => h.cols (y 0) (y 1) k hk).2

end

/-- The table depends on the block of words and scales it is made from only. -/
theorem tab_congr {n n' : ℕ} (X2 : (⟨4, ![n, 12, 8, 128]⟩ : Shape).Idx → BitVec 32) (X3 : (⟨3, ![n, 8, 128]⟩ : Shape).Idx → BitVec 32)
    (Y2 : (⟨4, ![n', 12, 8, 128]⟩ : Shape).Idx → BitVec 32) (Y3 : (⟨3, ![n', 8, 128]⟩ : Shape).Idx → BitVec 32) (q : Fin n) (q' : Fin n')
    (h2 : ∀ a b l, X2 (ix4 q a b l) = Y2 (ix4 q' a b l)) (h3 : ∀ b l, X3 (ix3 q b l) = Y3 (ix3 q' b l)) (r : Fin 32) (col : Fin 1536) :
    tab X2 X3 q r col = tab Y2 Y3 q' r col := by
  unfold tab; rw [h2, h3]

/-- The operands of point `n` of a chunk are those of tile `B + n`, from the arrays the point's blocks are cut from. -/
theorem isTile_of {N L : ℕ} (B n : ℕ) (X : Vec Ideal S1280x1536 .bf16) (x2 : Vec Ideal S32x12x8x128 .i32) (x3 : Vec Ideal S32x8x128 .i32)
    (I : Vec Ideal S1x1024 .i32) (q : Vec Ideal S1x1024 .f32) (T : Vec Ideal S1280x128 .i32)
    (Aw : (⟨4, ![N, 12, 8, 128]⟩ : Shape).Idx → BitVec 32) (Ap : (⟨3, ![N, 8, 128]⟩ : Shape).Idx → BitVec 32)
    (Ai : (⟨2, ![1, L]⟩ : Shape).Idx → BitVec 32) (Aq : (⟨2, ![1, L]⟩ : Shape).Idx → EReal)
    (hN : 32 * n + 32 ≤ N) (hL : 1024 * n + 1024 ≤ L)
    (h2 : ∀ (k : Fin 32) a b l, x2 (ix4 k a b l) = Aw (ix4 (⟨32 * n + k.val, by omega⟩ : Fin N) a b l))
    (h3 : ∀ (k : Fin 32) b l, x3 (ix3 k b l) = Ap (ix3 (⟨32 * n + k.val, by omega⟩ : Fin N) b l))
    (hi : ∀ r : Fin 1024, I (Idealize.ShloMosaic.ix2 (0 : Fin 1) r) = Ai (Idealize.ShloMosaic.ix2 (0 : Fin 1) (⟨1024 * n + r.val, by omega⟩ : Fin L)))
    (hq : ∀ r : Fin 1024, q (Idealize.ShloMosaic.ix2 (0 : Fin 1) r) = Aq (Idealize.ShloMosaic.ix2 (0 : Fin 1) (⟨1024 * n + r.val, by omega⟩ : Fin L)))
    (hX : ∀ R k, X (Idealize.ShloMosaic.ix2 R k) = P.x R k)
    (hW : ∀ (k : Fin N) (r : Fin 32) col, tab Aw Ap k r col = P.w (1024 * B + (32 * k.val + r.val)) col)
    (hI : ∀ j : Fin L, Ai (Idealize.ShloMosaic.ix2 (0 : Fin 1) j) = P.ids (1024 * B + j.val))
    (hQ : ∀ j : Fin L, Aq (Idealize.ShloMosaic.ix2 (0 : Fin 1) j) = P.lq (1024 * B + j.val))
    (hT : ∀ R l, T (Idealize.ShloMosaic.ix2 R l) = P.tg R) : IsTile P (B + n) X (scr x2 x3) I q T where
  hX := hX
  hT := hT
  hI r := by rw [hi, hI]; exact congrArg P.ids (show 1024 * B + (1024 * n + r.val) = 1024 * (B + n) + r.val by omega)
  hq r := by rw [hq, hQ]; exact congrArg P.lq (show 1024 * B + (1024 * n + r.val) = 1024 * (B + n) + r.val by omega)
  hW r k := by
    rw [scr_at x2 x3 (⟨r.val / 32, by omega⟩ : Fin 32) (⟨r.val % 32, by omega⟩ : Fin 32) k _
      (show r.val = 32 * (r.val / 32) + r.val % 32 by omega) rfl,
      tab_congr x2 x3 Aw Ap _ (⟨32 * n + r.val / 32, by omega⟩ : Fin N) (fun a b l => h2 _ a b l) (fun b l => h3 _ b l), hW]
    exact congrArg (P.w · k) (show 1024 * B + (32 * (32 * n + r.val / 32) + r.val % 32) = 1024 * (B + n) + r.val by omega)

/-- What the points of a chunk that starts at tile `B` leave, by induction on the points: the first point starts from the lanes given
    to it, a later one from those the point before left. -/
theorem chunk_points {N : ℕ} (B : ℕ) (f : ∀ n, n < N → Vec Ideal S640x1024 .f32 × Vec Ideal S1280x128 .f32 × Vec Ideal S1280x128 .f32)
    (X : ∀ n, n < N → Vec Ideal S1280x1536 .bf16) (W : ∀ n, n < N → Vec Ideal S1024x1536 .bf16) (I : ∀ n, n < N → Vec Ideal S1x1024 .i32)
    (q : ∀ n, n < N → Vec Ideal S1x1024 .f32) (T : ∀ n, n < N → Vec Ideal S1280x128 .i32) (M S : Vec Ideal S1280x128 .f32)
    (ht : ∀ n h, IsTile P (B + n) (X n h) (W n h) (I n h) (q n h) (T n h)) (hM : M = mAt P B) (hS : S = sAt P B)
    (hA : ∀ h : 0 < N, f 0 h = (nBlk (X 0 h) (W 0 h) (I 0 h) (q 0 h) (T 0 h), mBlk (X 0 h) (W 0 h) (I 0 h) (q 0 h) (T 0 h) M,
      sBlk (X 0 h) (W 0 h) (I 0 h) (q 0 h) (T 0 h) M S))
    (hB : ∀ n (h : n + 1 < N), f (n + 1) h = (nBlk (X _ h) (W _ h) (I _ h) (q _ h) (T _ h),
      mBlk (X _ h) (W _ h) (I _ h) (q _ h) (T _ h) (f n (Nat.lt_of_succ_lt h)).2.1,
      sBlk (X _ h) (W _ h) (I _ h) (q _ h) (T _ h) (f n (Nat.lt_of_succ_lt h)).2.1 (f n (Nat.lt_of_succ_lt h)).2.2)) :
    ∀ n h, f n h = (keptBlk P (B + n), mAt P (B + n + 1), sAt P (B + n + 1)) := by
  intro n
  induction n with
  | zero => intro h; rw [hA h, (ht 0 h).keptBlk, (ht 0 h).mBlk hM, (ht 0 h).sBlk hM hS]
  | succ n ih =>
    intro h
    have e := ih (Nat.lt_of_succ_lt h)
    rw [hB n h, (ht _ h).keptBlk, (ht _ h).mBlk (by rw [e]; rfl), (ht _ h).sBlk (by rw [e]; rfl) (by rw [e]; rfl)]

end Cert.Proof.Problem

end
-- ==== Proof.RefTable.lean ====
/- The reference's dequantised table, read at an index. -/
module

public import proofs.«01_k».proof.Proof.Scratch
public import proofs.«01_k».proof.Proof.Gen.ReferenceIdeal.Read

@[expose] public section

noncomputable section

namespace Cert.Proof.RefTable

open Idealize.ShloMosaic Cert.ReferenceIdeal Cert.ReferenceIdeal.Read Cert.Proof.Dequant

/-- A byte of a word, by a left and an arithmetic right shift. -/
theorem byte_shift (w : BitVec 32) (b : ℕ) (hb : b < 4) :
    ((w <<< (24 - 8 * b)).sshiftRight 24).toInt = (w.extractLsb' (8 * b) 8).toInt := by
  have e : (w <<< (24 - 8 * b)).sshiftRight 24 = (w.extractLsb' (8 * b) 8).signExtend 32 := by
    apply BitVec.eq_of_getLsbD_eq
    intro i hi
    rw [BitVec.getLsbD_sshiftRight, BitVec.getLsbD_signExtend]
    simp only [BitVec.msb_eq_getLsbD_last, BitVec.getLsbD_shiftLeft, BitVec.getLsbD_extractLsb']
    by_cases h : i < 8
    · simp [h, hi, show 24 + i < 32 by omega, show ¬ (24 + i < 24 - 8 * b) by omega, show 24 + i - (24 - 8 * b) = 8 * b + i by omega,
        show ¬ 32 ≤ i by omega]
    · simp [h, hi, show ¬ 24 + i < 32 by omega, show ¬ (31 < 24 - 8 * b) by omega, show 31 - (24 - 8 * b) = 8 * b + 7 by omega,
        show ¬ 32 ≤ i by omega]
  rw [e, BitVec.toInt_signExtend_of_le (by decide)]

theorem low_half (w : BitVec 32) : Ideal.ieee 8 23 (w <<< 16) = Ideal.ieee 8 7 (w.extractLsb' (16 * 0) 16) :=
  ieee_widen _ _ (by
    apply BitVec.eq_of_getLsbD_eq
    intro i hi
    simp only [BitVec.getLsbD_extractLsb', BitVec.getLsbD_shiftLeft, show 16 + i < 32 by omega, show ¬ 16 + i < 16 by omega,
      show 16 + i - 16 = 16 * 0 + i by omega, decide_true, decide_false, Bool.not_false, Bool.true_and]) (by
    apply BitVec.eq_of_getLsbD_eq
    intro i hi
    simp [BitVec.getLsbD_extractLsb', BitVec.getLsbD_shiftLeft, hi])

theorem high_half (w : BitVec 32) : Ideal.ieee 8 23 (w &&& 4294901760#32) = Ideal.ieee 8 7 (w.extractLsb' (16 * 1) 16) := by
  have h1 : ∀ i < 16, (4294901760#32 : BitVec 32).getLsbD (16 + i) = true := by decide
  have h0 : ∀ i < 16, (4294901760#32 : BitVec 32).getLsbD (0 + i) = false := by decide
  exact ieee_widen _ _ (by
    apply BitVec.eq_of_getLsbD_eq
    intro i hi
    simp only [BitVec.getLsbD_extractLsb', BitVec.getLsbD_and, h1 i hi, Bool.and_true, Nat.mul_one]) (by
    apply BitVec.eq_of_getLsbD_eq
    intro i hi
    simp only [BitVec.getLsbD_extractLsb', BitVec.getLsbD_and, h0 i hi, Bool.and_false, BitVec.getLsbD_zero])

section
variable (x2 : (⟨S128x12x8x128, .i32⟩ : BufTy).Contents (Elt Ideal)) (x3 : (⟨S384x12x8x128, .i32⟩ : BufTy).Contents (Elt Ideal))
  (x4 x5 x6 : (⟨S512x12x8x128, .i32⟩ : BufTy).Contents (Elt Ideal)) (x7 : (⟨S40x12x8x128, .i32⟩ : BufTy).Contents (Elt Ideal))
  (x8 : (⟨S128x8x128, .i32⟩ : BufTy).Contents (Elt Ideal)) (x9 : (⟨S384x8x128, .i32⟩ : BufTy).Contents (Elt Ideal))
  (x10 x11 x12 : (⟨S512x8x128, .i32⟩ : BufTy).Contents (Elt Ideal)) (x13 : (⟨S40x8x128, .i32⟩ : BufTy).Contents (Elt Ideal))

/-- The signed bytes of the words, the byte's number first. -/
theorem bytes_at (b : ℕ) (hb : b < 4) (q : Fin 2088) (ch : Fin 12) (s : Fin 8) (l : Fin 128) :
    (val_main_v25 (F := Ideal) x2 x3 x4 x5 x6 x7 (Idealize.ShloMosaic.ix5 (⟨b, hb⟩ : Fin 4) q ch s l)).toInt
      = ((val_main_v3 (F := Ideal) x2 x3 x4 x5 x6 x7 (Idealize.ShloMosaic.ix4 q ch s l)).extractLsb' (8 * b) 8).toInt := by
  have key : ∀ (k : ℕ) (hk : k < 4) (w : BitVec 32), IntOp.shrsi .host (IntOp.shli .host w (BitVec.ofNat 32 (24 - 8 * k))) 24#32
      = (w <<< (24 - 8 * k)).sshiftRight 24 := by
    intro k hk w
    have e : (BitVec.ofNat 32 (24 - 8 * k)).toNat = 24 - 8 * k := by rw [BitVec.toNat_ofNat]; exact Nat.mod_eq_of_lt (by omega)
    unfold IntOp.shli IntOp.shrsi
    rw [if_pos (by decide : (24#32).toNat < 32), if_pos (by rw [e]; omega), BitVec.shiftLeft_eq', e]
    rfl
  rw [← byte_shift _ b hb]
  refine congrArg BitVec.toInt ?_
  unfold val_main_v25
  have off : ∀ (b : Fin 4) (a : Fin 5), a ≠ 0 → (Idealize.ShloMosaic.ix5 (0 : Fin 1) q ch s l a).val = (Idealize.ShloMosaic.ix5 b q ch s l a).val := by
    intro b a ha
    match a, ha with
    | ⟨0, _⟩, ha => exact absurd rfl ha
    | ⟨1, _⟩, _ => rfl
    | ⟨2, _⟩, _ => rfl
    | ⟨3, _⟩, _ => rfl
    | ⟨4, _⟩, _ => rfl
  match b, hb with
  | 0, _ =>
    refine Eq.trans (concatenate_apply_piece _ _ _ _ 0 ?_ S1x2088x12x8x128 (val_main_v21 (F := Ideal) x2 x3 x4 x5 x6 x7)
      ?_ ?_ 0 ?_ (Idealize.ShloMosaic.ix5 (0 : Fin 1) q ch s l) ?_ ?_) ?_
    · simp
    · rfl
    · rfl
    · rfl
    · exact off _
    · exact rfl

    rw [val_main_v21_apply, val_main_v8_apply, val_main_v6_apply, val_main_v5_apply, val_main_v7_apply, ← key 0 (by decide)]
    have hi : idx_main_v21 (Idealize.ShloMosaic.ix5 (0 : Fin 1) q ch s l) = Idealize.ShloMosaic.ix4 q ch s l := by
      funext a; match a with | ⟨0, _⟩ => rfl | ⟨1, _⟩ => rfl | ⟨2, _⟩ => rfl | ⟨3, _⟩ => rfl
    have hs : val_main_c (F := Ideal) (idx_main_v5 (idx_main_v21 (Idealize.ShloMosaic.ix5 (0 : Fin 1) q ch s l))) = BitVec.ofNat 32 (24 - 8 * 0) := rfl
    have ht : val_main_c_0 (F := Ideal) (idx_main_v7 (idx_main_v21 (Idealize.ShloMosaic.ix5 (0 : Fin 1) q ch s l))) = 24#32 := rfl
    rw [hs, ht, hi]
  | 1, _ =>
    refine Eq.trans (concatenate_apply_piece _ _ _ _ 1 ?_ S1x2088x12x8x128 (val_main_v22 (F := Ideal) x2 x3 x4 x5 x6 x7)
      ?_ ?_ 1 ?_ (Idealize.ShloMosaic.ix5 (0 : Fin 1) q ch s l) ?_ ?_) ?_
    · simp
    · rfl
    · rfl
    · rfl
    · exact off _
    · exact rfl

    rw [val_main_v22_apply, val_main_v12_apply, val_main_v10_apply, val_main_v9_apply, val_main_v11_apply, ← key 1 (by decide)]
    have hi : idx_main_v22 (Idealize.ShloMosaic.ix5 (0 : Fin 1) q ch s l) = Idealize.ShloMosaic.ix4 q ch s l := by
      funext a; match a with | ⟨0, _⟩ => rfl | ⟨1, _⟩ => rfl | ⟨2, _⟩ => rfl | ⟨3, _⟩ => rfl
    have hs : val_main_c_1 (F := Ideal) (idx_main_v9 (idx_main_v22 (Idealize.ShloMosaic.ix5 (0 : Fin 1) q ch s l))) = BitVec.ofNat 32 (24 - 8 * 1) := rfl
    have ht : val_main_c_2 (F := Ideal) (idx_main_v11 (idx_main_v22 (Idealize.ShloMosaic.ix5 (0 : Fin 1) q ch s l))) = 24#32 := rfl
    rw [hs, ht, hi]
  | 2, _ =>
    refine Eq.trans (concatenate_apply_piece _ _ _ _ 2 ?_ S1x2088x12x8x128 (val_main_v23 (F := Ideal) x2 x3 x4 x5 x6 x7)
      ?_ ?_ 2 ?_ (Idealize.ShloMosaic.ix5 (0 : Fin 1) q ch s l) ?_ ?_) ?_
    · simp
    · rfl
    · rfl
    · rfl
    · exact off _
    · exact rfl

    rw [val_main_v23_apply, val_main_v16_apply, val_main_v14_apply, val_main_v13_apply, val_main_v15_apply, ← key 2 (by decide)]
    have hi : idx_main_v23 (Idealize.ShloMosaic.ix5 (0 : Fin 1) q ch s l) = Idealize.ShloMosaic.ix4 q ch s l := by
      funext a; match a with | ⟨0, _⟩ => rfl | ⟨1, _⟩ => rfl | ⟨2, _⟩ => rfl | ⟨3, _⟩ => rfl
    have hs : val_main_c_3 (F := Ideal) (idx_main_v13 (idx_main_v23 (Idealize.ShloMosaic.ix5 (0 : Fin 1) q ch s l))) = BitVec.ofNat 32 (24 - 8 * 2) := rfl
    have ht : val_main_c_4 (F := Ideal) (idx_main_v15 (idx_main_v23 (Idealize.ShloMosaic.ix5 (0 : Fin 1) q ch s l))) = 24#32 := rfl
    rw [hs, ht, hi]
  | 3, _ =>
    refine Eq.trans (concatenate_apply_piece _ _ _ _ 3 ?_ S1x2088x12x8x128 (val_main_v24 (F := Ideal) x2 x3 x4 x5 x6 x7)
      ?_ ?_ 3 ?_ (Idealize.ShloMosaic.ix5 (0 : Fin 1) q ch s l) ?_ ?_) ?_
    · simp
    · rfl
    · rfl
    · rfl
    · exact off _
    · exact rfl

    rw [val_main_v24_apply, val_main_v20_apply, val_main_v18_apply, val_main_v17_apply, val_main_v19_apply, ← key 3 (by decide)]
    have hi : idx_main_v24 (Idealize.ShloMosaic.ix5 (0 : Fin 1) q ch s l) = Idealize.ShloMosaic.ix4 q ch s l := by
      funext a; match a with | ⟨0, _⟩ => rfl | ⟨1, _⟩ => rfl | ⟨2, _⟩ => rfl | ⟨3, _⟩ => rfl
    have hs : val_main_c_5 (F := Ideal) (idx_main_v17 (idx_main_v24 (Idealize.ShloMosaic.ix5 (0 : Fin 1) q ch s l))) = BitVec.ofNat 32 (24 - 8 * 3) := rfl
    have ht : val_main_c_6 (F := Ideal) (idx_main_v19 (idx_main_v24 (Idealize.ShloMosaic.ix5 (0 : Fin 1) q ch s l))) = 24#32 := rfl
    rw [hs, ht, hi]

/-- A scale, from its half of a word. -/
theorem scale_at (q : Fin 2088) (s : Fin 8) (h : Fin 2) (l : Fin 128) :
    val_main_v38 (F := Ideal) x8 x9 x10 x11 x12 x13 (Idealize.ShloMosaic.ix4 q s h l)
      = Ideal.ieee 8 7 ((val_main_v4 (F := Ideal) x8 x9 x10 x11 x12 x13 (Idealize.ShloMosaic.ix3 q s l)).extractLsb' (16 * h.val) 16) := by
  rw [val_main_v38_apply, val_main_v37_apply]
  unfold val_main_v36
  have fin : ∀ w w' : BitVec 32, w = w' → FloatOps.truncf (F := Ideal) .bf16 Cert.ReferenceIdeal.Gen.bitsLt_bf16_f32 (FloatOps.ofBits (F := Ideal) .f32 w) = Ideal.ieee 8 23 w' := by
    rintro w _ rfl; rfl
  have off : ∀ (h : Fin 2) (a : Fin 4), a ≠ 2 → (Idealize.ShloMosaic.ix4 q s (0 : Fin 1) l a).val = (Idealize.ShloMosaic.ix4 q s h l a).val := by
    intro h a ha
    match a, ha with
    | ⟨2, _⟩, ha => exact absurd rfl ha
    | ⟨0, _⟩, _ => rfl
    | ⟨1, _⟩, _ => rfl
    | ⟨3, _⟩, _ => rfl
  match h with
  | ⟨0, _⟩ =>
    refine (fin _ _ ?_).trans (low_half _)
    refine Eq.trans (concatenate_apply_piece _ _ _ _ 0 ?_ S2088x8x1x128 (val_main_v34 (F := Ideal) x8 x9 x10 x11 x12 x13)
      ?_ ?_ 0 ?_ (Idealize.ShloMosaic.ix4 q s (0 : Fin 1) l) ?_ ?_) ?_
    · simp
    · rfl
    · rfl
    · rfl
    · exact (off 0)
    · exact rfl
    rw [val_main_v34_apply, val_main_v31_apply, val_main_v30_apply]
    have hi : idx_main_v34 (Idealize.ShloMosaic.ix4 q s (0 : Fin 1) l) = Idealize.ShloMosaic.ix3 q s l := by
      funext a; match a with | ⟨0, _⟩ => rfl | ⟨1, _⟩ => rfl | ⟨2, _⟩ => rfl
    rw [hi]
    rfl
  | ⟨1, _⟩ =>
    refine (fin _ _ ?_).trans (high_half _)
    refine Eq.trans (concatenate_apply_piece _ _ _ _ 1 ?_ S2088x8x1x128 (val_main_v35 (F := Ideal) x8 x9 x10 x11 x12 x13)
      ?_ ?_ 1 ?_ (Idealize.ShloMosaic.ix4 q s (0 : Fin 1) l) ?_ ?_) ?_
    · simp
    · rfl
    · rfl
    · rfl
    · exact (off 1)
    · exact rfl
    rw [val_main_v35_apply, val_main_v33_apply, val_main_v32_apply]
    have hi : idx_main_v35 (Idealize.ShloMosaic.ix4 q s (0 : Fin 1) l) = Idealize.ShloMosaic.ix3 q s l := by
      funext a; match a with | ⟨0, _⟩ => rfl | ⟨1, _⟩ => rfl | ⟨2, _⟩ => rfl
    rw [hi]
    rfl

/-- The scales of a row, in the order of the columns. -/
theorem scales_at (j : Fin 66816) (g : Fin 24) :
    val_main_v45 (F := Ideal) x8 x9 x10 x11 x12 x13 (Idealize.ShloMosaic.ix2 j g)
      = val_main_v41 (F := Ideal) x8 x9 x10 x11 x12 x13 (Idealize.ShloMosaic.ix2 j (⟨glane g.val, by have := glane_lt g.val g.isLt; omega⟩ : Fin 64)) := by
  unfold val_main_v45
  have off : ∀ (p : Fin 8) (a : Fin 2), a ≠ 1 → (Idealize.ShloMosaic.ix2 j p a).val = (Idealize.ShloMosaic.ix2 j g a).val := by
    intro h a ha
    match a, ha with
    | ⟨1, _⟩, ha => exact absurd rfl ha
    | ⟨0, _⟩, _ => rfl
  have fin : ∀ i : S66816x64.Idx, (i 0).val = j.val → (i 1).val = glane g.val → val_main_v41 (F := Ideal) x8 x9 x10 x11 x12 x13 i
      = val_main_v41 (F := Ideal) x8 x9 x10 x11 x12 x13 (Idealize.ShloMosaic.ix2 j (⟨glane g.val, by have := glane_lt g.val g.isLt; omega⟩ : Fin 64)) := by
    intro i h0 h1
    refine congrArg _ (funext fun a => ?_)
    match a with
    | ⟨0, _⟩ => exact Fin.ext h0
    | ⟨1, _⟩ => exact Fin.ext h1
  have hg := g.isLt
  rcases Nat.lt_or_ge g.val 8 with h8 | h8
  · refine Eq.trans (concatenate_apply_piece _ _ _ _ 0 ?_ S66816x8 (val_main_v42 (F := Ideal) x8 x9 x10 x11 x12 x13)
      ?_ ?_ 0 ?_ (Idealize.ShloMosaic.ix2 j (⟨g.val, h8⟩ : Fin 8)) ?_ ?_) ?_
    · simp
    · rfl
    · rfl
    · rfl
    · exact (off _)
    · exact (Nat.zero_add _)
    rw [val_main_v42_apply]
    refine fin _ ?_ ?_
    · rfl
    · show g.val = glane g.val; unfold glane; rw [if_pos h8]
  · rcases Nat.lt_or_ge g.val 16 with h16 | h16
    · refine Eq.trans (concatenate_apply_piece _ _ _ _ 1 ?_ S66816x8 (val_main_v43 (F := Ideal) x8 x9 x10 x11 x12 x13)
        ?_ ?_ 8 ?_ (Idealize.ShloMosaic.ix2 j (⟨g.val - 8, by omega⟩ : Fin 8)) ?_ ?_) ?_
      · simp
      · rfl
      · rfl
      · rfl
      · exact (off _)
      · exact (show 8 + (g.val - 8) = g.val by omega)
      rw [val_main_v43_apply]
      refine fin _ ?_ ?_
      · rfl
      · show 16 + (g.val - 8) = glane g.val; unfold glane; rw [if_neg (by omega), if_pos h16]; omega
    · refine Eq.trans (concatenate_apply_piece _ _ _ _ 2 ?_ S66816x8 (val_main_v44 (F := Ideal) x8 x9 x10 x11 x12 x13)
        ?_ ?_ 16 ?_ (Idealize.ShloMosaic.ix2 j (⟨g.val - 16, by omega⟩ : Fin 8)) ?_ ?_) ?_
      · simp
      · rfl
      · rfl
      · rfl
      · exact (off _)
      · exact (show 16 + (g.val - 16) = g.val by omega)
      rw [val_main_v44_apply]
      refine fin _ ?_ ?_
      · rfl
      · show 8 + (g.val - 16) = glane g.val; unfold glane; rw [if_neg (by omega), if_neg (by omega)]; omega

theorem pair_row (a b c p : ℕ) (hb : b < 16) (hc : c < 2) (hp : p < 64) (r : ℕ) (hr : b = r) : (a * 2048 + b * 128 + c * 64 + p) / 256 % 8 = r / 2 := by
  omega

theorem pair_half (a b c p : ℕ) (hc : c < 2) (hp : p < 64) (r : ℕ) (hr : b % 2 = r) : (a * 2048 + b * 128 + c * 64 + p) / 128 % 2 = r := by
  omega

/-- An entry of the dequantised table is an entry of the packed rows times its scale. -/
theorem table_at (j : Fin 66816) (col : Fin 1536) :
    val_main_v49 (F := Ideal) x2 x3 x4 x5 x6 x7 x8 x9 x10 x11 x12 x13 (Idealize.ShloMosaic.ix2 j col)
      = tab (val_main_v3 (F := Ideal) x2 x3 x4 x5 x6 x7) (val_main_v4 (F := Ideal) x8 x9 x10 x11 x12 x13)
          ⟨j.val / 32, by omega⟩ ⟨j.val % 32, by omega⟩ col := by
  rw [val_main_v49_apply, val_main_v48_apply, val_main_v29_apply, val_main_v28_apply, val_main_v27_apply, val_main_v26_apply, val_main_v47_apply,
    val_main_v46_apply]
  have hj := j.isLt
  have hcol := col.isLt
  have hr : (j.val * 1536 + col.val) / 1536 = j.val := by omega
  have hg : (j.val * 1536 + col.val) / 64 % 24 = col.val / 64 := by omega
  have hl : (j.val * 1536 + col.val) % 64 = col.val % 64 := by omega
  have hf : (j.val * 24 + col.val / 64) * 64 + col.val % 64 = j.val * 1536 + col.val := by omega
  have e1 : idx_main_v26 (idx_main_v27 (idx_main_v49 (Idealize.ShloMosaic.ix2 j col)))
      = Idealize.ShloMosaic.ix5 (⟨j.val % 32 % 4, Nat.mod_lt _ (by decide)⟩ : Fin 4) (⟨j.val / 32, by omega⟩ : Fin 2088) (⟨col.val / 128, by omega⟩ : Fin 12)
          (⟨j.val % 32 / 4, by omega⟩ : Fin 8) (⟨col.val % 128, by omega⟩ : Fin 128) := by
    funext a
    match a with
    | ⟨0, _⟩ => exact Fin.ext (show (((j.val * 1536 + col.val) / 1536 * 24 + (j.val * 1536 + col.val) / 64 % 24) * 64 + (j.val * 1536 + col.val) % 64) / 1536 % 4 = _ by
        rw [hr, hg, hl, hf]; show _ = j.val % 32 % 4; omega)
    | ⟨1, _⟩ => exact Fin.ext (show (((j.val * 1536 + col.val) / 1536 * 24 + (j.val * 1536 + col.val) / 64 % 24) * 64 + (j.val * 1536 + col.val) % 64) / 49152 = _ by
        rw [hr, hg, hl, hf]; show _ = j.val / 32; omega)
    | ⟨2, _⟩ => exact Fin.ext (show (((j.val * 1536 + col.val) / 1536 * 24 + (j.val * 1536 + col.val) / 64 % 24) * 64 + (j.val * 1536 + col.val) % 64) / 128 % 12 = _ by
        rw [hr, hg, hl, hf]; show _ = col.val / 128; omega)
    | ⟨3, _⟩ => exact Fin.ext (show (((j.val * 1536 + col.val) / 1536 * 24 + (j.val * 1536 + col.val) / 64 % 24) * 64 + (j.val * 1536 + col.val) % 64) / 6144 % 8 = _ by
        rw [hr, hg, hl, hf]; show _ = j.val % 32 / 4; omega)
    | ⟨4, _⟩ => exact Fin.ext (show (((j.val * 1536 + col.val) / 1536 * 24 + (j.val * 1536 + col.val) / 64 % 24) * 64 + (j.val * 1536 + col.val) % 64) % 128 = _ by
        rw [hr, hg, hl, hf]; show _ = col.val % 128; omega)
  have e2 : idx_main_v46 (idx_main_v47 (idx_main_v49 (Idealize.ShloMosaic.ix2 j col)))
      = Idealize.ShloMosaic.ix2 j (⟨col.val / 64, by omega⟩ : Fin 24) := by
    funext a
    match a with
    | ⟨0, _⟩ => exact Fin.ext hr
    | ⟨1, _⟩ => exact Fin.ext hg
  have hgl := glane_lt (col.val / 64) (by omega)
  have hp : ∀ p, p < 24 → (((j.val * 64 + p) / 2048 * 16 + (j.val * 64 + p) / 64 % 16) * 2 + (j.val * 64 + p) / 1024 % 2) * 64 + (j.val * 64 + p) % 64
      = j.val / 32 * 2048 + j.val % 16 * 128 + j.val % 32 / 16 * 64 + p := by intro p hp; omega
  have e3 : idx_main_v39 (idx_main_v40 (idx_main_v41 (Idealize.ShloMosaic.ix2 j (⟨glane (col.val / 64), by omega⟩ : Fin 64))))
      = Idealize.ShloMosaic.ix4 (⟨j.val / 32, by omega⟩ : Fin 2088) (⟨j.val % 32 % 16 / 2, by omega⟩ : Fin 8) (⟨j.val % 32 % 2, by omega⟩ : Fin 2)
          (⟨glane (col.val / 64) + 64 * (j.val % 32 / 16), by omega⟩ : Fin 128) := by
    have hq := hp (glane (col.val / 64)) (by omega)
    funext a
    match a with
    | ⟨0, _⟩ => exact Fin.ext ((congrArg (· / 2048) hq).trans (show _ = j.val / 32 by omega))
    | ⟨1, _⟩ => exact Fin.ext ((congrArg (· / 256 % 8) hq).trans (pair_row _ _ _ _ (by omega) (by omega) (by omega) _ (by omega)))
    | ⟨2, _⟩ => exact Fin.ext ((congrArg (· / 128 % 2) hq).trans (pair_half _ _ _ _ (by omega) (by omega) (j.val % 32 % 2) (by omega)))
    | ⟨3, _⟩ => exact Fin.ext ((congrArg (· % 128) hq).trans (show _ = glane (col.val / 64) + 64 * (j.val % 32 / 16) by omega))
  rw [e1, e2, scales_at, val_main_v41_apply, val_main_v40_apply, val_main_v39_apply]
  refine congr (congrArg _ (congrArg (fun z : ℤ => ((z : ℝ) : EReal)) (bytes_at x2 x3 x4 x5 x6 x7 _ (Nat.mod_lt _ (by decide)) _ _ _ _))) ?_
  exact (congrArg _ e3).trans (scale_at x8 x9 x10 x11 x12 x13 _ _ _ _)
end

end Cert.Proof.RefTable

end
-- ==== Proof.Launch.lean ====
/- The data of one launch, from the argument arrays, and what the host's operations hand each call. -/
module

public import proofs.«01_k».proof.Proof.Problem
public import proofs.«01_k».proof.Proof.RefTable
public import proofs.«01_k».proof.Proof.Gen.KernelIdeal.Frame.Fold0
import all proofs.«01_k».proof.Proof.Gen.KernelIdeal.Frame.Fold0

@[expose] public section

noncomputable section

namespace Cert.Proof.Launch

open Idealize.ShloMosaic Idealize.ShloMosaic.TcCoe Idealize.SL Cert.KernelIdeal Cert.KernelIdeal.Gen Cert.Proof.Problem Cert.Proof.Dequant

open Cert.ReferenceIdeal.Read in
/-- The rows, the table, the columns' ids and log-probabilities and the targets, from the argument arrays. -/
def prob (x0 : (⟨S2x640x1536, .bf16⟩ : BufTy).Contents (Elt Ideal)) (x1 : (⟨S2x640, .i32⟩ : BufTy).Contents (Elt Ideal))
    (x2 : (⟨S128x12x8x128, .i32⟩ : BufTy).Contents (Elt Ideal)) (x3 : (⟨S384x12x8x128, .i32⟩ : BufTy).Contents (Elt Ideal))
    (x4 x5 x6 : (⟨S512x12x8x128, .i32⟩ : BufTy).Contents (Elt Ideal)) (x7 : (⟨S40x12x8x128, .i32⟩ : BufTy).Contents (Elt Ideal))
    (x8 : (⟨S128x8x128, .i32⟩ : BufTy).Contents (Elt Ideal)) (x9 : (⟨S384x8x128, .i32⟩ : BufTy).Contents (Elt Ideal))
    (x10 x11 x12 : (⟨S512x8x128, .i32⟩ : BufTy).Contents (Elt Ideal)) (x13 : (⟨S40x8x128, .i32⟩ : BufTy).Contents (Elt Ideal))
    (x14 : (⟨S65536, .i32⟩ : BufTy).Contents (Elt Ideal)) (x15 : (⟨S65536, .f32⟩ : BufTy).Contents (Elt Ideal)) : Prob where
  x R k := val_main_v0 (F := Ideal) x0 (Idealize.ShloMosaic.ix2 R k)
  w j col := if h : j < 66816 then tab (val_main_v3 (F := Ideal) x2 x3 x4 x5 x6 x7) (val_main_v4 (F := Ideal) x8 x9 x10 x11 x12 x13)
    ⟨j / 32, by omega⟩ ⟨j % 32, by omega⟩ col else 0
  ids j := if h : j < 65536 then x14 (ix1 ⟨j, h⟩) else 0
  lq j := if h : j < 65536 then x15 (ix1 ⟨j, h⟩) else 0
  tg R := val_main_v1 (F := Ideal) x1 (ix1 R)

/-- A stretch of a long vector, as a row. -/
theorem row_at {n : ℕ} {α : Type} (o : ℕ) (ho : o + n ≤ 65536) (x : (⟨1, ![65536]⟩ : Shape).Idx → α)
    (hs : (⟨1, ![65536]⟩ : Shape).Slices ![o] ⟨1, ![n]⟩) (hb : (⟨1, ![n]⟩ : Shape).BroadcastsInDim ⟨2, ![1, n]⟩ ![1]) (j : Fin n) :
    broadcastInDim ⟨2, ![1, n]⟩ ![1] hb (extractStridedSlice ⟨1, ![n]⟩ ![o] x hs) (Idealize.ShloMosaic.ix2 (0 : Fin 1) j)
      = x (ix1 ⟨o + j.val, by omega⟩) := by
  rw [broadcastInDim_apply _ hb _ _ (ix1 j) (fun a => ?_)]
  · exact extractStridedSlice_apply _ _ _ _ _ (fun a => match a with | ⟨0, _⟩ => rfl)
  · match a with
    | ⟨0, _⟩ =>
      show j.val = if n = 1 then 0 else j.val
      split
      · omega
      · rfl

/-- A block of a piece of the joined words. -/
theorem piece4 (xs : List ((s : Shape) × (s.Idx → BitVec 32))) (h : Shape.Concatenates (xs.map (·.1)) Cert.ReferenceIdeal.S2088x12x8x128 (0 : Fin 4)) (n k : ℕ)
    (x : (⟨4, ![n, 12, 8, 128]⟩ : Shape).Idx → BitVec 32) (hk : k < xs.length) (hx : xs[k] = ⟨⟨4, ![n, 12, 8, 128]⟩, x⟩) (pre : ℕ)
    (hpre : (((xs.take k).map (·.1)).map fun s => if h : s.rank = Cert.ReferenceIdeal.S2088x12x8x128.rank then s.size ((0 : Fin 4).cast h.symm) else 0).sum = pre)
    (q : Fin n) (hq : pre + q.val < 2088) (a : Fin 12) (b : Fin 8) (l : Fin 128) :
    concatenate Cert.ReferenceIdeal.S2088x12x8x128 (0 : Fin 4) xs h (ix4 ⟨pre + q.val, hq⟩ a b l) = x (ix4 q a b l) := by
  refine concatenate_apply_piece (t := Cert.ReferenceIdeal.S2088x12x8x128) (0 : Fin 4) xs h _ k hk _ x hx rfl pre hpre (ix4 q a b l) (fun d hd => ?_) rfl
  match d, hd with
  | ⟨0, _⟩, hd => exact absurd rfl hd
  | ⟨1, _⟩, _ => rfl
  | ⟨2, _⟩, _ => rfl
  | ⟨3, _⟩, _ => rfl

/-- A block of a piece of the joined pairs. -/
theorem piece3 (xs : List ((s : Shape) × (s.Idx → BitVec 32))) (h : Shape.Concatenates (xs.map (·.1)) Cert.ReferenceIdeal.S2088x8x128 (0 : Fin 3)) (n k : ℕ)
    (x : (⟨3, ![n, 8, 128]⟩ : Shape).Idx → BitVec 32) (hk : k < xs.length) (hx : xs[k] = ⟨⟨3, ![n, 8, 128]⟩, x⟩) (pre : ℕ)
    (hpre : (((xs.take k).map (·.1)).map fun s => if h : s.rank = Cert.ReferenceIdeal.S2088x8x128.rank then s.size ((0 : Fin 3).cast h.symm) else 0).sum = pre)
    (q : Fin n) (hq : pre + q.val < 2088) (b : Fin 8) (l : Fin 128) :
    concatenate Cert.ReferenceIdeal.S2088x8x128 (0 : Fin 3) xs h (ix3 ⟨pre + q.val, hq⟩ b l) = x (ix3 q b l) := by
  refine concatenate_apply_piece (t := Cert.ReferenceIdeal.S2088x8x128) (0 : Fin 3) xs h _ k hk _ x hx rfl pre hpre (ix3 q b l) (fun d hd => ?_) rfl
  match d, hd with
  | ⟨0, _⟩, hd => exact absurd rfl hd
  | ⟨1, _⟩, _ => rfl
  | ⟨2, _⟩, _ => rfl

variable (m : (ℓ : Loc nD τ sig) → Buf (Elt Ideal) ℓ) (ρ : Dev nD → PrngReg) (c : Dev nD)

/-- The launch's data. -/
abbrev probOf : Prob := prob (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The ids and log-probabilities of the columns, from the arrays. -/
theorem ids_at (j : ℕ) (h : j < 65536) : (probOf m c).ids j = m ((c : Thread nD τ).loc main_arg14) (ix1 ⟨j, h⟩) := dif_pos h
theorem lq_at (j : ℕ) (h : j < 65536) : (probOf m c).lq j = m ((c : Thread nD τ).loc main_arg15) (ix1 ⟨j, h⟩) := dif_pos h

/-- A row of the table, from the piece it comes from. -/
theorem table_piece (n pre : ℕ) (X : (⟨4, ![n, 12, 8, 128]⟩ : Shape).Idx → BitVec 32) (Y : (⟨3, ![n, 8, 128]⟩ : Shape).Idx → BitVec 32) (k : Fin n)
    (hk : pre + k.val < 2088)
    (h2 : ∀ a b l, Cert.ReferenceIdeal.Read.val_main_v3 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 ⟨pre + k.val, hk⟩ a b l) = X (ix4 k a b l))
    (h3 : ∀ b l, Cert.ReferenceIdeal.Read.val_main_v4 (F := Ideal) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 ⟨pre + k.val, hk⟩ b l) = Y (ix3 k b l))
    (r : Fin 32) (col : Fin 1536) : tab X Y k r col = (probOf m c).w (32 * pre + (32 * k.val + r.val)) col := by
  have hj : 32 * pre + (32 * k.val + r.val) < 66816 := by omega
  refine Eq.trans ?_ (dif_pos hj).symm
  have e1 : (⟨(32 * pre + (32 * k.val + r.val)) / 32, by omega⟩ : Fin 2088) = ⟨pre + k.val, hk⟩ := Fin.ext (by show _ / 32 = pre + k.val; omega)
  have e2 : (⟨(32 * pre + (32 * k.val + r.val)) % 32, by omega⟩ : Fin 32) = r := Fin.ext (by show _ % 32 = r.val; omega)
  rw [e1, e2]
  exact (tab_congr _ _ _ _ _ _ h2 h3 r col).symm

theorem w_0 (k : Fin 128) (r : Fin 32) (col : Fin 1536) : tab (m ((c : Thread nD τ).loc main_arg2)) (m ((c : Thread nD τ).loc main_arg8)) k r col
    = (probOf m c).w (0 + (32 * k.val + r.val)) col :=
  table_piece m c 128 0 _ _ k (by omega) (fun a b l => by unfold Cert.ReferenceIdeal.Read.val_main_v3; exact piece4 _ _ 128 0 _ (by simp) rfl 0 rfl k _ a b l)
    (fun b l => by unfold Cert.ReferenceIdeal.Read.val_main_v4; exact piece3 _ _ 128 0 _ (by simp) rfl 0 rfl k _ b l) r col
theorem w_1 (k : Fin 384) (r : Fin 32) (col : Fin 1536) : tab (m ((c : Thread nD τ).loc main_arg3)) (m ((c : Thread nD τ).loc main_arg9)) k r col
    = (probOf m c).w (4096 + (32 * k.val + r.val)) col :=
  table_piece m c 384 128 _ _ k (by omega) (fun a b l => by unfold Cert.ReferenceIdeal.Read.val_main_v3; exact piece4 _ _ 384 1 _ (by simp) rfl 128 rfl k _ a b l)
    (fun b l => by unfold Cert.ReferenceIdeal.Read.val_main_v4; exact piece3 _ _ 384 1 _ (by simp) rfl 128 rfl k _ b l) r col
theorem w_2 (k : Fin 512) (r : Fin 32) (col : Fin 1536) : tab (m ((c : Thread nD τ).loc main_arg4)) (m ((c : Thread nD τ).loc main_arg10)) k r col
    = (probOf m c).w (16384 + (32 * k.val + r.val)) col :=
  table_piece m c 512 512 _ _ k (by omega) (fun a b l => by unfold Cert.ReferenceIdeal.Read.val_main_v3; exact piece4 _ _ 512 2 _ (by simp) rfl 512 rfl k _ a b l)
    (fun b l => by unfold Cert.ReferenceIdeal.Read.val_main_v4; exact piece3 _ _ 512 2 _ (by simp) rfl 512 rfl k _ b l) r col
theorem w_3 (k : Fin 512) (r : Fin 32) (col : Fin 1536) : tab (m ((c : Thread nD τ).loc main_arg5)) (m ((c : Thread nD τ).loc main_arg11)) k r col
    = (probOf m c).w (32768 + (32 * k.val + r.val)) col :=
  table_piece m c 512 1024 _ _ k (by omega) (fun a b l => by unfold Cert.ReferenceIdeal.Read.val_main_v3; exact piece4 _ _ 512 3 _ (by simp) rfl 1024 rfl k _ a b l)
    (fun b l => by unfold Cert.ReferenceIdeal.Read.val_main_v4; exact piece3 _ _ 512 3 _ (by simp) rfl 1024 rfl k _ b l) r col
theorem w_4 (k : Fin 512) (r : Fin 32) (col : Fin 1536) : tab (m ((c : Thread nD τ).loc main_arg6)) (m ((c : Thread nD τ).loc main_arg12)) k r col
    = (probOf m c).w (49152 + (32 * k.val + r.val)) col :=
  table_piece m c 512 1536 _ _ k (by omega) (fun a b l => by unfold Cert.ReferenceIdeal.Read.val_main_v3; exact piece4 _ _ 512 4 _ (by simp) rfl 1536 rfl k _ a b l)
    (fun b l => by unfold Cert.ReferenceIdeal.Read.val_main_v4; exact piece3 _ _ 512 4 _ (by simp) rfl 1536 rfl k _ b l) r col
theorem w_t (k : Fin 40) (r : Fin 32) (col : Fin 1536) : tab (m ((c : Thread nD τ).loc main_arg7)) (m ((c : Thread nD τ).loc main_arg13)) k r col
    = (probOf m c).w (65536 + (32 * k.val + r.val)) col :=
  table_piece m c 40 2048 _ _ k (by omega) (fun a b l => by unfold Cert.ReferenceIdeal.Read.val_main_v3; exact piece4 _ _ 40 5 _ (by simp) rfl 2048 rfl k _ a b l)
    (fun b l => by unfold Cert.ReferenceIdeal.Read.val_main_v4; exact piece3 _ _ 40 5 _ (by simp) rfl 2048 rfl k _ b l) r col

section
variable (W : Valuation τ sig (Elt Ideal))

/-- What the first stretch leaves: the reshaped rows. -/
theorem first_x : (StableHlo.after hostOps0 W) (Proc.devRef .tc main_v0) = shapeCast S1280x1536 (W (Proc.devRef .tc main_arg0)) shapeCasts_S2x640x1536_S1280x1536 := by
  after_results; rfl
theorem first_t : (StableHlo.after hostOps0 W) (Proc.devRef .tc main_v3) = broadcastInDim S1280x128 ![0, 1] bcast_S1280x1_S1280x128_0_1
    (broadcastInDim S1280x1 ![0] bcast_S1280_S1280x1_0 (shapeCast S1280 (W (Proc.devRef .tc main_arg1)) shapeCasts_S2x640_S1280)) := by
  after_results; rfl
theorem first_m : (StableHlo.after hostOps0 W) (Proc.devRef .tc main_v4) = broadcastInDim S1280x128 ![] bcast_S_S1280x128 (constant (F := Ideal) S_ .f32 0xFF61B1E6#32) := by
  after_results
theorem first_s : (StableHlo.after hostOps0 W) (Proc.devRef .tc main_v5) = broadcastInDim S1280x128 ![] bcast_S_S1280x128 (constant (F := Ideal) S_ .f32 0x00000000#32) := by
  after_results
theorem first_i : (StableHlo.after hostOps0 W) (Proc.devRef .tc main_v8) = broadcastInDim S1x4096 ![1] bcast_S4096_S1x4096_1 (extractStridedSlice S4096 ![0] (W (Proc.devRef .tc main_arg14)) slices_S65536_S4096_0) := by
  after_results
theorem first_q : (StableHlo.after hostOps0 W) (Proc.devRef .tc main_v9) = broadcastInDim S1x4096 ![1] bcast_S4096_S1x4096_1 (extractStridedSlice S4096 ![0] (W (Proc.devRef .tc main_arg15)) slices_S65536_S4096_0) := by
  after_results
theorem next1_i : (StableHlo.after hostOps1 W) (Proc.devRef .tc main_v13) = broadcastInDim S1x12288 ![1] bcast_S12288_S1x12288_1 (extractStridedSlice S12288 ![4096] (W (Proc.devRef .tc main_arg14)) slices_S65536_S12288_4096) := by
  after_results
theorem next1_q : (StableHlo.after hostOps1 W) (Proc.devRef .tc main_v14) = broadcastInDim S1x12288 ![1] bcast_S12288_S1x12288_1 (extractStridedSlice S12288 ![4096] (W (Proc.devRef .tc main_arg15)) slices_S65536_S12288_4096) := by
  after_results
theorem next1_o : (StableHlo.after hostOps1 W) (Proc.devRef .tc main_v15_0) = W (Proc.devRef .tc main_v10_0) := by
  after_results; rfl
theorem next2_i : (StableHlo.after hostOps2 W) (Proc.devRef .tc main_v18) = broadcastInDim S1x16384 ![1] bcast_S16384_S1x16384_1 (extractStridedSlice S16384 ![16384] (W (Proc.devRef .tc main_arg14)) slices_S65536_S16384_16384) := by
  after_results
theorem next2_q : (StableHlo.after hostOps2 W) (Proc.devRef .tc main_v19) = broadcastInDim S1x16384 ![1] bcast_S16384_S1x16384_1 (extractStridedSlice S16384 ![16384] (W (Proc.devRef .tc main_arg15)) slices_S65536_S16384_16384) := by
  after_results
theorem next2_o : (StableHlo.after hostOps2 W) (Proc.devRef .tc main_v20_0) = W (Proc.devRef .tc main_v15_0) := by
  after_results; rfl
theorem next3_i : (StableHlo.after hostOps3 W) (Proc.devRef .tc main_v23) = broadcastInDim S1x16384 ![1] bcast_S16384_S1x16384_1 (extractStridedSlice S16384 ![32768] (W (Proc.devRef .tc main_arg14)) slices_S65536_S16384_32768) := by
  after_results
theorem next3_q : (StableHlo.after hostOps3 W) (Proc.devRef .tc main_v24) = broadcastInDim S1x16384 ![1] bcast_S16384_S1x16384_1 (extractStridedSlice S16384 ![32768] (W (Proc.devRef .tc main_arg15)) slices_S65536_S16384_32768) := by
  after_results
theorem next3_o : (StableHlo.after hostOps3 W) (Proc.devRef .tc main_v25_0) = W (Proc.devRef .tc main_v20_0) := by
  after_results; rfl
theorem next4_i : (StableHlo.after hostOps4 W) (Proc.devRef .tc main_v28) = broadcastInDim S1x16384 ![1] bcast_S16384_S1x16384_1 (extractStridedSlice S16384 ![49152] (W (Proc.devRef .tc main_arg14)) slices_S65536_S16384_49152) := by
  after_results
theorem next4_q : (StableHlo.after hostOps4 W) (Proc.devRef .tc main_v29) = broadcastInDim S1x16384 ![1] bcast_S16384_S1x16384_1 (extractStridedSlice S16384 ![49152] (W (Proc.devRef .tc main_arg15)) slices_S65536_S16384_49152) := by
  after_results
theorem next4_o : (StableHlo.after hostOps4 W) (Proc.devRef .tc main_v30_0) = W (Proc.devRef .tc main_v25_0) := by
  after_results; rfl
theorem last_q : (StableHlo.after hostOps5 W) (Proc.devRef .tc main_v31) = shapeCast S1280x1 (W (Proc.devRef .tc main_arg16)) shapeCasts_S2x640_S1280x1 := by
  after_results; rfl
end

end Cert.Proof.Launch

end
-- ==== Proof.RefValue.lean ====
/- The reference's results, in the terms of the problem: masked logits, their greatest value, the sum of exponentials, the loss. -/
module

public import proofs.«01_k».proof.Proof.Launch

@[expose] public section

noncomputable section

namespace Cert.Proof.RefValue

open Idealize.ShloMosaic Cert.ReferenceIdeal Cert.ReferenceIdeal.Gen Cert.ReferenceIdeal.Read Cert.Proof.Problem Cert.Proof.Dequant Cert.Proof.Launch

/-- The greatest of a family, as a fold from minus infinity. -/
theorem fold_max {n : ℕ} (f : Fin n → EReal) (b : EReal) (hb : b = ⊥) : (Finset.univ : Finset (Fin n)).fold max b f = Finset.univ.sup f := by
  subst hb; rfl

variable (x0 : (⟨S2x640x1536, .bf16⟩ : BufTy).Contents (Elt Ideal)) (x1 : (⟨S2x640, .i32⟩ : BufTy).Contents (Elt Ideal))
    (x2 : (⟨S128x12x8x128, .i32⟩ : BufTy).Contents (Elt Ideal)) (x3 : (⟨S384x12x8x128, .i32⟩ : BufTy).Contents (Elt Ideal))
    (x4 x5 x6 : (⟨S512x12x8x128, .i32⟩ : BufTy).Contents (Elt Ideal)) (x7 : (⟨S40x12x8x128, .i32⟩ : BufTy).Contents (Elt Ideal))
    (x8 : (⟨S128x8x128, .i32⟩ : BufTy).Contents (Elt Ideal)) (x9 : (⟨S384x8x128, .i32⟩ : BufTy).Contents (Elt Ideal))
    (x10 x11 x12 : (⟨S512x8x128, .i32⟩ : BufTy).Contents (Elt Ideal)) (x13 : (⟨S40x8x128, .i32⟩ : BufTy).Contents (Elt Ideal))
    (x14 : (⟨S65536, .i32⟩ : BufTy).Contents (Elt Ideal)) (x15 : (⟨S65536, .f32⟩ : BufTy).Contents (Elt Ideal))
    (x16 : (⟨S2x640, .f32⟩ : BufTy).Contents (Elt Ideal))

theorem w_in (j : ℕ) (h : j < 66816) (col : Fin 1536) : (prob x0 x1 x2 x3 x4 x5 x6 x7 x8 x9 x10 x11 x12 x13 x14 x15).w j col
    = tab (val_main_v3 (F := Ideal) x2 x3 x4 x5 x6 x7) (val_main_v4 (F := Ideal) x8 x9 x10 x11 x12 x13) ⟨j / 32, by omega⟩ ⟨j % 32, by omega⟩ col := dif_pos h

theorem ids_in (j : ℕ) (h : j < 65536) : (prob x0 x1 x2 x3 x4 x5 x6 x7 x8 x9 x10 x11 x12 x13 x14 x15).ids j = x14 (ix1 ⟨j, h⟩) := dif_pos h

theorem lq_in (j : ℕ) (h : j < 65536) : (prob x0 x1 x2 x3 x4 x5 x6 x7 x8 x9 x10 x11 x12 x13 x14 x15).lq j = x15 (ix1 ⟨j, h⟩) := dif_pos h

/-- One value per row of columns: the reduction the reference takes. -/
theorem red : S1280x65536.Reduces [1] S1280 := by decide

/-- The logit of a row at a column. -/
theorem neg_at (R : Fin 1280) (j : Fin 65536) :
    val_main_v55 (F := Ideal) x0 x2 x3 x4 x5 x6 x7 x8 x9 x10 x11 x12 x13 x15 (Idealize.ShloMosaic.ix2 R j) = neg (prob x0 x1 x2 x3 x4 x5 x6 x7 x8 x9 x10 x11 x12 x13 x14 x15) R j.val := by
  rw [val_main_v55_apply, val_main_v52_apply]
  refine congr (congrArg (fun (a b : EReal) => a - b) (Finset.sum_congr rfl fun k _ => congr (congrArg (fun (a b : EReal) => a * b) (congrArg (val_main_v0 (F := Ideal) x0) ?_)) ?_)) ?_
  · funext a; match a with | ⟨0, _⟩ => rfl | ⟨1, _⟩ => rfl
  · rw [val_main_v50_apply, show idx_main_v50 (ridx_main_v52 (Idealize.ShloMosaic.ix2 R j) k) = Idealize.ShloMosaic.ix2 (⟨j.val, by omega⟩ : Fin 66816) k from
      funext fun a => match a with | ⟨0, _⟩ => rfl | ⟨1, _⟩ => rfl, RefTable.table_at]
    exact (w_in x0 x1 x2 x3 x4 x5 x6 x7 x8 x9 x10 x11 x12 x13 x14 x15 j.val (by omega) k).symm
  · rw [val_main_v54_apply, val_main_v53_apply]
    refine Eq.trans (congrArg x15 (?_ : _ = ix1 ⟨j.val, j.isLt⟩)) (lq_in x0 x1 x2 x3 x4 x5 x6 x7 x8 x9 x10 x11 x12 x13 x14 x15 j.val j.isLt).symm
    funext a; match a with | ⟨0, _⟩ => rfl

/-- A choice by an accidental hit. -/
theorem hit_at (R : Fin 1280) (j : Fin 65536) (a b : EReal) :
    Scalar.select (val_main_v60 (F := Ideal) x1 x14 (Idealize.ShloMosaic.ix2 R j)) a b
      = if (prob x0 x1 x2 x3 x4 x5 x6 x7 x8 x9 x10 x11 x12 x13 x14 x15).tg R = (prob x0 x1 x2 x3 x4 x5 x6 x7 x8 x9 x10 x11 x12 x13 x14 x15).ids j.val then a else b := by
  rw [val_main_v60_apply, val_main_v58_apply, val_main_v56_apply, val_main_v59_apply, val_main_v57_apply]
  have e1 : val_main_v1 (F := Ideal) x1 (idx_main_v56 (idx_main_v58 (Idealize.ShloMosaic.ix2 R j))) = (prob x0 x1 x2 x3 x4 x5 x6 x7 x8 x9 x10 x11 x12 x13 x14 x15).tg R :=
    congrArg (val_main_v1 (F := Ideal) x1) (funext fun a => match a with | ⟨0, _⟩ => rfl)
  have e0 : idx_main_v57 (idx_main_v59 (Idealize.ShloMosaic.ix2 R j)) = ix1 (⟨j.val, j.isLt⟩ : Fin 65536) := funext fun a => match a with | ⟨0, _⟩ => rfl
  have e2 : x14 (idx_main_v57 (idx_main_v59 (Idealize.ShloMosaic.ix2 R j))) = (prob x0 x1 x2 x3 x4 x5 x6 x7 x8 x9 x10 x11 x12 x13 x14 x15).ids j.val :=
    (congrArg x14 e0).trans (ids_in x0 x1 x2 x3 x4 x5 x6 x7 x8 x9 x10 x11 x12 x13 x14 x15 j.val j.isLt).symm
  rw [e1, e2]
  generalize (prob x0 x1 x2 x3 x4 x5 x6 x7 x8 x9 x10 x11 x12 x13 x14 x15).tg R = u
  generalize (prob x0 x1 x2 x3 x4 x5 x6 x7 x8 x9 x10 x11 x12 x13 x14 x15).ids j.val = v
  by_cases h : u = v
  · simp [Scalar.select, IntOp.cmpi, h]
  · have hb : (u == v) = false := beq_false_of_ne h
    simp only [Scalar.select, IntOp.cmpi, hb, if_neg h]
    rfl

/-- The masked logit. -/
theorem nm_at (R : Fin 1280) (j : Fin 65536) :
    val_main_v61 (F := Ideal) x0 x1 x2 x3 x4 x5 x6 x7 x8 x9 x10 x11 x12 x13 x14 x15 (Idealize.ShloMosaic.ix2 R j) = nm (prob x0 x1 x2 x3 x4 x5 x6 x7 x8 x9 x10 x11 x12 x13 x14 x15) R j.val := by
  rw [val_main_v61_apply, hit_at x0 x1 x2 x3 x4 x5 x6 x7 x8 x9 x10 x11 x12 x13 x14 x15, neg_at x0 x1 x2 x3 x4 x5 x6 x7 x8 x9 x10 x11 x12 x13 x14 x15, val_main_call0_v1_apply]
  unfold nm
  rw [show val_main_call0_v0 (F := Ideal) (idx_main_call0_v1 (Idealize.ShloMosaic.ix2 R j)) = ⊥ from Step.neg_inf]

/-- The kept logit. -/
theorem kept_at (R : Fin 640) (j : Fin 65536) :
    val_main_v70 (F := Ideal) x0 x1 x2 x3 x4 x5 x6 x7 x8 x9 x10 x11 x12 x13 x14 x15 (Idealize.ShloMosaic.ix2 R j) = kept (prob x0 x1 x2 x3 x4 x5 x6 x7 x8 x9 x10 x11 x12 x13 x14 x15) (R.castLE (by decide)) j.val := by
  have e : idx_main_v68 (Idealize.ShloMosaic.ix2 R j) = Idealize.ShloMosaic.ix2 (R.castLE (by decide) : Fin 1280) j :=
    funext fun a => match a with | ⟨0, _⟩ => rfl | ⟨1, _⟩ => rfl
  have e' : idx_main_v69 (Idealize.ShloMosaic.ix2 R j) = Idealize.ShloMosaic.ix2 (R.castLE (by decide) : Fin 1280) j :=
    funext fun a => match a with | ⟨0, _⟩ => rfl | ⟨1, _⟩ => rfl
  rw [val_main_v70_apply, val_main_v68_apply, val_main_v69_apply, e, e', hit_at x0 x1 x2 x3 x4 x5 x6 x7 x8 x9 x10 x11 x12 x13 x14 x15, neg_at x0 x1 x2 x3 x4 x5 x6 x7 x8 x9 x10 x11 x12 x13 x14 x15, val_main_call1_v1_apply]
  unfold kept
  rw [show val_main_call1_v0 (F := Ideal) (idx_main_call1_v1 (Idealize.ShloMosaic.ix2 R j)) = 0 from by
    show Ideal.ofBits .f32 0x00000000#32 = 0
    simp [Ideal.ofBits, Ideal.ieee]]

/-- A row's greatest masked logit. -/
def top (P : Prob) (R : Fin 1280) : EReal := Finset.univ.sup fun j : Fin 65536 => nm P R j.val

theorem top_at (R : Fin 1280) : val_main_v62 (F := Ideal) x0 x1 x2 x3 x4 x5 x6 x7 x8 x9 x10 x11 x12 x13 x14 x15 (ix1 R) = top (prob x0 x1 x2 x3 x4 x5 x6 x7 x8 x9 x10 x11 x12 x13 x14 x15) R := by
  unfold val_main_v62
  rw [Host.reduce_eq_fold_single FloatOps.maximumf _ _ reducesTo_S1280x65536_S1280_d1 red _ (ix1 R)]
  refine (fold_max (n := 65536) _ _ Step.neg_inf).trans ?_
  refine congrArg (Finset.sup Finset.univ) (funext fun j => ?_)
  refine Eq.trans (congrArg (val_main_v61 (F := Ideal) x0 x1 x2 x3 x4 x5 x6 x7 x8 x9 x10 x11 x12 x13 x14 x15) (?_ : _ = Idealize.ShloMosaic.ix2 R j)) (nm_at x0 x1 x2 x3 x4 x5 x6 x7 x8 x9 x10 x11 x12 x13 x14 x15 R j)
  funext a; apply Fin.ext
  match a with | ⟨0, _⟩ => rfl | ⟨1, _⟩ => rfl

/-- A row's sum of exponentials. -/
def total (P : Prob) (R : Fin 1280) : EReal := ∑ j : Fin 65536, Ideal.exp (nm P R j.val - top P R)

theorem total_at (R : Fin 1280) : val_main_v67 (F := Ideal) x0 x1 x2 x3 x4 x5 x6 x7 x8 x9 x10 x11 x12 x13 x14 x15 (ix1 R) = total (prob x0 x1 x2 x3 x4 x5 x6 x7 x8 x9 x10 x11 x12 x13 x14 x15) R := by
  rw [val_main_v67_apply, show (val_main_cst_10 (F := Ideal)) (Shape.Idx.first h_S_) = 0 from by
    show Ideal.ofBits .f32 0x00000000#32 = 0
    simp [Ideal.ofBits, Ideal.ieee], zero_add]
  refine Finset.sum_congr rfl fun j _ => ?_
  have e : idx_main_v67 (ix1 R) j = Idealize.ShloMosaic.ix2 R j := funext fun a => match a with | ⟨0, _⟩ => rfl | ⟨1, _⟩ => rfl
  have e' : idx_main_v63 (idx_main_v64 (Idealize.ShloMosaic.ix2 R j)) = ix1 R := funext fun a => match a with | ⟨0, _⟩ => rfl
  rw [e, val_main_v66_apply, val_main_v65_apply, nm_at x0 x1 x2 x3 x4 x5 x6 x7 x8 x9 x10 x11 x12 x13 x14 x15, val_main_v64_apply, val_main_v63_apply, e', top_at x0 x1 x2 x3 x4 x5 x6 x7 x8 x9 x10 x11 x12 x13 x14 x15]
  rfl

/-- The true logit of a row. -/
def tru (P : Prob) (q : EReal) (R : Fin 1280) : EReal := (∑ k : Fin 1536, P.x R k * P.w (65536 + R.val) k) - q

theorem true_at (R : Fin 1280) : val_main_v72 (F := Ideal) x0 x2 x3 x4 x5 x6 x7 x8 x9 x10 x11 x12 x13 x16 (ix1 R) = tru (prob x0 x1 x2 x3 x4 x5 x6 x7 x8 x9 x10 x11 x12 x13 x14 x15) (val_main_v2 (F := Ideal) x16 (ix1 R)) R := by
  rw [val_main_v72_apply, val_main_v71_apply]
  refine congrArg (fun (a : EReal) => a - val_main_v2 (F := Ideal) x16 (ix1 R)) (Finset.sum_congr rfl fun k _ => congr (congrArg (fun (a b : EReal) => a * b) (congrArg (val_main_v0 (F := Ideal) x0) ?_)) ?_)
  · funext a; match a with | ⟨0, _⟩ => rfl | ⟨1, _⟩ => rfl
  · rw [val_main_v51_apply, show idx_main_v51 (ridx_main_v71 (ix1 R) k) = Idealize.ShloMosaic.ix2 (⟨65536 + R.val, by omega⟩ : Fin 66816) k from
      funext fun a => match a with | ⟨0, _⟩ => rfl | ⟨1, _⟩ => rfl, RefTable.table_at]
    exact (w_in x0 x1 x2 x3 x4 x5 x6 x7 x8 x9 x10 x11 x12 x13 x14 x15 (65536 + R.val) (by omega) k).symm

/-- The loss of a row. -/
theorem loss_at (R : Fin 1280) : val_main_v82 (F := Ideal) x0 x1 x2 x3 x4 x5 x6 x7 x8 x9 x10 x11 x12 x13 x14 x15 x16 (ix1 R)
    = Softmax.lossOf (tru (prob x0 x1 x2 x3 x4 x5 x6 x7 x8 x9 x10 x11 x12 x13 x14 x15) (val_main_v2 (F := Ideal) x16 (ix1 R)) R) (top (prob x0 x1 x2 x3 x4 x5 x6 x7 x8 x9 x10 x11 x12 x13 x14 x15) R) (total (prob x0 x1 x2 x3 x4 x5 x6 x7 x8 x9 x10 x11 x12 x13 x14 x15) R) := by
  rw [← true_at x0 x1 x2 x3 x4 x5 x6 x7 x8 x9 x10 x11 x12 x13 x14 x15 x16, ← top_at x0 x1 x2 x3 x4 x5 x6 x7 x8 x9 x10 x11 x12 x13 x14 x15, ← total_at x0 x1 x2 x3 x4 x5 x6 x7 x8 x9 x10 x11 x12 x13 x14 x15]
  rw [val_main_v82_apply, val_main_v81_apply, val_main_v80_apply, val_main_v79_apply, val_main_v78_apply, val_main_v77_apply, val_main_v76_apply, val_main_v75_apply, val_main_v74_apply, val_main_v73_apply]
  generalize val_main_v72 (F := Ideal) x0 x2 x3 x4 x5 x6 x7 x8 x9 x10 x11 x12 x13 x16 (ix1 R) = t
  generalize val_main_v62 (F := Ideal) x0 x1 x2 x3 x4 x5 x6 x7 x8 x9 x10 x11 x12 x13 x14 x15 (ix1 R) = p
  generalize val_main_v67 (F := Ideal) x0 x1 x2 x3 x4 x5 x6 x7 x8 x9 x10 x11 x12 x13 x14 x15 (ix1 R) = s
  rfl

end Cert.Proof.RefValue

end
-- ==== Proof.FinalValue.lean ====
/- The results of the final call, in the terms of the problem: the lanes put together, the loss and the true logit of a row. -/
module

public import proofs.«01_k».proof.Proof.RefValue

@[expose] public section

noncomputable section

namespace Cert.Proof.FinalValue

open Idealize.ShloMosaic Cert.KernelIdeal Cert.KernelIdeal.Gen Cert.Proof.Problem Cert.Proof.Softmax Cert.Proof.RefValue

/-- A column of row values, read at a row. -/
theorem col_at (x : Vec Ideal S1280 .f32) (R : Fin 1280) :
    shapeCast S1280x1 x shapeCasts_S1280_S1280x1 (Idealize.ShloMosaic.ix2 R (0 : Fin 1)) = x (ix1 R) :=
  shapeCast_apply (s := S1280) x shapeCasts_S1280_S1280x1 _ (ix1 R) (by
    rw [Shape.rowMajor_val_one, Shape.rowMajor_val_two]; show R.val = R.val * 1 + 0; omega)

theorem lift_at (R : Fin 1280) (k : Fin 128) : reduces_S1280x128_S1280.lift (ix1 R) k = Idealize.ShloMosaic.ix2 R k := by
  funext a; apply Fin.ext
  match a with | ⟨0, _⟩ => rfl | ⟨1, _⟩ => rfl

/-- The true logit of a row. -/
theorem pay60_at (X W : Vec Ideal S1280x1536 .bf16) (q : Vec Ideal S1280x1 .f32) (R : Fin 1280) :
    k5_pay60 X W q (Idealize.ShloMosaic.ix2 R (0 : Fin 1))
      = (∑ k : Fin 1536, X (Idealize.ShloMosaic.ix2 R k) * W (Idealize.ShloMosaic.ix2 R k)) - q (Idealize.ShloMosaic.ix2 R (0 : Fin 1)) := by
  unfold k5_pay60
  refine congr (congrArg (fun (a b : EReal) => a - b) ((col_at _ R).trans ((Ideal.multiReduction_add_single _ _ reduces_S1280x1536_S1280 _ _ (ix1 R)).trans
    (Finset.sum_congr rfl fun k _ => ?_)))) (congrFun (shapeCast_self (s := S1280x1) q shapeCasts_S1280x1_S1280x1) _)
  have e : reduces_S1280x1536_S1280.lift (ix1 R) k = Idealize.ShloMosaic.ix2 R k := by
    funext a; apply Fin.ext
    match a with | ⟨0, _⟩ => rfl | ⟨1, _⟩ => rfl
  rw [e]
  exact congrArg (fun a : EReal => a * W (Idealize.ShloMosaic.ix2 R k)) (congrFun (shapeCast_self (s := S1280x1536) X shapeCasts_S1280x1536_S1280x1536) _)

/-- The rows' greatest lanes. -/
def maxV (m : Vec Ideal S1280x128 .f32) : FVec Ideal S1280 .f32 :=
  multiReduction (F := Ideal) .maximumf [1] S1280 (shapeCast S1280x128 m shapeCasts_S1280x128_S1280x128 : FVec Ideal S1280x128 .f32) 0xFF800000#32 reduces_S1280x128_S1280 (.inl rfl) rfl

/-- The terms of the rows' sums. -/
def termV (m s : Vec Ideal S1280x128 .f32) : FVec Ideal S1280x128 .f32 :=
  mulf (shapeCast S1280x128 s shapeCasts_S1280x128_S1280x128 : FVec Ideal S1280x128 .f32) (exp (subf (shapeCast S1280x128 m shapeCasts_S1280x128_S1280x128 : FVec Ideal S1280x128 .f32)
    (broadcastTo S1280x128 (shapeCast S1280x1 (maxV m) shapeCasts_S1280_S1280x1) broadcasts_S1280x1_S1280x128)))

/-- The rows' sums. -/
def sumV (m s : Vec Ideal S1280x128 .f32) : FVec Ideal S1280 .f32 :=
  multiReduction (F := Ideal) .add [1] S1280 (termV m s) 0x00000000#32 reduces_S1280x128_S1280 (.inl rfl) rfl

theorem maxV_at (m : Vec Ideal S1280x128 .f32) (R : Fin 1280) : maxV m (ix1 R) = Finset.univ.sup fun l : Fin 128 => m (Idealize.ShloMosaic.ix2 R l) := by
  refine (Ideal.multiReduction_maximumf_single _ _ reduces_S1280x128_S1280 _ _ (ix1 R)).trans ((fold_max (n := 128) _ _ Step.neg_inf).trans ?_)
  exact congrArg (Finset.sup Finset.univ) (funext fun l => (congrArg (shapeCast S1280x128 m shapeCasts_S1280x128_S1280x128) (lift_at R l)).trans
    (congrFun (shapeCast_self (s := S1280x128) m shapeCasts_S1280x128_S1280x128) _))

theorem sumV_at (m s : Vec Ideal S1280x128 .f32) (R : Fin 1280) : sumV m s (ix1 R)
    = ∑ l : Fin 128, s (Idealize.ShloMosaic.ix2 R l) * Ideal.exp (m (Idealize.ShloMosaic.ix2 R l) - Finset.univ.sup fun l : Fin 128 => m (Idealize.ShloMosaic.ix2 R l)) := by
  refine (Ideal.multiReduction_add_single _ _ reduces_S1280x128_S1280 _ _ (ix1 R)).trans (Finset.sum_congr rfl fun l _ => (congrArg (termV m s) (lift_at R l)).trans ?_)
  refine congr (congrArg (fun (a b : EReal) => a * b) (congrFun (shapeCast_self (s := S1280x128) s shapeCasts_S1280x128_S1280x128) _))
    (congrArg Ideal.exp (congr (congrArg (fun (a b : EReal) => a - b) (congrFun (shapeCast_self (s := S1280x128) m shapeCasts_S1280x128_S1280x128) _)) ?_))
  exact (broadcastTo_apply _ broadcasts_S1280x1_S1280x128 (Idealize.ShloMosaic.ix2 R l) (Idealize.ShloMosaic.ix2 R (0 : Fin 1))
    (fun a => by match a with | ⟨0, _⟩ => rfl | ⟨1, _⟩ => rfl)).trans ((col_at _ R).trans (maxV_at m R))

/-- The loss of a row, from its lanes. -/
theorem pay61_at (X W : Vec Ideal S1280x1536 .bf16) (q : Vec Ideal S1280x1 .f32) (m s : Vec Ideal S1280x128 .f32) (R : Fin 1280) :
    k5_pay61 X W q m s m (Idealize.ShloMosaic.ix2 R (0 : Fin 1))
      = lossOf (k5_pay60 X W q (Idealize.ShloMosaic.ix2 R (0 : Fin 1))) (Finset.univ.sup fun l : Fin 128 => m (Idealize.ShloMosaic.ix2 R l))
          (∑ l : Fin 128, s (Idealize.ShloMosaic.ix2 R l) * Ideal.exp (m (Idealize.ShloMosaic.ix2 R l) - Finset.univ.sup fun l : Fin 128 => m (Idealize.ShloMosaic.ix2 R l))) := by
  rw [← sumV_at, ← maxV_at, ← col_at (maxV m), ← col_at (sumV m s)]
  sl_kernel_rfl

/-- The lanes' sums are sums of exponentials. -/
theorem runG_zero (H : EReal) (a : ℕ → EReal) (T : ℕ) : Step.runG 0 H a T = runS H a T := by
  induction T with
  | zero => rfl
  | succ T ih => rw [Step.runG, runS, ih]

theorem floor_ne : Problem.floor ≠ ⊤ := by
  unfold Problem.floor
  simp [Ideal.ofBits, Ideal.ieee]
  rw [← EReal.coe_pow, ← EReal.coe_mul]
  exact EReal.coe_ne_bot _

/-- A sum over all columns, lane by lane. -/
theorem sum_lanes (f : ℕ → EReal) : ∑ l : Fin 128, ∑ k ∈ Finset.range 512, f (128 * k + l.val) = ∑ j : Fin 65536, f j.val := by
  rw [Finset.sum_comm, Finset.sum_range fun k => ∑ l : Fin 128, f (128 * k + l.val), ← Fintype.sum_prod_type' fun (k : Fin 512) (l : Fin 128) => f (128 * k.val + l.val)]
  exact Fintype.sum_equiv (finProdFinEquiv (m := 512) (n := 128)) _ _ fun y => congrArg f (by
    show 128 * y.1.val + y.2.val = y.2.val + 128 * y.1.val
    omega)

variable (P : Prob)

/-- The greatest over the lanes is the floor or the row's greatest masked logit. -/
theorem sup_lanes (R : Fin 1280) :
    (Finset.univ.sup fun l : Fin 128 => max Problem.floor ((Finset.range 512).sup (lane P R l))) = max Problem.floor (top P R) := by
  apply le_antisymm
  · refine Finset.sup_le fun l _ => max_le (le_max_left _ _) (Finset.sup_le fun k hk => le_max_of_le_right ?_)
    have hk' := Finset.mem_range.mp hk
    exact Finset.le_sup (f := fun j : Fin 65536 => nm P R j.val) (Finset.mem_univ (⟨128 * k + l.val, by omega⟩ : Fin 65536))
  · refine max_le (le_trans (le_max_left _ _) (Finset.le_sup (f := fun l : Fin 128 => max Problem.floor ((Finset.range 512).sup (lane P R l))) (Finset.mem_univ (0 : Fin 128))))
      (Finset.sup_le fun j _ => ?_)
    refine le_trans ?_ (Finset.le_sup (f := fun l : Fin 128 => max Problem.floor ((Finset.range 512).sup (lane P R l))) (Finset.mem_univ (⟨j.val % 128, by omega⟩ : Fin 128)))
    refine le_max_of_le_right (le_trans (le_of_eq ?_) (Finset.le_sup (Finset.mem_range.mpr (show j.val / 128 < 512 by omega))))
    exact congrArg (nm P R) (show j.val = 128 * (j.val / 128) + j.val % 128 by omega)

theorem mAt_last (R : Fin 1280) (l : Fin 128) : mAt P 64 (Idealize.ShloMosaic.ix2 R l) = max Problem.floor ((Finset.range 512).sup (lane P R l)) :=
  runM_eq Problem.floor (lane P R l) 128

theorem sAt_last (R : Fin 1280) (l : Fin 128) : sAt P 64 (Idealize.ShloMosaic.ix2 R l)
    = ∑ k ∈ Finset.range 512, Ideal.exp (lane P R l k - mAt P 64 (Idealize.ShloMosaic.ix2 R l)) :=
  (runG_zero Problem.floor (lane P R l) 128).trans (runS_eq Problem.floor (lane P R l) 128)

/-- The loss from the lanes is the loss from the row. -/
theorem loss_lanes (R : Fin 1280) (t : EReal) :
    lossOf t (Finset.univ.sup fun l : Fin 128 => mAt P 64 (Idealize.ShloMosaic.ix2 R l))
        (∑ l : Fin 128, sAt P 64 (Idealize.ShloMosaic.ix2 R l) * Ideal.exp (mAt P 64 (Idealize.ShloMosaic.ix2 R l) - Finset.univ.sup fun l : Fin 128 => mAt P 64 (Idealize.ShloMosaic.ix2 R l)))
      = lossOf t (top P R) (total P R) := by
  have hm : (Finset.univ.sup fun l : Fin 128 => mAt P 64 (Idealize.ShloMosaic.ix2 R l)) = max Problem.floor (top P R) :=
    (congrArg (Finset.sup Finset.univ) (funext fun l => mAt_last P R l)).trans (sup_lanes P R)
  have hs : ∑ l : Fin 128, sAt P 64 (Idealize.ShloMosaic.ix2 R l) * Ideal.exp (mAt P 64 (Idealize.ShloMosaic.ix2 R l) - max Problem.floor (top P R))
      = ∑ j : Fin 65536, Ideal.exp (nm P R j.val - max Problem.floor (top P R)) := by
    rw [Finset.sum_congr rfl fun l _ => by rw [sAt_last P R l]]
    rw [join_lanes Finset.univ (Finset.range 512) (fun l k => lane P R l k) (fun l => mAt P 64 (Idealize.ShloMosaic.ix2 R l)) (max Problem.floor (top P R))
      (fun l _ k hk => by rw [mAt_last]; exact le_max_of_le_right (Finset.le_sup hk))
      (fun l _ => by rw [← hm]; exact Finset.le_sup (f := fun l : Fin 128 => mAt P 64 (Idealize.ShloMosaic.ix2 R l)) (Finset.mem_univ l))]
    exact sum_lanes fun j => Ideal.exp (nm P R j - max Problem.floor (top P R))
  rw [hm, hs]
  exact lossOf_floor Finset.univ (fun j : Fin 65536 => nm P R j.val) t Problem.floor floor_ne

end Cert.Proof.FinalValue

end
-- ==== Proof.FinalScratch.lean ====
/- What the dequantising loop of the last call leaves in its scratch table. -/
module

public import proofs.«01_k».proof.Proof.Scratch

@[expose] public section

noncomputable section

namespace Cert.Proof.Dequant

open Idealize.ShloMosaic Idealize.SL Cert.KernelIdeal Cert.KernelIdeal.Gen

/-- The scratch table of the last call: the forty packed blocks of the targets dequantised. -/
def scrF (X2 : Vec Ideal S40x12x8x128 .i32) (X3 : Vec Ideal S40x8x128 .i32) : Vec Ideal S1280x1536 .bf16 := fun y =>
  tab X2 X3 ⟨(y 0).val / 32, by have := (y 0).isLt; simp at this; omega⟩ ⟨(y 0).val % 32, by omega⟩ (y 1)

theorem scrF_at (X2 : Vec Ideal S40x12x8x128 .i32) (X3 : Vec Ideal S40x8x128 .i32) (k : Fin 40) (r : Fin 32) (col : Fin 1536) (y : S1280x1536.Idx)
    (h0 : (y 0).val = 32 * k.val + r.val) (h1 : (y 1).val = col.val) : scrF X2 X3 y = tab X2 X3 k r col := by
  unfold scrF
  have a1 : (⟨(y 0).val / 32, by have := (y 0).isLt; simp at this; omega⟩ : Fin 40) = k := Fin.ext (show (y 0).val / 32 = k.val by omega)
  have a2 : (⟨(y 0).val % 32, by omega⟩ : Fin 32) = r := Fin.ext (show (y 0).val % 32 = r.val by omega)
  have a3 : y 1 = col := Fin.ext h1
  rw [a1, a2, a3]

/-! The twelve stored payloads of a trip of the last call are the twelve column blocks. -/

theorem final_pay_0 (A : Vec Ideal S1x8x128 .i32) (B : Vec Ideal S1x1x8x128 .i32) :
    k5_pay8 (k5_pay1 A) (k5_pay2 B) (k5_pay4 A) k5_pay5 k5_pay6 k5_pay7 = blkL 0 A B := pay_eq_0 A B
theorem final_pay_1 (A : Vec Ideal S1x8x128 .i32) (B : Vec Ideal S1x1x8x128 .i32) :
    k5_pay13 (k5_pay1 A) (k5_pay9 B) (k5_pay11 (iota .tc S8x128 32 [1] iota_S8x128_d1_w32) (k5_pay1 A)) (k5_pay12 (iota .tc S8x128 32 [1] iota_S8x128_d1_w32)) 0#32 = blkL 1 A B := pay_eq_1 A B
theorem final_pay_2 (A : Vec Ideal S1x8x128 .i32) (B : Vec Ideal S1x1x8x128 .i32) :
    k5_pay17 (k5_pay1 A) (k5_pay14 B) (k5_pay15 (iota .tc S8x128 32 [1] iota_S8x128_d1_w32)) (k5_pay16 (iota .tc S8x128 32 [1] iota_S8x128_d1_w32) (k5_pay1 A)) = blkL 2 A B := pay_eq_2 A B
theorem final_pay_3 (A : Vec Ideal S1x8x128 .i32) (B : Vec Ideal S1x1x8x128 .i32) :
    k5_pay21 (k5_pay1 A) (k5_pay18 B) (k5_pay19 (iota .tc S8x128 32 [1] iota_S8x128_d1_w32)) (k5_pay20 (iota .tc S8x128 32 [1] iota_S8x128_d1_w32)) = blkL 3 A B := pay_eq_3 A B
theorem final_pay_4 (A : Vec Ideal S1x8x128 .i32) (B : Vec Ideal S1x1x8x128 .i32) :
    k5_pay26 (k5_pay1 A) (k5_pay22 B) (k5_pay23 (iota .tc S8x128 32 [1] iota_S8x128_d1_w32)) (k5_pay24 (iota .tc S8x128 32 [1] iota_S8x128_d1_w32)) (k5_pay25 (iota .tc S8x128 32 [1] iota_S8x128_d1_w32)) = blkL 4 A B := pay_eq_4 A B
theorem final_pay_5 (A : Vec Ideal S1x8x128 .i32) (B : Vec Ideal S1x1x8x128 .i32) :
    k5_pay30 (k5_pay1 A) (k5_pay27 B) (k5_pay28 (iota .tc S8x128 32 [1] iota_S8x128_d1_w32)) k5_pay29 = blkL 5 A B := pay_eq_5 A B
theorem final_pay_6 (A : Vec Ideal S1x8x128 .i32) (B : Vec Ideal S1x1x8x128 .i32) :
    k5_pay37 (k5_pay1 A) (k5_pay31 B) (k5_pay32 (iota .tc S8x128 32 [1] iota_S8x128_d1_w32)) (k5_pay33 (iota .tc S8x128 32 [1] iota_S8x128_d1_w32)) (k5_pay34 (iota .tc S8x128 32 [1] iota_S8x128_d1_w32)) (k5_pay35 (iota .tc S8x128 32 [1] iota_S8x128_d1_w32)) (k5_pay36 (iota .tc S8x128 32 [1] iota_S8x128_d1_w32)) = blkL 6 A B := pay_eq_6 A B
theorem final_pay_7 (A : Vec Ideal S1x8x128 .i32) (B : Vec Ideal S1x1x8x128 .i32) :
    k5_pay43 (k5_pay1 A) (k5_pay38 B) (k5_pay39 (iota .tc S8x128 32 [1] iota_S8x128_d1_w32)) (k5_pay40 (iota .tc S8x128 32 [1] iota_S8x128_d1_w32)) (k5_pay41 (iota .tc S8x128 32 [1] iota_S8x128_d1_w32)) k5_pay42 = blkL 7 A B := pay_eq_7 A B
theorem final_pay_8 (A : Vec Ideal S1x8x128 .i32) (B : Vec Ideal S1x1x8x128 .i32) :
    k5_pay47 (k5_pay1 A) (k5_pay44 B) (k5_pay45 (iota .tc S8x128 32 [1] iota_S8x128_d1_w32)) (k5_pay46 (iota .tc S8x128 32 [1] iota_S8x128_d1_w32)) 16#32 = blkL 8 A B := pay_eq_8 A B
theorem final_pay_9 (A : Vec Ideal S1x8x128 .i32) (B : Vec Ideal S1x1x8x128 .i32) :
    k5_pay50 (k5_pay1 A) (k5_pay48 B) (k5_pay49 (iota .tc S8x128 32 [1] iota_S8x128_d1_w32)) = blkL 9 A B := pay_eq_9 A B
theorem final_pay_10 (A : Vec Ideal S1x8x128 .i32) (B : Vec Ideal S1x1x8x128 .i32) :
    k5_pay53 (iota .tc S8x128 32 [1] iota_S8x128_d1_w32) (k5_pay1 A) (k5_pay51 B) k5_pay52 = blkL 10 A B := pay_eq_10 A B
theorem final_pay_11 (A : Vec Ideal S1x8x128 .i32) (B : Vec Ideal S1x1x8x128 .i32) :
    k5_pay59 (k5_pay1 A) (k5_pay55 (k5_pay54 B)) (k5_pay57 (iota .tc S8x128 32 [1] iota_S8x128_d1_w32) (k5_pay1 A)) (k5_pay58 (iota .tc S8x128 32 [1] iota_S8x128_d1_w32)) = blkL 11 A B := pay_eq_11 A B
/-- Every piece of one trip of the loop is a part of the scratch table. -/
theorem final_trip_pieces (𝒱 : Variants) (c : Dev nD) (bd : Option 𝒱.V) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole) (X_arg1 : BufTy.Contents (Elt Ideal) arg1.view.ty) (X_arg2 : BufTy.Contents (Elt Ideal) arg2.view.ty) (k : Fin k5_t1_loop.trips) :
    ∀ p ∈ tripL_k5_t1 (F := Ideal) 𝒱 c bd arg0 harg0 arg1 harg1 arg2 harg2 arg3 harg3 arg4 harg4 arg5 harg5 arg6 harg6 arg7 harg7 arg8 harg8 X_arg1 X_arg2 k, ∀ x : p.1.shape.Idx, p.2 x = scrF (arg1.view.read (Elt Ideal) X_arg1) (arg2.view.read (Elt Ideal) X_arg2) (p.1.emb x) := by
  have hk : k.val < 40 := Nat.lt_of_lt_of_le k.isLt k5_t1_abs.2.1
  unfold tripL_k5_t1 trip_k5_t1
  dsimp only
  sl_unfold_words
  simp only [View.readAt_eq_ld]
  simp only [List.forall_mem_cons]
  refine ⟨?_, ?_, ?_, ?_, ?_, ?_, ?_, ?_, ?_, ?_, ?_, ?_, by simp⟩
  · intro x
    refine (congrFun (final_pay_11 _ _) x).trans ?_
    exact piece_ok (N := 40) (M := 1280) _ _ ⟨k.val, hk⟩ 11 (k5_off25 k) (k5_off25_eq k) _ (k5_off1 k) (k5_off1_eq k) _ (k5_off24 k) (k5_off24_eq k) _ _ (fun r col y => scrF_at _ _ ⟨k.val, hk⟩ r col y) x
  · intro x
    refine (congrFun (final_pay_10 _ _) x).trans ?_
    exact piece_ok (N := 40) (M := 1280) _ _ ⟨k.val, hk⟩ 10 (k5_off23 k) (k5_off23_eq k) _ (k5_off1 k) (k5_off1_eq k) _ (k5_off22 k) (k5_off22_eq k) _ _ (fun r col y => scrF_at _ _ ⟨k.val, hk⟩ r col y) x
  · intro x
    refine (congrFun (final_pay_9 _ _) x).trans ?_
    exact piece_ok (N := 40) (M := 1280) _ _ ⟨k.val, hk⟩ 9 (k5_off21 k) (k5_off21_eq k) _ (k5_off1 k) (k5_off1_eq k) _ (k5_off20 k) (k5_off20_eq k) _ _ (fun r col y => scrF_at _ _ ⟨k.val, hk⟩ r col y) x
  · intro x
    refine (congrFun (final_pay_8 _ _) x).trans ?_
    exact piece_ok (N := 40) (M := 1280) _ _ ⟨k.val, hk⟩ 8 (k5_off19 k) (k5_off19_eq k) _ (k5_off1 k) (k5_off1_eq k) _ (k5_off18 k) (k5_off18_eq k) _ _ (fun r col y => scrF_at _ _ ⟨k.val, hk⟩ r col y) x
  · intro x
    refine (congrFun (final_pay_7 _ _) x).trans ?_
    exact piece_ok (N := 40) (M := 1280) _ _ ⟨k.val, hk⟩ 7 (k5_off17 k) (k5_off17_eq k) _ (k5_off1 k) (k5_off1_eq k) _ (k5_off16 k) (k5_off16_eq k) _ _ (fun r col y => scrF_at _ _ ⟨k.val, hk⟩ r col y) x
  · intro x
    refine (congrFun (final_pay_6 _ _) x).trans ?_
    exact piece_ok (N := 40) (M := 1280) _ _ ⟨k.val, hk⟩ 6 (k5_off15 k) (k5_off15_eq k) _ (k5_off1 k) (k5_off1_eq k) _ (k5_off14 k) (k5_off14_eq k) _ _ (fun r col y => scrF_at _ _ ⟨k.val, hk⟩ r col y) x
  · intro x
    refine (congrFun (final_pay_5 _ _) x).trans ?_
    exact piece_ok (N := 40) (M := 1280) _ _ ⟨k.val, hk⟩ 5 (k5_off13 k) (k5_off13_eq k) _ (k5_off1 k) (k5_off1_eq k) _ (k5_off12 k) (k5_off12_eq k) _ _ (fun r col y => scrF_at _ _ ⟨k.val, hk⟩ r col y) x
  · intro x
    refine (congrFun (final_pay_4 _ _) x).trans ?_
    exact piece_ok (N := 40) (M := 1280) _ _ ⟨k.val, hk⟩ 4 (k5_off11 k) (k5_off11_eq k) _ (k5_off1 k) (k5_off1_eq k) _ (k5_off10 k) (k5_off10_eq k) _ _ (fun r col y => scrF_at _ _ ⟨k.val, hk⟩ r col y) x
  · intro x
    refine (congrFun (final_pay_3 _ _) x).trans ?_
    exact piece_ok (N := 40) (M := 1280) _ _ ⟨k.val, hk⟩ 3 (k5_off9 k) (k5_off9_eq k) _ (k5_off1 k) (k5_off1_eq k) _ (k5_off8 k) (k5_off8_eq k) _ _ (fun r col y => scrF_at _ _ ⟨k.val, hk⟩ r col y) x
  · intro x
    refine (congrFun (final_pay_2 _ _) x).trans ?_
    exact piece_ok (N := 40) (M := 1280) _ _ ⟨k.val, hk⟩ 2 (k5_off7 k) (k5_off7_eq k) _ (k5_off1 k) (k5_off1_eq k) _ (k5_off6 k) (k5_off6_eq k) _ _ (fun r col y => scrF_at _ _ ⟨k.val, hk⟩ r col y) x
  · intro x
    refine (congrFun (final_pay_1 _ _) x).trans ?_
    exact piece_ok (N := 40) (M := 1280) _ _ ⟨k.val, hk⟩ 1 (k5_off5 k) (k5_off5_eq k) _ (k5_off1 k) (k5_off1_eq k) _ (k5_off4 k) (k5_off4_eq k) _ _ (fun r col y => scrF_at _ _ ⟨k.val, hk⟩ r col y) x
  · intro x
    refine (congrFun (final_pay_0 _ _) x).trans ?_
    exact piece_ok (N := 40) (M := 1280) _ _ ⟨k.val, hk⟩ 0 (k5_off3 k) (k5_off3_eq k) _ (k5_off1 k) (k5_off1_eq k) _ (k5_off2 k) (k5_off2_eq k) _ _ (fun r col y => scrF_at _ _ ⟨k.val, hk⟩ r col y) x

/-- The pieces of one trip cover the thirty-two rows of its block of targets. -/
theorem final_trip_cover (𝒱 : Variants) (c : Dev nD) (bd : Option 𝒱.V) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole) (X_arg1 : BufTy.Contents (Elt Ideal) arg1.view.ty) (X_arg2 : BufTy.Contents (Elt Ideal) arg2.view.ty) (k : Fin k5_t1_loop.trips) (y : S1280x1536.Idx) (h0 : (y 0).val / 32 = k.val) :
    ∃ p ∈ tripL_k5_t1 (F := Ideal) 𝒱 c bd arg0 harg0 arg1 harg1 arg2 harg2 arg3 harg3 arg4 harg4 arg5 harg5 arg6 harg6 arg7 harg7 arg8 harg8 X_arg1 X_arg2 k, y ∈ p.1.set := by
  unfold tripL_k5_t1 trip_k5_t1
  dsimp only
  sl_unfold_words
  obtain ⟨c, hc⟩ : ∃ c : Fin 12, (y 1).val / 128 = c.val := ⟨⟨(y 1).val / 128, by have : (y 1).val < 1536 := (y 1).isLt; omega⟩, rfl⟩
  simp only [List.exists_mem_cons_iff]
  fin_cases c
  · exact Or.inr (Or.inr (Or.inr (Or.inr (Or.inr (Or.inr (Or.inr (Or.inr (Or.inr (Or.inr (Or.inr (Or.inl (mem_ok (M := 1280) k.val 0 (k5_off3 k) (k5_off3_eq k) _ y h0 hc))))))))))))
  · exact Or.inr (Or.inr (Or.inr (Or.inr (Or.inr (Or.inr (Or.inr (Or.inr (Or.inr (Or.inr (Or.inl (mem_ok (M := 1280) k.val 1 (k5_off5 k) (k5_off5_eq k) _ y h0 hc)))))))))))
  · exact Or.inr (Or.inr (Or.inr (Or.inr (Or.inr (Or.inr (Or.inr (Or.inr (Or.inr (Or.inl (mem_ok (M := 1280) k.val 2 (k5_off7 k) (k5_off7_eq k) _ y h0 hc))))))))))
  · exact Or.inr (Or.inr (Or.inr (Or.inr (Or.inr (Or.inr (Or.inr (Or.inr (Or.inl (mem_ok (M := 1280) k.val 3 (k5_off9 k) (k5_off9_eq k) _ y h0 hc)))))))))
  · exact Or.inr (Or.inr (Or.inr (Or.inr (Or.inr (Or.inr (Or.inr (Or.inl (mem_ok (M := 1280) k.val 4 (k5_off11 k) (k5_off11_eq k) _ y h0 hc))))))))
  · exact Or.inr (Or.inr (Or.inr (Or.inr (Or.inr (Or.inr (Or.inl (mem_ok (M := 1280) k.val 5 (k5_off13 k) (k5_off13_eq k) _ y h0 hc)))))))
  · exact Or.inr (Or.inr (Or.inr (Or.inr (Or.inr (Or.inl (mem_ok (M := 1280) k.val 6 (k5_off15 k) (k5_off15_eq k) _ y h0 hc))))))
  · exact Or.inr (Or.inr (Or.inr (Or.inr (Or.inl (mem_ok (M := 1280) k.val 7 (k5_off17 k) (k5_off17_eq k) _ y h0 hc)))))
  · exact Or.inr (Or.inr (Or.inr (Or.inl (mem_ok (M := 1280) k.val 8 (k5_off19 k) (k5_off19_eq k) _ y h0 hc))))
  · exact Or.inr (Or.inr (Or.inl (mem_ok (M := 1280) k.val 9 (k5_off21 k) (k5_off21_eq k) _ y h0 hc)))
  · exact Or.inr (Or.inl (mem_ok (M := 1280) k.val 10 (k5_off23 k) (k5_off23_eq k) _ y h0 hc))
  · exact Or.inl (mem_ok (M := 1280) k.val 11 (k5_off25 k) (k5_off25_eq k) _ y h0 hc)

/-- Every piece of the trips before `n` is a part of the scratch table. -/
theorem final_loop_pieces (𝒱 : Variants) (c : Dev nD) (bd : Option 𝒱.V) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole) (X_arg1 : BufTy.Contents (Elt Ideal) arg1.view.ty) (X_arg2 : BufTy.Contents (Elt Ideal) arg2.view.ty) : ∀ n : ℕ, n ≤ k5_t1_loop.trips →
    ∀ p ∈ pb_k5_t1 (F := Ideal) 𝒱 c bd arg0 harg0 arg1 harg1 arg2 harg2 arg3 harg3 arg4 harg4 arg5 harg5 arg6 harg6 arg7 harg7 arg8 harg8 X_arg1 X_arg2 n, ∀ x : p.1.shape.Idx, p.2 x = scrF (arg1.view.read (Elt Ideal) X_arg1) (arg2.view.read (Elt Ideal) X_arg2) (p.1.emb x)
  | 0, _, p, hp => absurd hp (by simp [pb_k5_t1])
  | n + 1, hn, p, hp => by
    rw [pb_k5_t1_succ 𝒱 c bd arg0 harg0 arg1 harg1 arg2 harg2 arg3 harg3 arg4 harg4 arg5 harg5 arg6 harg6 arg7 harg7 arg8 harg8 X_arg1 X_arg2 ⟨n, hn⟩] at hp
    rcases List.mem_append.mp hp with h | h
    · exact final_trip_pieces 𝒱 c bd arg0 harg0 arg1 harg1 arg2 harg2 arg3 harg3 arg4 harg4 arg5 harg5 arg6 harg6 arg7 harg7 arg8 harg8 X_arg1 X_arg2 ⟨n, hn⟩ p h
    · exact final_loop_pieces 𝒱 c bd arg0 harg0 arg1 harg1 arg2 harg2 arg3 harg3 arg4 harg4 arg5 harg5 arg6 harg6 arg7 harg7 arg8 harg8 X_arg1 X_arg2 n (Nat.le_of_succ_le hn) p h

theorem final_loop_cover (𝒱 : Variants) (c : Dev nD) (bd : Option 𝒱.V) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole) (X_arg1 : BufTy.Contents (Elt Ideal) arg1.view.ty) (X_arg2 : BufTy.Contents (Elt Ideal) arg2.view.ty) (y : S1280x1536.Idx) : ∀ n : ℕ, n ≤ k5_t1_loop.trips → (y 0).val / 32 < n →
    ∃ p ∈ pb_k5_t1 (F := Ideal) 𝒱 c bd arg0 harg0 arg1 harg1 arg2 harg2 arg3 harg3 arg4 harg4 arg5 harg5 arg6 harg6 arg7 harg7 arg8 harg8 X_arg1 X_arg2 n, y ∈ p.1.set
  | 0, _, h => absurd h (Nat.not_lt_zero _)
  | n + 1, hn, h => by
    rw [pb_k5_t1_succ 𝒱 c bd arg0 harg0 arg1 harg1 arg2 harg2 arg3 harg3 arg4 harg4 arg5 harg5 arg6 harg6 arg7 harg7 arg8 harg8 X_arg1 X_arg2 ⟨n, hn⟩]
    rcases Nat.lt_succ_iff_lt_or_eq.mp h with h | h
    · obtain ⟨p, hp, hy⟩ := final_loop_cover 𝒱 c bd arg0 harg0 arg1 harg1 arg2 harg2 arg3 harg3 arg4 harg4 arg5 harg5 arg6 harg6 arg7 harg7 arg8 harg8 X_arg1 X_arg2 y n (Nat.le_of_succ_le hn) h
      exact ⟨p, List.mem_append_right _ hp, hy⟩
    · obtain ⟨p, hp, hy⟩ := final_trip_cover 𝒱 c bd arg0 harg0 arg1 harg1 arg2 harg2 arg3 harg3 arg4 harg4 arg5 harg5 arg6 harg6 arg7 harg7 arg8 harg8 X_arg1 X_arg2 ⟨n, hn⟩ y h
      exact ⟨p, List.mem_append_left _ hp, hy⟩

/-- After the loop the scratch holds the dequantised table. -/
theorem final_loop_canon (𝒱 : Variants) (c : Dev nD) (bd : Option 𝒱.V) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole) (X_arg1 : BufTy.Contents (Elt Ideal) arg1.view.ty) (X_arg2 : BufTy.Contents (Elt Ideal) arg2.view.ty) (y : S1280x1536.Idx) :
    View.canon (pb_k5_t1 (F := Ideal) 𝒱 c bd arg0 harg0 arg1 harg1 arg2 harg2 arg3 harg3 arg4 harg4 arg5 harg5 arg6 harg6 arg7 harg7 arg8 harg8 X_arg1 X_arg2 k5_t1_loop.trips) y = scrF (arg1.view.read (Elt Ideal) X_arg1) (arg2.view.read (Elt Ideal) X_arg2) y :=
  View.canon_apply_of_pieces _ _ (final_loop_pieces 𝒱 c bd arg0 harg0 arg1 harg1 arg2 harg2 arg3 harg3 arg4 harg4 arg5 harg5 arg6 harg6 arg7 harg7 arg8 harg8 X_arg1 X_arg2 _ le_rfl) y
    (final_loop_cover 𝒱 c bd arg0 harg0 arg1 harg1 arg2 harg2 arg3 harg3 arg4 harg4 arg5 harg5 arg6 harg6 arg7 harg7 arg8 harg8 X_arg1 X_arg2 y _ le_rfl (by
      have h : (y 0).val < 1280 := (y 0).isLt
      have e : k5_t1_loop.trips = 40 := by decide
      omega))

end Cert.Proof.Dequant
-- ==== Proof.FinalOut.lean ====
/- What the final call leaves in its two results, from its operands. -/
module

public import proofs.«01_k».proof.Proof.FinalScratch
public import proofs.«01_k».proof.Proof.Problem
public import proofs.«01_k».proof.Proof.Gen.KernelIdeal.Frame.Region5
public import Idealize.ShloMosaic.Lib.Pipeline.ValueKit
import all proofs.«01_k».proof.Proof.Gen.KernelIdeal.Frame.Region5

@[expose] public section

noncomputable section

namespace Cert.Proof.Final

open Idealize.ShloMosaic Idealize.ShloMosaic.TcCoe Idealize.SL Cert.KernelIdeal Cert.KernelIdeal.Gen Cert.Proof.Dequant

section
variable (c : Dev nD) (arg0 : Memref sig .tc .vmem S1280x1536 .bf16) (harg0 : arg0.IsWhole) (arg1 : Memref sig .tc .vmem S40x12x8x128 .i32) (harg1 : arg1.IsWhole) (arg2 : Memref sig .tc .vmem S40x8x128 .i32) (harg2 : arg2.IsWhole) (arg3 : Memref sig .tc .vmem S1280x1 .f32) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x1 .f32) (harg6 : arg6.IsWhole) (arg7 : Memref sig .tc .vmem S1280x1 .f32) (harg7 : arg7.IsWhole) (arg8 : Memref sig .tc .vmem S1280x1536 .bf16) (harg8 : arg8.IsWhole)
    (x0 : Vec Ideal S1280x1536 .bf16) (x1 : Vec Ideal S40x12x8x128 .i32) (x2 : Vec Ideal S40x8x128 .i32) (x3 : Vec Ideal S1280x1 .f32) (x4 : Vec Ideal S1280x128 .f32) (x5 : Vec Ideal S1280x128 .f32)

/-- One load of a whole block. -/
theorem whole_load {S : Shape} {e : EltTy} {sp : Space} (a : Memref sig .tc sp S e) (h : a.IsWhole) (o : Fin S.rank → ℕ) (ho : o = fun _ => 0) (hb) (x : Vec Ideal S e) :
    View.readAt (Elt Ideal) a.view (Rect.unit (s := S) o S.size hb).toLoadRect (h.unread x) = x := by
  rw [View.readAt_eq_ld, h.read_unread]
  exact View.ld_unit_zero ho _ x

/-- The true logits, from the operands. -/
theorem out7 : out5_A_7 (F := Ideal) c arg0 harg0 arg1 harg1 arg2 harg2 arg3 harg3 arg4 harg4 arg5 harg5 arg6 harg6 arg7 harg7 arg8 harg8 x0 x1 x2 x3 x4 x5
    = k5_pay60 x0 (scrF x1 x2) x3 := by
  unfold out5_A_7
  rw [View.read_writes_junk_eq_canon]
  have hs : View.canon (pb_k5_t1 (F := Ideal) Variants.none c none arg0 harg0 arg1 harg1 arg2 harg2 arg3 harg3 arg4 harg4 arg5 harg5 arg6 harg6 arg7 harg7 arg8 harg8 (harg1.unread x1) (harg2.unread x2) k5_t1_loop.trips) = scrF x1 x2 :=
    funext fun y => by rw [final_loop_canon, harg1.read_unread, harg2.read_unread]
  refine Eq.trans (b := View.canon [(⟨Rect.unit (s := S1280x1) ![0, 0] S1280x1.size inb_S1280x1_S1280x1_0_0,
    k5_pay60 (View.readAt (Elt Ideal) arg0.view (Rect.unit (s := S1280x1536) ![0, 0] S1280x1536.size inb_S1280x1536_S1280x1536_0_0).toLoadRect (harg0.unread x0))
      (arg8.view.readCov (pb_k5_t1 (F := Ideal) Variants.none c none arg0 harg0 arg1 harg1 arg2 harg2 arg3 harg3 arg4 harg4 arg5 harg5 arg6 harg6 arg7 harg7 arg8 harg8 (harg1.unread x1) (harg2.unread x2) k5_t1_loop.trips) (Rect.unit (s := S1280x1536) ![0, 0] S1280x1536.size inb_S1280x1536_S1280x1536_0_0).toLoadRect)
      (View.readAt (Elt Ideal) arg3.view (Rect.unit (s := S1280x1) ![0, 0] S1280x1.size inb_S1280x1_S1280x1_0_0).toLoadRect (harg3.unread x3))⟩ : View.Piece (Elt Ideal) S1280x1 .f32)]) ?_ ?_
  · sl_kernel_rfl
  · rw [View.readCov_eq_canon', hs, whole_load arg0 harg0 ![0, 0] (by decide), whole_load arg3 harg3 ![0, 0] (by decide)]
    have hl : View.ld (Val := Elt Ideal) (e' := .bf16) (scrF x1 x2) (Rect.unit (s := S1280x1536) ![0, 0] S1280x1536.size inb_S1280x1536_S1280x1536_0_0) = scrF x1 x2 :=
      View.ld_unit_zero (S := S1280x1536) (by decide) _ (scrF x1 x2)
    refine Eq.trans (congrArg (fun z => View.canon [(⟨Rect.unit (s := S1280x1) ![0, 0] S1280x1.size inb_S1280x1_S1280x1_0_0, k5_pay60 x0 z x3⟩ : View.Piece (Elt Ideal) S1280x1 .f32)]) hl) ?_
    exact View.canon_cons_unit_zero (by decide) _ _ _

/-- The losses, from the operands. -/
theorem out6 : out5_A_6 (F := Ideal) c arg0 harg0 arg1 harg1 arg2 harg2 arg3 harg3 arg4 harg4 arg5 harg5 arg6 harg6 arg7 harg7 arg8 harg8 x0 x1 x2 x3 x4 x5
    = k5_pay61 x0 (scrF x1 x2) x3 x4 x5 x4 := by
  unfold out5_A_6
  rw [View.read_writes_junk_eq_canon]
  have hs : View.canon (pb_k5_t1 (F := Ideal) Variants.none c none arg0 harg0 arg1 harg1 arg2 harg2 arg3 harg3 arg4 harg4 arg5 harg5 arg6 harg6 arg7 harg7 arg8 harg8 (harg1.unread x1) (harg2.unread x2) k5_t1_loop.trips) = scrF x1 x2 :=
    funext fun y => by rw [final_loop_canon, harg1.read_unread, harg2.read_unread]
  refine Eq.trans (b := View.canon [(⟨Rect.unit (s := S1280x1) ![0, 0] S1280x1.size inb_S1280x1_S1280x1_0_0,
    k5_pay61 (View.readAt (Elt Ideal) arg0.view (Rect.unit (s := S1280x1536) ![0, 0] S1280x1536.size inb_S1280x1536_S1280x1536_0_0).toLoadRect (harg0.unread x0))
      (arg8.view.readCov (pb_k5_t1 (F := Ideal) Variants.none c none arg0 harg0 arg1 harg1 arg2 harg2 arg3 harg3 arg4 harg4 arg5 harg5 arg6 harg6 arg7 harg7 arg8 harg8 (harg1.unread x1) (harg2.unread x2) k5_t1_loop.trips) (Rect.unit (s := S1280x1536) ![0, 0] S1280x1536.size inb_S1280x1536_S1280x1536_0_0).toLoadRect)
      (View.readAt (Elt Ideal) arg3.view (Rect.unit (s := S1280x1) ![0, 0] S1280x1.size inb_S1280x1_S1280x1_0_0).toLoadRect (harg3.unread x3))
      (View.readAt (Elt Ideal) arg4.view (Rect.unit (s := S1280x128) ![0, 0] S1280x128.size inb_S1280x128_S1280x128_0_0).toLoadRect (harg4.unread x4))
      (View.readAt (Elt Ideal) arg5.view (Rect.unit (s := S1280x128) ![0, 0] S1280x128.size inb_S1280x128_S1280x128_0_0).toLoadRect (harg5.unread x5))
      (View.readAt (Elt Ideal) arg4.view (Rect.unit (s := S1280x128) ![0, 0] S1280x128.size inb_S1280x128_S1280x128_0_0).toLoadRect (harg4.unread x4))⟩ : View.Piece (Elt Ideal) S1280x1 .f32)]) ?_ ?_
  · sl_kernel_rfl
  · rw [View.readCov_eq_canon', hs, whole_load arg0 harg0 ![0, 0] (by decide), whole_load arg3 harg3 ![0, 0] (by decide),
      whole_load arg4 harg4 ![0, 0] (by decide), whole_load arg5 harg5 ![0, 0] (by decide)]
    have hl : View.ld (Val := Elt Ideal) (e' := .bf16) (scrF x1 x2) (Rect.unit (s := S1280x1536) ![0, 0] S1280x1536.size inb_S1280x1536_S1280x1536_0_0) = scrF x1 x2 :=
      View.ld_unit_zero (S := S1280x1536) (by decide) _ (scrF x1 x2)
    refine Eq.trans (congrArg (fun z => View.canon [(⟨Rect.unit (s := S1280x1) ![0, 0] S1280x1.size inb_S1280x1_S1280x1_0_0, k5_pay61 x0 z x3 x4 x5 x4⟩ : View.Piece (Elt Ideal) S1280x1 .f32)]) hl) ?_
    exact View.canon_cons_unit_zero (by decide) _ _ _
end

variable (V : (c : Dev nD) → (b : Ref sig .tc) → Buf (Elt Ideal) ((c : Thread nD τ).loc b)) (c : Dev nD)

theorem idx5 : ∀ t : Fin cfg5.N, win5_0.index t = ![0, 0] ∧ win5_1.index t = ![0, 0, 0, 0] ∧ win5_2.index t = ![0, 0, 0]
    ∧ win5_3.index t = ![0, 0] ∧ win5_4.index t = ![0, 0] ∧ win5_5.index t = ![0, 0] := by decide +kernel

set_option maxHeartbeats 4000000 in
/-- The call's results, from the arrays it is given. -/
theorem final_out : (dat5 V c).arrAt 6 cfg5.N = k5_pay61 (V c main_v0) (scrF (V c main_arg7) (V c main_arg13)) (V c main_v31) (V c main_v30_1) (V c main_v30_2) (V c main_v30_1)
    ∧ (dat5 V c).arrAt 7 cfg5.N = k5_pay60 (V c main_v0) (scrF (V c main_arg7) (V c main_arg13)) (V c main_v31) := by
  have h0 : ∀ t, iblk5 V c 0 t = V c main_v0 := fun t => by
    obtain ⟨e0, e1, e2, e3, e4, e5⟩ := idx5 t
    funext y; blk_ext [iblk5, e0]
  have h1 : ∀ t, iblk5 V c 1 t = V c main_arg7 := fun t => by
    obtain ⟨e0, e1, e2, e3, e4, e5⟩ := idx5 t
    funext y; blk_ext [iblk5, e1]
  have h2 : ∀ t, iblk5 V c 2 t = V c main_arg13 := fun t => by
    obtain ⟨e0, e1, e2, e3, e4, e5⟩ := idx5 t
    funext y; blk_ext [iblk5, e2]
  have h3 : ∀ t, iblk5 V c 3 t = V c main_v31 := fun t => by
    obtain ⟨e0, e1, e2, e3, e4, e5⟩ := idx5 t
    funext y; blk_ext [iblk5, e3]
  have h4 : ∀ t, iblk5 V c 4 t = V c main_v30_1 := fun t => by
    obtain ⟨e0, e1, e2, e3, e4, e5⟩ := idx5 t
    funext y; blk_ext [iblk5, e4]
  have h5 : ∀ t, iblk5 V c 5 t = V c main_v30_2 := fun t => by
    obtain ⟨e0, e1, e2, e3, e4, e5⟩ := idx5 t
    funext y; blk_ext [iblk5, e5]
  constructor
  · refine (dat5 V c).arrAt_eq_of_after_last 6 ⟨0, by decide⟩ (by decide +kernel) _ fun j => ?_
    refine (congrFun (after5_6 V c ⟨0, by decide⟩) _).trans ((congrFun ((show (outsAt5 V c ⟨0, by decide⟩).1 = _ from out6 ..).trans (by rw [h0, h1, h2, h3, h4, h5])) _).trans ?_)
    exact congrArg (k5_pay61 _ _ _ _ _ _) (funext fun a => match a with | ⟨0, _⟩ => rfl | ⟨1, _⟩ => rfl)
  · refine (dat5 V c).arrAt_eq_of_after_last 7 ⟨0, by decide⟩ (by decide +kernel) _ fun j => ?_
    refine (congrFun (after5_7 V c ⟨0, by decide⟩) _).trans ((congrFun ((show (outsAt5 V c ⟨0, by decide⟩).2 = _ from out7 _ _ _ _ _ _ _ _ _ _ _ _ _ _ _ _ _ _ _ _ _ _ _ (iblk5 V c 4 ⟨0, by decide⟩) (iblk5 V c 5 ⟨0, by decide⟩)).trans (by rw [h0, h1, h2, h3])) _).trans ?_)
    exact congrArg (k5_pay60 _ _ _) (funext fun a => match a with | ⟨0, _⟩ => rfl | ⟨1, _⟩ => rfl)

end Cert.Proof.Final

end
-- ==== Proof.Pieces.lean ====
/- The stores of a grid point into the lanes' maxima and sums, read back: four half-and-half steps leave the point's block. -/
module

public import proofs.«01_k».proof.Proof.Step
public import Idealize.ShloMosaic.Lib.Pipeline.FrameBody
public import Idealize.ShloMosaic.Lib.Tactic
public import Idealize.ShloMosaic.Lib.Ring
public import Idealize.ShloMosaic.Lib.Pipeline.RowLoads

@[expose] public section

noncomputable section

namespace Cert.Proof.Step

open Idealize.ShloMosaic Idealize.SL Cert.KernelIdeal Cert.KernelIdeal.Gen Cert.Proof.Dequant

/-- What a grid point loads: the two halves of the rows, of the table, of the log-probabilities, of the targets, and the eight
    groups of column ids. -/
structure Tile where
  xl : Vec Ideal S640x1536 .bf16
  xh : Vec Ideal S640x1536 .bf16
  w0 : Vec Ideal S512x1536 .bf16
  w1 : Vec Ideal S512x1536 .bf16
  q0 : Vec Ideal S1x512 .f32
  q1 : Vec Ideal S1x512 .f32
  tl : Vec Ideal S640x128 .i32
  th : Vec Ideal S640x128 .i32
  c0 : Vec Ideal S1x128 .i32
  c1 : Vec Ideal S1x128 .i32
  c2 : Vec Ideal S1x128 .i32
  c3 : Vec Ideal S1x128 .i32
  c4 : Vec Ideal S1x128 .i32
  c5 : Vec Ideal S1x128 .i32
  c6 : Vec Ideal S1x128 .i32
  c7 : Vec Ideal S1x128 .i32

/-- The two halves of the rows of a lane block. -/
abbrev lo : Rect S1280x128 := Rect.unit ![0, 0] S640x128.size inb_S1280x128_S640x128_0_0
abbrev hi : Rect S1280x128 := Rect.unit ![640, 0] S640x128.size inb_S1280x128_S640x128_640_0

namespace Tile
variable (t : Tile) (m s : Vec Ideal S640x128 .f32)
def mLL := stM t.xl t.w0 t.q0 t.tl t.c0 t.c1 t.c2 t.c3 m
def mHL := stM t.xh t.w0 t.q0 t.th t.c0 t.c1 t.c2 t.c3 m
def mLH := stM t.xl t.w1 t.q1 t.tl t.c4 t.c5 t.c6 t.c7 m
def mHH := stM t.xh t.w1 t.q1 t.th t.c4 t.c5 t.c6 t.c7 m
def sLL := stS t.xl t.w0 t.q0 t.tl t.c0 t.c1 t.c2 t.c3 m s
def sHL := stS t.xh t.w0 t.q0 t.th t.c0 t.c1 t.c2 t.c3 m s
def sLH := stS t.xl t.w1 t.q1 t.tl t.c4 t.c5 t.c6 t.c7 m s
def sHH := stS t.xh t.w1 t.q1 t.th t.c4 t.c5 t.c6 t.c7 m s

variable {κ : Kind} {sp : Space} (v u : View sig κ sp S1280x128 .f32) (m0 m1 s0 s1 : Vec Ideal S640x128 .f32)
  (base base' : List (View.Piece (Elt Ideal) S1280x128 .f32))

/-- The stores of the maxima, latest first, by how many there are. -/
def mP2 : List (View.Piece (Elt Ideal) S1280x128 .f32) := ⟨lo, t.mLL m0⟩ :: base
def mP3 : List (View.Piece (Elt Ideal) S1280x128 .f32) := ⟨hi, t.mHL m1⟩ :: t.mP2 m0 base
def mP4 : List (View.Piece (Elt Ideal) S1280x128 .f32) := ⟨lo, t.mLH (v.readCov (t.mP3 m0 m1 base) lo.toLoadRect)⟩ :: t.mP3 m0 m1 base
def mP : List (View.Piece (Elt Ideal) S1280x128 .f32) := ⟨hi, t.mHH (v.readCov (t.mP4 v m0 m1 base) hi.toLoadRect)⟩ :: t.mP4 v m0 m1 base

/-- The stores of the sums, latest first, by how many there are. -/
def sP2 : List (View.Piece (Elt Ideal) S1280x128 .f32) := ⟨lo, t.sLL m0 s0⟩ :: base'
def sP3 : List (View.Piece (Elt Ideal) S1280x128 .f32) := ⟨hi, t.sHL m1 s1⟩ :: t.sP2 m0 s0 base'
def sP4 : List (View.Piece (Elt Ideal) S1280x128 .f32) :=
  ⟨lo, t.sLH (v.readCov (t.mP3 m0 m1 base) lo.toLoadRect) (u.readCov (t.sP3 m0 m1 s0 s1 base') lo.toLoadRect)⟩ :: t.sP3 m0 m1 s0 s1 base'
def sP : List (View.Piece (Elt Ideal) S1280x128 .f32) :=
  ⟨hi, t.sHH (v.readCov (t.mP4 v m0 m1 base) hi.toLoadRect) (u.readCov (t.sP4 v u m0 m1 s0 s1 base base') hi.toLoadRect)⟩ :: t.sP4 v u m0 m1 s0 s1 base base'

/-- A load of one half does not see the latest store when that was into the other half. -/
theorem rc_hi (b : Vec Ideal S640x128 .f32) (L : List (View.Piece (Elt Ideal) S1280x128 .f32)) :
    v.readCov ((⟨hi, b⟩ : View.Piece (Elt Ideal) S1280x128 .f32) :: L) lo.toLoadRect = v.readCov L lo.toLoadRect :=
  View.readCov_cons_of_rows_disjoint (k := 640) (k' := 640) (m := 1280) (n := 128) v 640 0 (Or.inr (by decide)) b L
    inb_S1280x128_S640x128_640_0 inb_S1280x128_S640x128_0_0
theorem rc_lo (b : Vec Ideal S640x128 .f32) (L : List (View.Piece (Elt Ideal) S1280x128 .f32)) :
    v.readCov ((⟨lo, b⟩ : View.Piece (Elt Ideal) S1280x128 .f32) :: L) hi.toLoadRect = v.readCov L hi.toLoadRect :=
  View.readCov_cons_of_rows_disjoint (k := 640) (k' := 640) (m := 1280) (n := 128) v 0 640 (Or.inl (by decide)) b L
    inb_S1280x128_S640x128_0_0 inb_S1280x128_S640x128_640_0

/-- The stores of the kept logits, latest first. -/
def nP : List (View.Piece (Elt Ideal) S640x1024 .f32) :=
  [⟨Rect.unit ![0, 896] S640x128.size inb_S640x1024_S640x128_0_896, k0_pay76 (k0_pay68 t.tl t.c7) (k0_pay72 t.xl t.w1 t.q1)⟩,
   ⟨Rect.unit ![0, 768] S640x128.size inb_S640x1024_S640x128_0_768, k0_pay75 (k0_pay67 t.tl t.c6) (k0_pay71 t.xl t.w1 t.q1)⟩,
   ⟨Rect.unit ![0, 640] S640x128.size inb_S640x1024_S640x128_0_640, k0_pay74 (k0_pay66 t.tl t.c5) (k0_pay70 t.xl t.w1 t.q1)⟩,
   ⟨Rect.unit ![0, 512] S640x128.size inb_S640x1024_S640x128_0_512, k0_pay73 (k0_pay65 t.tl t.c4) (k0_pay69 t.xl t.w1 t.q1)⟩,
   ⟨Rect.unit ![0, 384] S640x128.size inb_S640x1024_S640x128_0_384, k0_pay76 (k0_pay68 t.tl t.c3) (k0_pay72 t.xl t.w0 t.q0)⟩,
   ⟨Rect.unit ![0, 256] S640x128.size inb_S640x1024_S640x128_0_256, k0_pay75 (k0_pay67 t.tl t.c2) (k0_pay71 t.xl t.w0 t.q0)⟩,
   ⟨Rect.unit ![0, 128] S640x128.size inb_S640x1024_S640x128_0_128, k0_pay74 (k0_pay66 t.tl t.c1) (k0_pay70 t.xl t.w0 t.q0)⟩,
   ⟨Rect.unit ![0, 0] S640x128.size inb_S640x1024_S640x128_0_0, k0_pay73 (k0_pay65 t.tl t.c0) (k0_pay69 t.xl t.w0 t.q0)⟩]

theorem m_lo : v.readCov (t.mP3 m0 m1 base) lo.toLoadRect = t.mLL m0 :=
  (rc_hi v _ _).trans (View.readCov_cons_toLoadRect v lo (t.mLL m0) base)
theorem m_hi : v.readCov (t.mP4 v m0 m1 base) hi.toLoadRect = t.mHL m1 :=
  (rc_lo v _ _).trans (View.readCov_cons_toLoadRect v hi (t.mHL m1) _)
theorem s_lo : u.readCov (t.sP3 m0 m1 s0 s1 base') lo.toLoadRect = t.sLL m0 s0 :=
  (rc_hi u _ _).trans (View.readCov_cons_toLoadRect u lo (t.sLL m0 s0) base')
theorem s_hi : u.readCov (t.sP4 v u m0 m1 s0 s1 base base') hi.toLoadRect = t.sHL m1 s1 :=
  (rc_lo u _ _).trans (View.readCov_cons_toLoadRect u hi (t.sHL m1 s1) _)

/-- A block whose two halves were stored last is those halves. -/
theorem canon_two (a b : Vec Ideal S640x128 .f32) (L : List (View.Piece (Elt Ideal) S1280x128 .f32)) (G : Vec Ideal S1280x128 .f32)
    (ha : ∀ (r : Fin 640) (l : Fin 128), a (Idealize.ShloMosaic.ix2 r l) = G (Idealize.ShloMosaic.ix2 (⟨0 + r.val, by omega⟩ : Fin 1280) l))
    (hb : ∀ (r : Fin 640) (l : Fin 128), b (Idealize.ShloMosaic.ix2 r l) = G (Idealize.ShloMosaic.ix2 (⟨640 + r.val, by omega⟩ : Fin 1280) l)) :
    View.canon ((⟨hi, b⟩ : View.Piece (Elt Ideal) S1280x128 .f32) :: ⟨lo, a⟩ :: L) = G := by
  funext y
  obtain ⟨R, l, rfl⟩ : ∃ (R : Fin 1280) (l : Fin 128), y = Idealize.ShloMosaic.ix2 R l :=
    ⟨y 0, y 1, by funext a; match a with | ⟨0, _⟩ => rfl | ⟨1, _⟩ => rfl⟩
  have hR := R.isLt
  by_cases h : R.val < 640
  · have e : Idealize.ShloMosaic.ix2 R l = lo.emb (Idealize.ShloMosaic.ix2 (⟨R.val, h⟩ : Fin 640) l) := by
      funext a
      match a with
      | ⟨0, _⟩ => exact Fin.ext (show R.val = 0 + 1 * R.val by omega)
      | ⟨1, _⟩ => exact Fin.ext (show l.val = 0 + 1 * l.val by omega)
    rw [View.canon_cons_of_not_mem, e, View.canon_cons_emb, ha]
    · rw [← e]; congr 1; funext a
      match a with
      | ⟨0, _⟩ => exact Fin.ext (show 0 + R.val = R.val by omega)
      | ⟨1, _⟩ => rfl
    · intro hm
      have := (Rect.mem_set_unit (inb := inb_S1280x128_S640x128_640_0).mp hm 0).1
      change 640 ≤ R.val at this
      omega
  · have e : Idealize.ShloMosaic.ix2 R l = hi.emb (Idealize.ShloMosaic.ix2 (⟨R.val - 640, by omega⟩ : Fin 640) l) := by
      funext a
      match a with
      | ⟨0, _⟩ => exact Fin.ext (show R.val = 640 + 1 * (R.val - 640) by omega)
      | ⟨1, _⟩ => exact Fin.ext (show l.val = 0 + 1 * l.val by omega)
    rw [e, View.canon_cons_emb, hb, ← e]
    congr 1; funext a
    match a with
    | ⟨0, _⟩ => exact Fin.ext (show 640 + (R.val - 640) = R.val by omega)
    | ⟨1, _⟩ => rfl

end Tile

/-- The loads of a grid point from its blocks. -/
def tileOf (X : Vec Ideal S1280x1536 .bf16) (w0 w1 : Vec Ideal S512x1536 .bf16) (I : Vec Ideal S1x1024 .i32) (q : Vec Ideal S1x1024 .f32)
    (T : Vec Ideal S1280x128 .i32) : Tile where
  xl := View.ld (Val := Elt Ideal) X (Rect.unit ![0, 0] S640x1536.size inb_S1280x1536_S640x1536_0_0)
  xh := View.ld (Val := Elt Ideal) X (Rect.unit ![640, 0] S640x1536.size inb_S1280x1536_S640x1536_640_0)
  w0 := w0
  w1 := w1
  q0 := View.ld (Val := Elt Ideal) q (Rect.unit ![0, 0] S1x512.size inb_S1x1024_S1x512_0_0)
  q1 := View.ld (Val := Elt Ideal) q (Rect.unit ![0, 512] S1x512.size inb_S1x1024_S1x512_0_512)
  tl := View.ld (Val := Elt Ideal) (e' := .i32) T lo
  th := View.ld (Val := Elt Ideal) (e' := .i32) T hi
  c0 := View.ld (Val := Elt Ideal) (e' := .i32) I (Rect.unit ![0, 0] S1x128.size inb_S1x1024_S1x128_0_0)
  c1 := View.ld (Val := Elt Ideal) (e' := .i32) I (Rect.unit ![0, 128] S1x128.size inb_S1x1024_S1x128_0_128)
  c2 := View.ld (Val := Elt Ideal) (e' := .i32) I (Rect.unit ![0, 256] S1x128.size inb_S1x1024_S1x128_0_256)
  c3 := View.ld (Val := Elt Ideal) (e' := .i32) I (Rect.unit ![0, 384] S1x128.size inb_S1x1024_S1x128_0_384)
  c4 := View.ld (Val := Elt Ideal) (e' := .i32) I (Rect.unit ![0, 512] S1x128.size inb_S1x1024_S1x128_0_512)
  c5 := View.ld (Val := Elt Ideal) (e' := .i32) I (Rect.unit ![0, 640] S1x128.size inb_S1x1024_S1x128_0_640)
  c6 := View.ld (Val := Elt Ideal) (e' := .i32) I (Rect.unit ![0, 768] S1x128.size inb_S1x1024_S1x128_0_768)
  c7 := View.ld (Val := Elt Ideal) (e' := .i32) I (Rect.unit ![0, 896] S1x128.size inb_S1x1024_S1x128_0_896)

section
variable (X : Vec Ideal S1280x1536 .bf16) (W : Vec Ideal S1024x1536 .bf16) (I : Vec Ideal S1x1024 .i32) (q : Vec Ideal S1x1024 .f32)
  (T : Vec Ideal S1280x128 .i32) (M S : Vec Ideal S1280x128 .f32)

/-- The two halves of the table. -/
abbrev wlo : Vec Ideal S512x1536 .bf16 := View.ld (Val := Elt Ideal) W (Rect.unit ![0, 0] S512x1536.size inb_S1024x1536_S512x1536_0_0)
abbrev whi : Vec Ideal S512x1536 .bf16 := View.ld (Val := Elt Ideal) W (Rect.unit ![512, 0] S512x1536.size inb_S1024x1536_S512x1536_512_0)

/-- The maxima and sums after both halves of the columns, at a lane of half `o` of the rows. -/
theorem two_apply (o : ℕ) (ho : o + 640 ≤ 1280)
    (i1 : ∀ a, ![o, 0] a + S640x1536.size a ≤ S1280x1536.size a) (i4 : ∀ a, ![o, 0] a + S640x128.size a ≤ S1280x128.size a)
    (r : Fin 640) (l : Fin 128) (m s : Vec Ideal S640x128 .f32)
    (hm : m (Idealize.ShloMosaic.ix2 r l) = M (Idealize.ShloMosaic.ix2 (⟨o + r.val, by omega⟩ : Fin 1280) l))
    (hs : s (Idealize.ShloMosaic.ix2 r l) = S (Idealize.ShloMosaic.ix2 (⟨o + r.val, by omega⟩ : Fin 1280) l)) :
    let tt := tileOf X (wlo W) (whi W) I q T
    let x := View.ld (Val := Elt Ideal) X (Rect.unit ![o, 0] S640x1536.size i1)
    let t := View.ld (Val := Elt Ideal) (e' := .i32) T (Rect.unit ![o, 0] S640x128.size i4)
    stM x tt.w1 tt.q1 t tt.c4 tt.c5 tt.c6 tt.c7 (stM x tt.w0 tt.q0 t tt.c0 tt.c1 tt.c2 tt.c3 m) (Idealize.ShloMosaic.ix2 r l)
      = mBlk X W I q T M (Idealize.ShloMosaic.ix2 (⟨o + r.val, by omega⟩ : Fin 1280) l)
    ∧ stS x tt.w1 tt.q1 t tt.c4 tt.c5 tt.c6 tt.c7 (stM x tt.w0 tt.q0 t tt.c0 tt.c1 tt.c2 tt.c3 m) (stS x tt.w0 tt.q0 t tt.c0 tt.c1 tt.c2 tt.c3 m s) (Idealize.ShloMosaic.ix2 r l)
      = sBlk X W I q T M S (Idealize.ShloMosaic.ix2 (⟨o + r.val, by omega⟩ : Fin 1280) l) := by
  intro tt x t
  obtain ⟨a1, a2⟩ := st_apply X W I q T o 0 ho (by omega) (by omega) i1 inb_S1024x1536_S512x1536_0_0 inb_S1x1024_S1x512_0_0 i4
    inb_S1x1024_S1x128_0_0 inb_S1x1024_S1x128_0_128 inb_S1x1024_S1x128_0_256 inb_S1x1024_S1x128_0_384 m s r l
  obtain ⟨b1, b2⟩ := st_apply X W I q T o 512 ho (by omega) (by omega) i1 inb_S1024x1536_S512x1536_512_0 inb_S1x1024_S1x512_0_512 i4
    inb_S1x1024_S1x128_0_512 inb_S1x1024_S1x128_0_640 inb_S1x1024_S1x128_0_768 inb_S1x1024_S1x128_0_896
    (stM x tt.w0 tt.q0 t tt.c0 tt.c1 tt.c2 tt.c3 m) (stS x tt.w0 tt.q0 t tt.c0 tt.c1 tt.c2 tt.c3 m s) r l
  have a1' : stM x tt.w0 tt.q0 t tt.c0 tt.c1 tt.c2 tt.c3 m (Idealize.ShloMosaic.ix2 r l) = _ := a1
  have a2' : stS x tt.w0 tt.q0 t tt.c0 tt.c1 tt.c2 tt.c3 m s (Idealize.ShloMosaic.ix2 r l) = _ := a2
  rw [a1'] at b1
  rw [a1', a2'] at b2
  rw [hm] at b1 b2
  rw [hs] at b2
  have cc : ∀ (k : ℕ) (hk : k < 8) (n : Fin 1024) (hn : n.val = 128 * k + l.val),
      nmF X W I q T ⟨o + r.val, by omega⟩ n = cols X W I q T ⟨o + r.val, by omega⟩ l k := by
    intro k hk n hn
    unfold cols
    rw [dif_pos hk]
    congr 1
    exact Fin.ext hn
  have d0 := cc 0 (by omega) ⟨0 + 0 + l.val, by omega⟩ (by show 0 + 0 + l.val = _; omega)
  have d1 := cc 1 (by omega) ⟨0 + 128 + l.val, by omega⟩ (by show 0 + 128 + l.val = _; omega)
  have d2 := cc 2 (by omega) ⟨0 + 256 + l.val, by omega⟩ (by show 0 + 256 + l.val = _; omega)
  have d3 := cc 3 (by omega) ⟨0 + 384 + l.val, by omega⟩ (by show 0 + 384 + l.val = _; omega)
  have d4 := cc 4 (by omega) ⟨512 + 0 + l.val, by omega⟩ (by show 512 + 0 + l.val = _; omega)
  have d5 := cc 5 (by omega) ⟨512 + 128 + l.val, by omega⟩ (by show 512 + 128 + l.val = _; omega)
  have d6 := cc 6 (by omega) ⟨512 + 256 + l.val, by omega⟩ (by show 512 + 256 + l.val = _; omega)
  have d7 := cc 7 (by omega) ⟨512 + 384 + l.val, by omega⟩ (by show 512 + 384 + l.val = _; omega)
  rw [d0, d1, d2, d3, d4, d5, d6, d7] at b1 b2
  exact ⟨b1, b2⟩

variable {κ : Kind} {sp : Space} (v u : View sig κ sp S1280x128 .f32) (base base' : List (View.Piece (Elt Ideal) S1280x128 .f32))
  (m0 m1 s0 s1 : Vec Ideal S640x128 .f32)

/-- The kept logits a grid point leaves. -/
theorem kept_canon : View.canon ((tileOf X (wlo W) (whi W) I q T).nP) = nBlk X W I q T := by
  have z0 : Ideal.ofBits .f32 0x00000000#32 = 0 := by simp [Ideal.ofBits, Ideal.ieee]
  have key : ∀ (n : ℕ) (hn : n + 128 ≤ 1024) (i : ∀ a, ![0, n] a + S640x128.size a ≤ S640x1024.size a) (x : S640x128.Idx),
      nBlk X W I q T ((Rect.unit (s := S640x1024) ![0, n] S640x128.size i).emb x)
        = if hitF I T ⟨0 + (x 0).val, by have h : (x 0).val < 640 := (x 0).isLt; omega⟩ ⟨n + (x 1).val, by have h : (x 1).val < 128 := (x 1).isLt; omega⟩
          then Ideal.ofBits .f32 0x00000000#32
          else negF X W q ⟨0 + (x 0).val, by have h : (x 0).val < 640 := (x 0).isLt; omega⟩ ⟨n + (x 1).val, by have h : (x 1).val < 128 := (x 1).isLt; omega⟩ := by
    intro n hn i x
    rw [z0]
    unfold nBlk zF
    have e0 : (⟨(((Rect.unit (s := S640x1024) ![0, n] S640x128.size i).emb x) 0).val, Nat.lt_of_lt_of_le (((Rect.unit (s := S640x1024) ![0, n] S640x128.size i).emb x) 0).isLt (by decide)⟩ : Fin 1280)
        = ⟨0 + (x 0).val, by have h : (x 0).val < 640 := (x 0).isLt; omega⟩ := Fin.ext (show 0 + 1 * (x 0).val = 0 + (x 0).val by omega)
    have e1 : (((Rect.unit (s := S640x1024) ![0, n] S640x128.size i).emb x) 1 : Fin 1024)
        = (⟨n + (x 1).val, by have h : (x 1).val < 128 := (x 1).isLt; omega⟩ : Fin 1024) := Fin.ext (congrArg (n + ·) (Nat.one_mul (x 1).val))
    rw [e0, e1]
  have hx : ∀ x : S640x128.Idx, x = Idealize.ShloMosaic.ix2 (x 0 : Fin 640) (x 1 : Fin 128) := fun x => by
    funext a; match a with | ⟨0, _⟩ => rfl | ⟨1, _⟩ => rfl
  funext y
  refine View.canon_apply_of_pieces _ _ ?_ y ?_
  · unfold Tile.nP
    simp only [List.forall_mem_cons]
    refine ⟨?_, ?_, ?_, ?_, ?_, ?_, ?_, ?_, fun _ h => absurd h List.not_mem_nil⟩ <;> intro x <;> rw [key _ (by decide)] <;> rw [hx x]
    · exact sel_apply X W I q T 0 512 384 (by omega) (by omega) (by omega) (by omega) _ inb_S1280x1536_S640x1536_0_0 inb_S1024x1536_S512x1536_512_0
        inb_S1x1024_S1x512_0_512 inb_S1280x128_S640x128_0_0 inb_S1x1024_S1x128_0_896 slices_S640x512_o0_384_S640x128 (x 0) (x 1)
    · exact sel_apply X W I q T 0 512 256 (by omega) (by omega) (by omega) (by omega) _ inb_S1280x1536_S640x1536_0_0 inb_S1024x1536_S512x1536_512_0
        inb_S1x1024_S1x512_0_512 inb_S1280x128_S640x128_0_0 inb_S1x1024_S1x128_0_768 slices_S640x512_o0_256_S640x128 (x 0) (x 1)
    · exact sel_apply X W I q T 0 512 128 (by omega) (by omega) (by omega) (by omega) _ inb_S1280x1536_S640x1536_0_0 inb_S1024x1536_S512x1536_512_0
        inb_S1x1024_S1x512_0_512 inb_S1280x128_S640x128_0_0 inb_S1x1024_S1x128_0_640 slices_S640x512_o0_128_S640x128 (x 0) (x 1)
    · exact sel_apply X W I q T 0 512 0 (by omega) (by omega) (by omega) (by omega) _ inb_S1280x1536_S640x1536_0_0 inb_S1024x1536_S512x1536_512_0
        inb_S1x1024_S1x512_0_512 inb_S1280x128_S640x128_0_0 inb_S1x1024_S1x128_0_512 slices_S640x512_o0_0_S640x128 (x 0) (x 1)
    · exact sel_apply X W I q T 0 0 384 (by omega) (by omega) (by omega) (by omega) _ inb_S1280x1536_S640x1536_0_0 inb_S1024x1536_S512x1536_0_0
        inb_S1x1024_S1x512_0_0 inb_S1280x128_S640x128_0_0 inb_S1x1024_S1x128_0_384 slices_S640x512_o0_384_S640x128 (x 0) (x 1)
    · exact sel_apply X W I q T 0 0 256 (by omega) (by omega) (by omega) (by omega) _ inb_S1280x1536_S640x1536_0_0 inb_S1024x1536_S512x1536_0_0
        inb_S1x1024_S1x512_0_0 inb_S1280x128_S640x128_0_0 inb_S1x1024_S1x128_0_256 slices_S640x512_o0_256_S640x128 (x 0) (x 1)
    · exact sel_apply X W I q T 0 0 128 (by omega) (by omega) (by omega) (by omega) _ inb_S1280x1536_S640x1536_0_0 inb_S1024x1536_S512x1536_0_0
        inb_S1x1024_S1x512_0_0 inb_S1280x128_S640x128_0_0 inb_S1x1024_S1x128_0_128 slices_S640x512_o0_128_S640x128 (x 0) (x 1)
    · exact sel_apply X W I q T 0 0 0 (by omega) (by omega) (by omega) (by omega) _ inb_S1280x1536_S640x1536_0_0 inb_S1024x1536_S512x1536_0_0
        inb_S1x1024_S1x512_0_0 inb_S1280x128_S640x128_0_0 inb_S1x1024_S1x128_0_0 slices_S640x512_o0_0_S640x128 (x 0) (x 1)
  · exact View.cover_of_tiledL (tileOf X (wlo W) (whi W) I q T).nP S640x128.size (by sl_kernel_rfl) y

/-- The maxima and the sums a grid point leaves, from what it starts with. -/
theorem point_canon (hm0 : m0 = View.ld (Val := Elt Ideal) (e' := .f32) M lo) (hm1 : m1 = View.ld (Val := Elt Ideal) (e' := .f32) M hi)
    (hs0 : s0 = View.ld (Val := Elt Ideal) (e' := .f32) S lo) (hs1 : s1 = View.ld (Val := Elt Ideal) (e' := .f32) S hi) :
    View.canon ((tileOf X (wlo W) (whi W) I q T).mP v m0 m1 base) = mBlk X W I q T M
    ∧ View.canon ((tileOf X (wlo W) (whi W) I q T).sP v u m0 m1 s0 s1 base base') = sBlk X W I q T M S := by
  have ld_lo : ∀ (G : Vec Ideal S1280x128 .f32) (r : Fin 640) (l : Fin 128), View.ld (Val := Elt Ideal) (e' := .f32) G lo (Idealize.ShloMosaic.ix2 r l)
      = G (Idealize.ShloMosaic.ix2 (⟨0 + r.val, by omega⟩ : Fin 1280) l) := by
    intro G r l
    apply congrArg G; funext a
    match a with
    | ⟨0, _⟩ => exact Fin.ext (show 0 + 1 * r.val = 0 + r.val by omega)
    | ⟨1, _⟩ => exact Fin.ext (show 0 + 1 * l.val = l.val by omega)
  have ld_hi : ∀ (G : Vec Ideal S1280x128 .f32) (r : Fin 640) (l : Fin 128), View.ld (Val := Elt Ideal) (e' := .f32) G hi (Idealize.ShloMosaic.ix2 r l)
      = G (Idealize.ShloMosaic.ix2 (⟨640 + r.val, by omega⟩ : Fin 1280) l) := by
    intro G r l
    apply congrArg G; funext a
    match a with
    | ⟨0, _⟩ => exact Fin.ext (show 640 + 1 * r.val = 640 + r.val by omega)
    | ⟨1, _⟩ => exact Fin.ext (show 0 + 1 * l.val = l.val by omega)
  constructor
  · unfold Tile.mP
    rw [Tile.m_hi]
    unfold Tile.mP4
    rw [Tile.m_lo]
    refine Tile.canon_two _ _ _ _ (fun r l => ?_) (fun r l => ?_)
    · exact (two_apply X W I q T M S 0 (by omega) inb_S1280x1536_S640x1536_0_0 inb_S1280x128_S640x128_0_0 r l m0 s0 (by rw [hm0]; exact ld_lo M r l) (by rw [hs0]; exact ld_lo S r l)).1
    · exact (two_apply X W I q T M S 640 (by omega) inb_S1280x1536_S640x1536_640_0 inb_S1280x128_S640x128_640_0 r l m1 s1 (by rw [hm1]; exact ld_hi M r l) (by rw [hs1]; exact ld_hi S r l)).1
  · unfold Tile.sP
    rw [Tile.m_hi, Tile.s_hi]
    unfold Tile.sP4
    rw [Tile.m_lo, Tile.s_lo]
    refine Tile.canon_two _ _ _ _ (fun r l => ?_) (fun r l => ?_)
    · exact (two_apply X W I q T M S 0 (by omega) inb_S1280x1536_S640x1536_0_0 inb_S1280x128_S640x128_0_0 r l m0 s0 (by rw [hm0]; exact ld_lo M r l) (by rw [hs0]; exact ld_lo S r l)).2
    · exact (two_apply X W I q T M S 640 (by omega) inb_S1280x1536_S640x1536_640_0 inb_S1280x128_S640x128_640_0 r l m1 s1 (by rw [hm1]; exact ld_hi M r l) (by rw [hs1]; exact ld_hi S r l)).2

end

/-- The store that starts the lanes of a chunk leaves the contents given to it. -/
def start (G : Vec Ideal S1280x128 .f32) : List (View.Piece (Elt Ideal) S1280x128 .f32) :=
  [⟨Rect.unit ![0, 0] S1280x128.size inb_S1280x128_S1280x128_0_0, k0_pay60 G⟩]

theorem start_canon (G : Vec Ideal S1280x128 .f32) : View.canon (start G) = G :=
  (View.canon_cons_unit_zero (S := S1280x128) (by decide) _ _ _).trans
    (shapeCast_self (s := S1280x128) G shapeCasts_S1280x128_S1280x128)
theorem start_lo {κ : Kind} {sp : Space} (v : View sig κ sp S1280x128 .f32) (G : Vec Ideal S1280x128 .f32) :
    v.readCov (start G) lo.toLoadRect = View.ld (Val := Elt Ideal) (e' := .f32) G lo := by
  rw [View.readCov_eq_canon', start_canon]
theorem start_hi {κ : Kind} {sp : Space} (v : View sig κ sp S1280x128 .f32) (t : Tile) (m : Vec Ideal S640x128 .f32)
    (G : Vec Ideal S1280x128 .f32) :
    v.readCov (t.mP2 m (start G)) hi.toLoadRect = View.ld (Val := Elt Ideal) (e' := .f32) G hi := by
  refine (Tile.rc_lo v _ _).trans ?_
  rw [View.readCov_eq_canon', start_canon]
theorem start_hi' {κ : Kind} {sp : Space} (v : View sig κ sp S1280x128 .f32) (t : Tile) (m s : Vec Ideal S640x128 .f32)
    (G : Vec Ideal S1280x128 .f32) :
    v.readCov (t.sP2 m s (start G)) hi.toLoadRect = View.ld (Val := Elt Ideal) (e' := .f32) G hi := by
  refine (Tile.rc_lo v _ _).trans ?_
  rw [View.readCov_eq_canon', start_canon]

/-- The whole of a block, loaded. -/
theorem ld_whole (G : Vec Ideal S1280x128 .f32) :
    View.ld (Val := Elt Ideal) (e' := .f32) G (Rect.unit ![0, 0] S1280x128.size inb_S1280x128_S1280x128_0_0) = G :=
  View.ld_unit_zero (S := S1280x128) (by decide) _ G

/-- The loads of a grid point, from what its buffers hold. -/
abbrev loads {κ : Kind} {sp : Space} (a1 : View sig κ sp S1280x1536 .bf16) (a4 : View sig κ sp S1x1024 .i32) (a5 : View sig κ sp S1x1024 .f32)
    (a6 : View sig κ sp S1280x128 .i32) (sc : View sig κ sp S1024x1536 .bf16)
    (X : a1.ty.Contents (Elt Ideal)) (I : a4.ty.Contents (Elt Ideal)) (q : a5.ty.Contents (Elt Ideal)) (T : a6.ty.Contents (Elt Ideal))
    (L : List (View.Piece (Elt Ideal) S1024x1536 .bf16)) : Tile where
  xl := View.readAt (Elt Ideal) a1 (Rect.unit (s := S1280x1536) ![0, 0] S640x1536.size inb_S1280x1536_S640x1536_0_0).toLoadRect X
  xh := View.readAt (Elt Ideal) a1 (Rect.unit (s := S1280x1536) ![640, 0] S640x1536.size inb_S1280x1536_S640x1536_640_0).toLoadRect X
  w0 := sc.readCov L (Rect.unit (s := S1024x1536) ![0, 0] S512x1536.size inb_S1024x1536_S512x1536_0_0).toLoadRect
  w1 := sc.readCov L (Rect.unit (s := S1024x1536) ![512, 0] S512x1536.size inb_S1024x1536_S512x1536_512_0).toLoadRect
  q0 := View.readAt (Elt Ideal) a5 (Rect.unit (s := S1x1024) ![0, 0] S1x512.size inb_S1x1024_S1x512_0_0).toLoadRect q
  q1 := View.readAt (Elt Ideal) a5 (Rect.unit (s := S1x1024) ![0, 512] S1x512.size inb_S1x1024_S1x512_0_512).toLoadRect q
  tl := View.readAt (Elt Ideal) a6 (Rect.unit (s := S1280x128) ![0, 0] S640x128.size inb_S1280x128_S640x128_0_0).toLoadRect T
  th := View.readAt (Elt Ideal) a6 (Rect.unit (s := S1280x128) ![640, 0] S640x128.size inb_S1280x128_S640x128_640_0).toLoadRect T
  c0 := View.readAt (Elt Ideal) a4 (Rect.unit (s := S1x1024) ![0, 0] S1x128.size inb_S1x1024_S1x128_0_0).toLoadRect I
  c1 := View.readAt (Elt Ideal) a4 (Rect.unit (s := S1x1024) ![0, 128] S1x128.size inb_S1x1024_S1x128_0_128).toLoadRect I
  c2 := View.readAt (Elt Ideal) a4 (Rect.unit (s := S1x1024) ![0, 256] S1x128.size inb_S1x1024_S1x128_0_256).toLoadRect I
  c3 := View.readAt (Elt Ideal) a4 (Rect.unit (s := S1x1024) ![0, 384] S1x128.size inb_S1x1024_S1x128_0_384).toLoadRect I
  c4 := View.readAt (Elt Ideal) a4 (Rect.unit (s := S1x1024) ![0, 512] S1x128.size inb_S1x1024_S1x128_0_512).toLoadRect I
  c5 := View.readAt (Elt Ideal) a4 (Rect.unit (s := S1x1024) ![0, 640] S1x128.size inb_S1x1024_S1x128_0_640).toLoadRect I
  c6 := View.readAt (Elt Ideal) a4 (Rect.unit (s := S1x1024) ![0, 768] S1x128.size inb_S1x1024_S1x128_0_768).toLoadRect I
  c7 := View.readAt (Elt Ideal) a4 (Rect.unit (s := S1x1024) ![0, 896] S1x128.size inb_S1x1024_S1x128_0_896).toLoadRect I

theorem loads_eq {κ : Kind} {sp : Space} (a1 : View sig κ sp S1280x1536 .bf16) (a4 : View sig κ sp S1x1024 .i32) (a5 : View sig κ sp S1x1024 .f32)
    (a6 : View sig κ sp S1280x128 .i32) (sc : View sig κ sp S1024x1536 .bf16)
    (X : a1.ty.Contents (Elt Ideal)) (I : a4.ty.Contents (Elt Ideal)) (q : a5.ty.Contents (Elt Ideal)) (T : a6.ty.Contents (Elt Ideal))
    (L : List (View.Piece (Elt Ideal) S1024x1536 .bf16)) (x : Vec Ideal S1280x1536 .bf16) (i : Vec Ideal S1x1024 .i32)
    (p : Vec Ideal S1x1024 .f32) (u : Vec Ideal S1280x128 .i32) (W : Vec Ideal S1024x1536 .bf16)
    (hX : a1.read (Elt Ideal) X = x) (hI : a4.read (Elt Ideal) I = i) (hq : a5.read (Elt Ideal) q = p) (hT : a6.read (Elt Ideal) T = u)
    (hL : View.canon L = W) : loads a1 a4 a5 a6 sc X I q T L = tileOf x (wlo W) (whi W) i p u := by
  subst hX hI hq hT hL
  unfold loads tileOf
  rw [View.readCov_eq_canon', View.readCov_eq_canon']
  rfl

/-- What a grid point leaves in its three blocks, from its stores. -/
theorem point_outs {κ : Kind} {sp : Space} (v u : View sig κ sp S1280x128 .f32) (t : Tile) (base base' : List (View.Piece (Elt Ideal) S1280x128 .f32))
    (m0 m1 s0 s1 : Vec Ideal S640x128 .f32)
    (X : Vec Ideal S1280x1536 .bf16) (W : Vec Ideal S1024x1536 .bf16) (I : Vec Ideal S1x1024 .i32) (q : Vec Ideal S1x1024 .f32)
    (T : Vec Ideal S1280x128 .i32) (M S : Vec Ideal S1280x128 .f32) (L8 : List (View.Piece (Elt Ideal) S640x1024 .f32))
    (L9 L10 : List (View.Piece (Elt Ideal) S1280x128 .f32))
    (h8 : L8 = t.nP) (h9 : L9 = t.mP v m0 m1 base) (h10 : L10 = t.sP v u m0 m1 s0 s1 base base')
    (ht : t = tileOf X (wlo W) (whi W) I q T)
    (hm0 : m0 = View.ld (Val := Elt Ideal) (e' := .f32) M lo) (hm1 : m1 = View.ld (Val := Elt Ideal) (e' := .f32) M hi)
    (hs0 : s0 = View.ld (Val := Elt Ideal) (e' := .f32) S lo) (hs1 : s1 = View.ld (Val := Elt Ideal) (e' := .f32) S hi) :
    View.canon L8 = nBlk X W I q T ∧ View.canon L9 = mBlk X W I q T M ∧ View.canon L10 = sBlk X W I q T M S := by
  subst h8 h9 h10 ht
  exact ⟨kept_canon X W I q T, point_canon X W I q T M S v u base base' m0 m1 s0 s1 hm0 hm1 hs0 hs1⟩

end Cert.Proof.Step
-- ==== Proof.Block0.lean ====
/- What a grid point of chunk 0 leaves in its three output blocks. -/
module

public import proofs.«01_k».proof.Proof.Pieces
public import proofs.«01_k».proof.Proof.Scratch
public import proofs.«01_k».proof.Proof.Gen.KernelIdeal.Frame.Region0
import all proofs.«01_k».proof.Proof.Gen.KernelIdeal.Frame.Region0

@[expose] public section

noncomputable section

namespace Cert.Proof.Step

open Idealize.ShloMosaic Idealize.SL Cert.KernelIdeal Cert.KernelIdeal.Gen Cert.Proof.Dequant

set_option maxHeartbeats 2000000 in
/-- The blocks at the first point of the chunk, which starts from the lanes given to it. -/
theorem outs0_A (c : Dev nD) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (hc0 : cond0_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = nBlk x0 (scr x1 x2) x3 x4 x5
    ∧ out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = mBlk x0 (scr x1 x2) x3 x4 x5 x6
    ∧ out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = sBlk x0 (scr x1 x2) x3 x4 x5 x6 x7 := by
  unfold out0_A_8 out0_A_9 out0_A_10
  rw [View.read_writes_junk_eq_canon, View.read_writes_junk_eq_canon, View.read_writes_junk_eq_canon]
  refine point_outs arg10.view arg11.view
    (loads arg1.view arg4.view arg5.view arg6.view arg12.view (harg1.unread x0) (harg4.unread x3) (harg5.unread x4) (harg6.unread x5) (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (Scf.trips k0_t1_loop.lb k0_t1_loop.ub k0_t1_loop.st)))
    (start (View.readAt (Elt Ideal) arg7.view (Rect.unit (s := S1280x128) ![0, 0] S1280x128.size inb_S1280x128_S1280x128_0_0).toLoadRect (harg7.unread x6))) (start (View.readAt (Elt Ideal) arg8.view (Rect.unit (s := S1280x128) ![0, 0] S1280x128.size inb_S1280x128_S1280x128_0_0).toLoadRect (harg8.unread x7)))
    (arg10.view.readCov (start (View.readAt (Elt Ideal) arg7.view (Rect.unit (s := S1280x128) ![0, 0] S1280x128.size inb_S1280x128_S1280x128_0_0).toLoadRect (harg7.unread x6))) lo.toLoadRect)
    (arg10.view.readCov (Tile.mP2 (loads arg1.view arg4.view arg5.view arg6.view arg12.view (harg1.unread x0) (harg4.unread x3) (harg5.unread x4) (harg6.unread x5) (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (Scf.trips k0_t1_loop.lb k0_t1_loop.ub k0_t1_loop.st))) (arg10.view.readCov (start (View.readAt (Elt Ideal) arg7.view (Rect.unit (s := S1280x128) ![0, 0] S1280x128.size inb_S1280x128_S1280x128_0_0).toLoadRect (harg7.unread x6))) lo.toLoadRect) (start (View.readAt (Elt Ideal) arg7.view (Rect.unit (s := S1280x128) ![0, 0] S1280x128.size inb_S1280x128_S1280x128_0_0).toLoadRect (harg7.unread x6)))) hi.toLoadRect)
    (arg11.view.readCov (start (View.readAt (Elt Ideal) arg8.view (Rect.unit (s := S1280x128) ![0, 0] S1280x128.size inb_S1280x128_S1280x128_0_0).toLoadRect (harg8.unread x7))) lo.toLoadRect)
    (arg11.view.readCov (Tile.sP2 (loads arg1.view arg4.view arg5.view arg6.view arg12.view (harg1.unread x0) (harg4.unread x3) (harg5.unread x4) (harg6.unread x5) (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (Scf.trips k0_t1_loop.lb k0_t1_loop.ub k0_t1_loop.st))) (arg10.view.readCov (start (View.readAt (Elt Ideal) arg7.view (Rect.unit (s := S1280x128) ![0, 0] S1280x128.size inb_S1280x128_S1280x128_0_0).toLoadRect (harg7.unread x6))) lo.toLoadRect) (arg11.view.readCov (start (View.readAt (Elt Ideal) arg8.view (Rect.unit (s := S1280x128) ![0, 0] S1280x128.size inb_S1280x128_S1280x128_0_0).toLoadRect (harg8.unread x7))) lo.toLoadRect) (start (View.readAt (Elt Ideal) arg8.view (Rect.unit (s := S1280x128) ![0, 0] S1280x128.size inb_S1280x128_S1280x128_0_0).toLoadRect (harg8.unread x7)))) hi.toLoadRect)
    x0 (scr x1 x2) x3 x4 x5 x6 x7 _ _ _ ?_ ?_ ?_
    (loads_eq _ _ _ _ _ _ _ _ _ _ _ _ _ _ _ (harg1.read_unread x0) (harg4.read_unread x3) (harg5.read_unread x4) (harg6.read_unread x5)
      (funext fun y => by rw [loop_canon, harg2.read_unread, harg3.read_unread]))
    (by rw [start_lo, View.readAt_eq_ld, harg7.read_unread, ld_whole]) (by rw [start_hi, View.readAt_eq_ld, harg7.read_unread, ld_whole]) (by rw [start_lo, View.readAt_eq_ld, harg8.read_unread, ld_whole]) (by rw [start_hi', View.readAt_eq_ld, harg8.read_unread, ld_whole])
  all_goals sl_kernel_rfl

set_option maxHeartbeats 2000000 in
/-- The blocks at a later point, from the lanes the point before left. -/
theorem outs0_B (c : Dev nD) (i : grid0.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .vmem S640x1024 .f32) (harg9 : arg9.IsWhole) (arg10 : Memref sig .tc .vmem S1280x128 .f32) (harg10 : arg10.IsWhole) (arg11 : Memref sig .tc .vmem S1280x128 .f32) (harg11 : arg11.IsWhole) (arg12 : Memref sig .tc .vmem S1024x1536 .bf16) (harg12 : arg12.IsWhole) (hc0 : ¬cond0_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) (xo9 : Vec Ideal S1280x128 .f32) (xo10 : Vec Ideal S1280x128 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = nBlk x0 (scr x1 x2) x3 x4 x5
    ∧ out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = mBlk x0 (scr x1 x2) x3 x4 x5 xo9
    ∧ out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = sBlk x0 (scr x1 x2) x3 x4 x5 xo9 xo10 := by
  unfold out0_B_8 out0_B_9 out0_B_10
  rw [View.read_writes_junk_eq_canon, View.read_writes_junk_eq_canon, View.read_writes_junk_eq_canon]
  refine point_outs arg10.view arg11.view
    (loads arg1.view arg4.view arg5.view arg6.view arg12.view (harg1.unread x0) (harg4.unread x3) (harg5.unread x4) (harg6.unread x5) (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (Scf.trips k0_t1_loop.lb k0_t1_loop.ub k0_t1_loop.st)))
    [] []
    (View.readAt (Elt Ideal) arg10.view lo.toLoadRect (harg10.unread xo9))
    (View.readAt (Elt Ideal) arg10.view hi.toLoadRect (harg10.unread xo9))
    (View.readAt (Elt Ideal) arg11.view lo.toLoadRect (harg11.unread xo10))
    (View.readAt (Elt Ideal) arg11.view hi.toLoadRect (harg11.unread xo10))
    x0 (scr x1 x2) x3 x4 x5 xo9 xo10 _ _ _ ?_ ?_ ?_
    (loads_eq _ _ _ _ _ _ _ _ _ _ _ _ _ _ _ (harg1.read_unread x0) (harg4.read_unread x3) (harg5.read_unread x4) (harg6.read_unread x5)
      (funext fun y => by rw [loop_canon, harg2.read_unread, harg3.read_unread]))
    (by rw [View.readAt_eq_ld, harg10.read_unread]) (by rw [View.readAt_eq_ld, harg10.read_unread]) (by rw [View.readAt_eq_ld, harg11.read_unread]) (by rw [View.readAt_eq_ld, harg11.read_unread])
  all_goals sl_kernel_rfl

end Cert.Proof.Step
-- ==== Proof.Outs0.lean ====
/- What each grid point of chunk 0 leaves: the kept logits of its columns, and the lanes' maxima and sums so far. -/
module

public import proofs.«01_k».proof.Proof.Problem
public import proofs.«01_k».proof.Proof.Block0
public import Idealize.ShloMosaic.Lib.Pipeline.ValueKit

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

variable (V : (c : Dev nD) → (b : Ref sig .tc) → Buf (Elt Ideal) ((c : Thread nD τ).loc b)) (c : Dev nD) (P : Prob)

theorem idx0 : ∀ t : Fin cfg0.N, win0_0.index t = ![0, 0] ∧ win0_1.index t = ![t.val, 0, 0, 0] ∧ win0_2.index t = ![t.val, 0, 0]
    ∧ win0_3.index t = ![0, t.val] ∧ win0_4.index t = ![0, t.val] ∧ win0_5.index t = ![0, 0] ∧ win0_6.index t = ![0, 0] ∧ win0_7.index t = ![0, 0]
    ∧ win0_8.index t = ![0, 0 + t.val] := by decide +kernel

section
variable (hX : ∀ R k, V c main_v0 (Idealize.ShloMosaic.ix2 R k) = P.x R k)
    (hW : ∀ (k : Fin 128) (r : Fin 32) col, tab (V c main_arg2) (V c main_arg8) k r col = P.w (1024 * 0 + (32 * k.val + r.val)) col)
    (hI : ∀ j : Fin 4096, V c main_v8 (Idealize.ShloMosaic.ix2 (0 : Fin 1) j) = P.ids (1024 * 0 + j.val))
    (hQ : ∀ j : Fin 4096, V c main_v9 (Idealize.ShloMosaic.ix2 (0 : Fin 1) j) = P.lq (1024 * 0 + j.val))
    (hT : ∀ R l, V c main_v3 (Idealize.ShloMosaic.ix2 R l) = P.tg R)
    (hM : V c main_v4 = mAt P 0) (hS : V c main_v5 = sAt P 0)
include hX hW hI hQ hT hM hS

set_option maxHeartbeats 4000000 in
/-- What each point leaves. -/
theorem outs0 : ∀ n h, outsAt0 V c n h = (keptBlk P (0 + n), mAt P (0 + n + 1), sAt P (0 + n + 1)) := by
  have hN : cfg0.N = 4 := by decide
  have h6 : ∀ t : Fin cfg0.N, iblk0 V c 6 t = V c main_v4 := fun t => by
    obtain ⟨-, -, -, -, -, -, e, -⟩ := idx0 t
    funext y; blk_ext [iblk0, e]
  have h7 : ∀ t : Fin cfg0.N, iblk0 V c 7 t = V c main_v5 := fun t => by
    obtain ⟨-, -, -, -, -, -, -, e, -⟩ := idx0 t
    funext y; blk_ext [iblk0, e]
  refine chunk_points P 0 (outsAt0 V c) (fun n h => iblk0 V c 0 ⟨n, h⟩) (fun n h => scr (iblk0 V c 1 ⟨n, h⟩) (iblk0 V c 2 ⟨n, h⟩))
    (fun n h => iblk0 V c 3 ⟨n, h⟩) (fun n h => iblk0 V c 4 ⟨n, h⟩) (fun n h => iblk0 V c 5 ⟨n, h⟩) (V c main_v4) (V c main_v5) ?_ hM hS ?_ ?_
  · intro n h
    obtain ⟨e0, e1, e2, e3, e4, e5, -⟩ := idx0 ⟨n, h⟩
    refine isTile_of P 0 n _ _ _ _ _ _ (V c main_arg2) (V c main_arg8) (V c main_v8) (V c main_v9) (by omega) (by omega)
      (fun k a b l => ?_) (fun k b l => ?_) (fun r => ?_) (fun r => ?_) (fun R k => (?_ : _ = _).trans (hX R k)) hW hI hQ
      (fun R l => (?_ : _ = _).trans (hT R l))
    · blk_ext [iblk0, e1]
    · blk_ext [iblk0, e2]
    · blk_ext [iblk0, e3]
    · blk_ext [iblk0, e4]
    · blk_ext [iblk0, e0]
    · blk_ext [iblk0, e5]
  · intro h
    have o := outs0_A c (grid0.coords ⟨0, h⟩) _ (hs0_0 ⟨0, h⟩) _ (hs0_1 ⟨0, h⟩) _ (hs0_2 ⟨0, h⟩) _ (hs0_3 ⟨0, h⟩) _ (hs0_4 ⟨0, h⟩) _ (hs0_5 ⟨0, h⟩) _ (hs0_6 ⟨0, h⟩) _ (hs0_7 ⟨0, h⟩) _ (hs0_8 ⟨0, h⟩) _ (hs0_9 ⟨0, h⟩) _ (hs0_10 ⟨0, h⟩) scM0_0 (Memref.isWhole_whole _)
      ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩)
    refine (outsAt0_A V c ⟨0, h⟩ (Nat.zero_mod _)).trans (Prod.ext o.1 (Prod.ext (o.2.1.trans ?_) (o.2.2.trans ?_)))
    · rw [h6]
    · rw [h6, h7]
  · intro n h
    have h0 : ¬ (n + 1) % 4 = 0 := by omega
    have o := outs0_B c (grid0.coords ⟨n + 1, h⟩) _ (hs0_0 ⟨n + 1, h⟩) _ (hs0_1 ⟨n + 1, h⟩) _ (hs0_2 ⟨n + 1, h⟩) _ (hs0_3 ⟨n + 1, h⟩) _ (hs0_4 ⟨n + 1, h⟩) _ (hs0_5 ⟨n + 1, h⟩) _ (hs0_6 ⟨n + 1, h⟩) _ (hs0_7 ⟨n + 1, h⟩) _ (hs0_8 ⟨n + 1, h⟩) _ (hs0_9 ⟨n + 1, h⟩) _ (hs0_10 ⟨n + 1, h⟩) scM0_0 (Memref.isWhole_whole _)
      (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩)
      (outsAt0 V c n (Nat.lt_of_succ_lt h)).2.1 (outsAt0 V c n (Nat.lt_of_succ_lt h)).2.2
    exact (outsAt0_B V c ⟨n + 1, h⟩ h0).trans (Prod.ext o.1 (Prod.ext o.2.1 o.2.2))

end

end Cert.Proof.Chunk

end
-- ==== Proof.Chunk0.lean ====
/- What chunk 0 leaves in its three results: the kept logits of the columns so far, and the lanes' maxima and sums. -/
module

public import proofs.«01_k».proof.Proof.Outs0
public import proofs.«01_k».proof.Proof.Gen.KernelIdeal.Frame.Region0
public import Idealize.ShloMosaic.Lib.Pipeline.ValueKit
import all proofs.«01_k».proof.Proof.Gen.KernelIdeal.Frame.Region0

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

/-- The kept logits of a tile, entry by entry. -/
theorem keptBlk_at0 (P : Prob) (n : ℕ) (y : S640x1024.Idx) (R : Fin 1280) (j : ℕ) (h0 : (y 0).val = R.val) (h1 : 1024 * n + (y 1).val = j) :
    keptBlk P n y = kept P R j := by
  obtain rfl : R = ⟨(y 0).val, Nat.lt_of_lt_of_le (y 0).isLt (by decide)⟩ := Fin.ext h0.symm
  rw [← h1]; rfl

attribute [local irreducible] mAt sAt kept keptBlk

variable (V : (c : Dev nD) → (b : Ref sig .tc) → Buf (Elt Ideal) ((c : Thread nD τ).loc b)) (c : Dev nD) (P : Prob)

section
variable (e : ∀ n h, outsAt0 V c n h = (keptBlk P (0 + n), mAt P (0 + n + 1), sAt P (0 + n + 1)))
include e

/-- The lanes' maxima after the chunk. -/
theorem max0 : (dat0 V c).arrAt 9 cfg0.N = mAt P 4 := by
  refine (dat0 V c).arrAt_eq_of_after_last 9 ⟨3, by decide⟩ (by decide +kernel) _ fun j => ?_
  refine (congrFun (after0_9 V c ⟨3, by decide⟩) _).trans ((congrFun (show (outsAt0 V c 3 (by decide)).2.1 = mAt P 4 from congrArg (·.2.1) (e 3 (by decide))) _).trans ?_)
  exact congrArg (mAt P 4) (funext fun a => match a with | ⟨0, _⟩ => rfl | ⟨1, _⟩ => rfl)

/-- The lanes' sums after the chunk. -/
theorem sum0 : (dat0 V c).arrAt 10 cfg0.N = sAt P 4 := by
  refine (dat0 V c).arrAt_eq_of_after_last 10 ⟨3, by decide⟩ (by decide +kernel) _ fun j => ?_
  refine (congrFun (after0_10 V c ⟨3, by decide⟩) _).trans ((congrFun (show (outsAt0 V c 3 (by decide)).2.2 = sAt P 4 from congrArg (·.2.2) (e 3 (by decide))) _).trans ?_)
  exact congrArg (sAt P 4) (funext fun a => match a with | ⟨0, _⟩ => rfl | ⟨1, _⟩ => rfl)

/-- The kept logits of the columns so far. -/
theorem kept0 (h0 : ∀ (R : Fin 640) (j : Fin 65536), j.val < 1024 * 0 → V c main_v10_0 (Idealize.ShloMosaic.ix2 R j) = kept P (R.castLE (by decide)) j.val)
    (R : Fin 640) (j : Fin 65536) (hj : j.val < 1024 * 4) :
    (dat0 V c).arrAt 8 cfg0.N (Idealize.ShloMosaic.ix2 R j) = kept P (R.castLE (by decide)) j.val := by
  refine (dat0 V c).arrAt_forall_of_coversWhere 8
    (fun (i : S640x65536.Idx) (v : EReal) => (i 1).val < 1024 * 4 → v = kept P ⟨(i 0).val, Nat.lt_of_lt_of_le (i 0).isLt (by decide)⟩ (i 1).val)
    (fun β => 0 ≤ β (1 : Fin 2) ∧ β (1 : Fin 2) < 4) (by decide +kernel) (fun t hf y hj => ?_) (fun j hj hl => ?_) (Idealize.ShloMosaic.ix2 R j) (Memref.isWhole_whole _) hj
  · refine (congrFun (after0_8 V c t) _).trans ((congrFun (show (outsAt0 V c t.val t.isLt).1 = keptBlk P (0 + t.val) from congrArg (·.1) (e t.val t.isLt)) _).trans ?_)
    have e8 : win0_8.index t = ![0, 0 + t.val] := (idx0 t).2.2.2.2.2.2.2.2
    have hx : ((cfg0.win 8).xinj (cfg0.grid.coords t) y 1).val = (y 1).val := rfl
    refine keptBlk_at0 P _ _ _ _ ?_ ?_
    · blk_simp [e8]
    · blk_simp [e8]
      omega
  · blk_simp [Pipeline.Window.cell_apply] at hj hl
    have hb : (j 1).val < 1024 * 0 := by omega
    have hA : (dat0 V c).A 8 = V c main_v10_0 := rfl
    rw [hA]
    refine Eq.trans (congrArg (V c main_v10_0) (?_ : _ = Idealize.ShloMosaic.ix2 (j 0) (j 1))) ((h0 (j 0) (j 1) hb).trans ?_)
    · funext a
      match a with | ⟨0, _⟩ => exact Fin.ext (by blk_simp; rfl) | ⟨1, _⟩ => exact Fin.ext (by blk_simp; rfl)
    · exact congr (congrArg (kept P) (Fin.ext (by blk_simp; rfl))) (by blk_simp)
end

end Cert.Proof.Chunk

end
-- ==== Proof.Block1.lean ====
/- What a grid point of chunk 1 leaves in its three output blocks. -/
module

public import proofs.«01_k».proof.Proof.Pieces
public import proofs.«01_k».proof.Proof.Scratch
public import proofs.«01_k».proof.Proof.Gen.KernelIdeal.Frame.Region1
import all proofs.«01_k».proof.Proof.Gen.KernelIdeal.Frame.Region1

@[expose] public section

noncomputable section

namespace Cert.Proof.Step

open Idealize.ShloMosaic Idealize.SL Cert.KernelIdeal Cert.KernelIdeal.Gen Cert.Proof.Dequant

/-- The loop of this chunk stores what the first chunk's does. -/
theorem loop1 (i' : grid0.Coords) (c : Dev nD) (i : grid1.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .hbm S640x65536 .f32) (harg9 : arg9.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (X2 : arg2.view.ty.Contents (Elt Ideal)) (X3 : arg3.view.ty.Contents (Elt Ideal)) :
    ∀ n, n ≤ k0_t1_loop.trips → pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 n
      = pb_k0_t1 (F := Ideal) Variants.none c none i' arg1 harg1 arg2 harg2 arg3 harg3 arg4 harg4 arg5 harg5 arg6 harg6 arg7 harg7 arg8 harg8 arg10 harg10 arg11 harg11 arg12 harg12 arg13 harg13 X2 X3 n
  | 0, _ => rfl
  | n + 1, h => by
    have e := pb_k1_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 ⟨n, h⟩
    have e' := pb_k0_t1_succ (F := Ideal) Variants.none c none i' arg1 harg1 arg2 harg2 arg3 harg3 arg4 harg4 arg5 harg5 arg6 harg6 arg7 harg7 arg8 harg8 arg10 harg10 arg11 harg11 arg12 harg12 arg13 harg13 X2 X3 ⟨n, h⟩
    refine e.trans (Eq.trans ?_ e'.symm)
    refine congr (congrArg _ ?_) (loop1 i' c i arg1 harg1 arg2 harg2 arg3 harg3 arg4 harg4 arg5 harg5 arg6 harg6 arg7 harg7 arg8 harg8 arg9 harg9 arg10 harg10 arg11 harg11 arg12 harg12 arg13 harg13 X2 X3 n (Nat.le_of_succ_le h))
    unfold tripL_k1_t1 tripL_k0_t1 trip_k1_t1 trip_k0_t1
    rfl

set_option maxHeartbeats 2000000 in
/-- The blocks at the first point of the chunk, which starts from the lanes given to it. -/
theorem outs1_A (c : Dev nD) (i : grid1.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : cond1_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) :
    out1_A_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = nBlk x0 (scr x1 x2) x3 x4 x5
    ∧ out1_A_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = mBlk x0 (scr x1 x2) x3 x4 x5 x6
    ∧ out1_A_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = sBlk x0 (scr x1 x2) x3 x4 x5 x6 x7 := by
  unfold out1_A_8 out1_A_9 out1_A_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k1_t1 (F := Ideal) Variants.none c none i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 (harg2.unread x1) (harg3.unread x2) (Scf.trips k1_t1_loop.lb k1_t1_loop.ub k1_t1_loop.st)))
    (start (View.readAt (Elt Ideal) arg7.view (Rect.unit (s := S1280x128) ![0, 0] S1280x128.size inb_S1280x128_S1280x128_0_0).toLoadRect (harg7.unread x6))) (start (View.readAt (Elt Ideal) arg8.view (Rect.unit (s := S1280x128) ![0, 0] S1280x128.size inb_S1280x128_S1280x128_0_0).toLoadRect (harg8.unread x7)))
    (arg11.view.readCov (start (View.readAt (Elt Ideal) arg7.view (Rect.unit (s := S1280x128) ![0, 0] S1280x128.size inb_S1280x128_S1280x128_0_0).toLoadRect (harg7.unread x6))) lo.toLoadRect)
    (arg11.view.readCov (Tile.mP2 (loads arg1.view arg4.view arg5.view arg6.view arg13.view (harg1.unread x0) (harg4.unread x3) (harg5.unread x4) (harg6.unread x5) (pb_k1_t1 (F := Ideal) Variants.none c none i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 (harg2.unread x1) (harg3.unread x2) (Scf.trips k1_t1_loop.lb k1_t1_loop.ub k1_t1_loop.st))) (arg11.view.readCov (start (View.readAt (Elt Ideal) arg7.view (Rect.unit (s := S1280x128) ![0, 0] S1280x128.size inb_S1280x128_S1280x128_0_0).toLoadRect (harg7.unread x6))) lo.toLoadRect) (start (View.readAt (Elt Ideal) arg7.view (Rect.unit (s := S1280x128) ![0, 0] S1280x128.size inb_S1280x128_S1280x128_0_0).toLoadRect (harg7.unread x6)))) hi.toLoadRect)
    (arg12.view.readCov (start (View.readAt (Elt Ideal) arg8.view (Rect.unit (s := S1280x128) ![0, 0] S1280x128.size inb_S1280x128_S1280x128_0_0).toLoadRect (harg8.unread x7))) lo.toLoadRect)
    (arg12.view.readCov (Tile.sP2 (loads arg1.view arg4.view arg5.view arg6.view arg13.view (harg1.unread x0) (harg4.unread x3) (harg5.unread x4) (harg6.unread x5) (pb_k1_t1 (F := Ideal) Variants.none c none i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 (harg2.unread x1) (harg3.unread x2) (Scf.trips k1_t1_loop.lb k1_t1_loop.ub k1_t1_loop.st))) (arg11.view.readCov (start (View.readAt (Elt Ideal) arg7.view (Rect.unit (s := S1280x128) ![0, 0] S1280x128.size inb_S1280x128_S1280x128_0_0).toLoadRect (harg7.unread x6))) lo.toLoadRect) (arg12.view.readCov (start (View.readAt (Elt Ideal) arg8.view (Rect.unit (s := S1280x128) ![0, 0] S1280x128.size inb_S1280x128_S1280x128_0_0).toLoadRect (harg8.unread x7))) lo.toLoadRect) (start (View.readAt (Elt Ideal) arg8.view (Rect.unit (s := S1280x128) ![0, 0] S1280x128.size inb_S1280x128_S1280x128_0_0).toLoadRect (harg8.unread x7)))) hi.toLoadRect)
    x0 (scr x1 x2) x3 x4 x5 x6 x7 _ _ _ ?_ ?_ ?_
    (loads_eq _ _ _ _ _ _ _ _ _ _ _ _ _ _ _ (harg1.read_unread x0) (harg4.read_unread x3) (harg5.read_unread x4) (harg6.read_unread x5)
      (by refine (congrArg View.canon (loop1 (fun _ => ⟨0, by decide +revert⟩) c i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 _ _ _ le_rfl)).trans (funext fun y => ?_); rw [loop_canon, harg2.read_unread, harg3.read_unread]))
    (by rw [start_lo, View.readAt_eq_ld, harg7.read_unread, ld_whole]) (by rw [start_hi, View.readAt_eq_ld, harg7.read_unread, ld_whole]) (by rw [start_lo, View.readAt_eq_ld, harg8.read_unread, ld_whole]) (by rw [start_hi', View.readAt_eq_ld, harg8.read_unread, ld_whole])
  all_goals sl_kernel_rfl

set_option maxHeartbeats 2000000 in
/-- The blocks at a later point, from the lanes the point before left. -/
theorem outs1_B (c : Dev nD) (i : grid1.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : ¬cond1_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) (xo9 : Vec Ideal S1280x128 .f32) (xo10 : Vec Ideal S1280x128 .f32) :
    out1_B_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = nBlk x0 (scr x1 x2) x3 x4 x5
    ∧ out1_B_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = mBlk x0 (scr x1 x2) x3 x4 x5 xo9
    ∧ out1_B_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = sBlk x0 (scr x1 x2) x3 x4 x5 xo9 xo10 := by
  unfold out1_B_8 out1_B_9 out1_B_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k1_t1 (F := Ideal) Variants.none c none i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 (harg2.unread x1) (harg3.unread x2) (Scf.trips k1_t1_loop.lb k1_t1_loop.ub k1_t1_loop.st)))
    [] []
    (View.readAt (Elt Ideal) arg11.view lo.toLoadRect (harg11.unread xo9))
    (View.readAt (Elt Ideal) arg11.view hi.toLoadRect (harg11.unread xo9))
    (View.readAt (Elt Ideal) arg12.view lo.toLoadRect (harg12.unread xo10))
    (View.readAt (Elt Ideal) arg12.view hi.toLoadRect (harg12.unread xo10))
    x0 (scr x1 x2) x3 x4 x5 xo9 xo10 _ _ _ ?_ ?_ ?_
    (loads_eq _ _ _ _ _ _ _ _ _ _ _ _ _ _ _ (harg1.read_unread x0) (harg4.read_unread x3) (harg5.read_unread x4) (harg6.read_unread x5)
      (by refine (congrArg View.canon (loop1 (fun _ => ⟨0, by decide +revert⟩) c i arg1 harg1 arg2 harg2 arg3 harg3 arg4 harg4 arg5 harg5 arg6 harg6 arg7 harg7 arg8 harg8 (Memref.whole main_v10_0) (Memref.isWhole_whole _) arg10 harg10 arg11 harg11 arg12 harg12 arg13 harg13 _ _ _ le_rfl)).trans (funext fun y => ?_); rw [loop_canon, harg2.read_unread, harg3.read_unread]))
    (by rw [View.readAt_eq_ld, harg11.read_unread]) (by rw [View.readAt_eq_ld, harg11.read_unread]) (by rw [View.readAt_eq_ld, harg12.read_unread]) (by rw [View.readAt_eq_ld, harg12.read_unread])
  all_goals sl_kernel_rfl

end Cert.Proof.Step
-- ==== Proof.Outs1.lean ====
/- What each grid point of chunk 1 leaves: the kept logits of its columns, and the lanes' maxima and sums so far. -/
module

public import proofs.«01_k».proof.Proof.Problem
public import proofs.«01_k».proof.Proof.Block1
public import Idealize.ShloMosaic.Lib.Pipeline.ValueKit

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

variable (V : (c : Dev nD) → (b : Ref sig .tc) → Buf (Elt Ideal) ((c : Thread nD τ).loc b)) (c : Dev nD) (P : Prob)

theorem idx1 : ∀ t : Fin cfg1.N, win1_0.index t = ![0, 0] ∧ win1_1.index t = ![t.val, 0, 0, 0] ∧ win1_2.index t = ![t.val, 0, 0]
    ∧ win1_3.index t = ![0, t.val] ∧ win1_4.index t = ![0, t.val] ∧ win1_5.index t = ![0, 0] ∧ win1_6.index t = ![0, 0] ∧ win1_7.index t = ![0, 0]
    ∧ win1_8.index t = ![0, 4 + t.val] := by decide +kernel

section
variable (hX : ∀ R k, V c main_v0 (Idealize.ShloMosaic.ix2 R k) = P.x R k)
    (hW : ∀ (k : Fin 384) (r : Fin 32) col, tab (V c main_arg3) (V c main_arg9) k r col = P.w (1024 * 4 + (32 * k.val + r.val)) col)
    (hI : ∀ j : Fin 12288, V c main_v13 (Idealize.ShloMosaic.ix2 (0 : Fin 1) j) = P.ids (1024 * 4 + j.val))
    (hQ : ∀ j : Fin 12288, V c main_v14 (Idealize.ShloMosaic.ix2 (0 : Fin 1) j) = P.lq (1024 * 4 + j.val))
    (hT : ∀ R l, V c main_v3 (Idealize.ShloMosaic.ix2 R l) = P.tg R)
    (hM : V c main_v10_1 = mAt P 4) (hS : V c main_v10_2 = sAt P 4)
include hX hW hI hQ hT hM hS

set_option maxHeartbeats 4000000 in
/-- What each point leaves. -/
theorem outs1 : ∀ n h, outsAt1 V c n h = (keptBlk P (4 + n), mAt P (4 + n + 1), sAt P (4 + n + 1)) := by
  have hN : cfg1.N = 12 := by decide
  have h6 : ∀ t : Fin cfg1.N, iblk1 V c 6 t = V c main_v10_1 := fun t => by
    obtain ⟨-, -, -, -, -, -, e, -⟩ := idx1 t
    funext y; blk_ext [iblk1, e]
  have h7 : ∀ t : Fin cfg1.N, iblk1 V c 7 t = V c main_v10_2 := fun t => by
    obtain ⟨-, -, -, -, -, -, -, e, -⟩ := idx1 t
    funext y; blk_ext [iblk1, e]
  refine chunk_points P 4 (outsAt1 V c) (fun n h => iblk1 V c 0 ⟨n, h⟩) (fun n h => scr (iblk1 V c 1 ⟨n, h⟩) (iblk1 V c 2 ⟨n, h⟩))
    (fun n h => iblk1 V c 3 ⟨n, h⟩) (fun n h => iblk1 V c 4 ⟨n, h⟩) (fun n h => iblk1 V c 5 ⟨n, h⟩) (V c main_v10_1) (V c main_v10_2) ?_ hM hS ?_ ?_
  · intro n h
    obtain ⟨e0, e1, e2, e3, e4, e5, -⟩ := idx1 ⟨n, h⟩
    refine isTile_of P 4 n _ _ _ _ _ _ (V c main_arg3) (V c main_arg9) (V c main_v13) (V c main_v14) (by omega) (by omega)
      (fun k a b l => ?_) (fun k b l => ?_) (fun r => ?_) (fun r => ?_) (fun R k => (?_ : _ = _).trans (hX R k)) hW hI hQ
      (fun R l => (?_ : _ = _).trans (hT R l))
    · blk_ext [iblk1, e1]
    · blk_ext [iblk1, e2]
    · blk_ext [iblk1, e3]
    · blk_ext [iblk1, e4]
    · blk_ext [iblk1, e0]
    · blk_ext [iblk1, e5]
  · intro h
    have o := outs1_A c (grid1.coords ⟨0, h⟩) _ (hs1_0 ⟨0, h⟩) _ (hs1_1 ⟨0, h⟩) _ (hs1_2 ⟨0, h⟩) _ (hs1_3 ⟨0, h⟩) _ (hs1_4 ⟨0, h⟩) _ (hs1_5 ⟨0, h⟩) _ (hs1_6 ⟨0, h⟩) _ (hs1_7 ⟨0, h⟩) _ (hs1_8 ⟨0, h⟩) _ (hs1_9 ⟨0, h⟩) _ (hs1_10 ⟨0, h⟩) scM1_0 (Memref.isWhole_whole _)
      ((hcond1_0 ⟨0, h⟩).mpr (Nat.zero_mod _)) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)
    refine (outsAt1_A V c ⟨0, h⟩ (Nat.zero_mod _)).trans (Prod.ext o.1 (Prod.ext (o.2.1.trans ?_) (o.2.2.trans ?_)))
    · rw [h6]
    · rw [h6, h7]
  · intro n h
    have h0 : ¬ (n + 1) % 12 = 0 := by omega
    have o := outs1_B c (grid1.coords ⟨n + 1, h⟩) _ (hs1_0 ⟨n + 1, h⟩) _ (hs1_1 ⟨n + 1, h⟩) _ (hs1_2 ⟨n + 1, h⟩) _ (hs1_3 ⟨n + 1, h⟩) _ (hs1_4 ⟨n + 1, h⟩) _ (hs1_5 ⟨n + 1, h⟩) _ (hs1_6 ⟨n + 1, h⟩) _ (hs1_7 ⟨n + 1, h⟩) _ (hs1_8 ⟨n + 1, h⟩) _ (hs1_9 ⟨n + 1, h⟩) _ (hs1_10 ⟨n + 1, h⟩) scM1_0 (Memref.isWhole_whole _)
      (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩)
      (outsAt1 V c n (Nat.lt_of_succ_lt h)).2.1 (outsAt1 V c n (Nat.lt_of_succ_lt h)).2.2
    exact (outsAt1_B V c ⟨n + 1, h⟩ h0).trans (Prod.ext o.1 (Prod.ext o.2.1 o.2.2))

end

end Cert.Proof.Chunk

end
-- ==== Proof.Chunk1.lean ====
/- What chunk 1 leaves in its three results: the kept logits of the columns so far, and the lanes' maxima and sums. -/
module

public import proofs.«01_k».proof.Proof.Outs1
public import proofs.«01_k».proof.Proof.Gen.KernelIdeal.Frame.Region1
public import Idealize.ShloMosaic.Lib.Pipeline.ValueKit
import all proofs.«01_k».proof.Proof.Gen.KernelIdeal.Frame.Region1

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

/-- The kept logits of a tile, entry by entry. -/
theorem keptBlk_at1 (P : Prob) (n : ℕ) (y : S640x1024.Idx) (R : Fin 1280) (j : ℕ) (h0 : (y 0).val = R.val) (h1 : 1024 * n + (y 1).val = j) :
    keptBlk P n y = kept P R j := by
  obtain rfl : R = ⟨(y 0).val, Nat.lt_of_lt_of_le (y 0).isLt (by decide)⟩ := Fin.ext h0.symm
  rw [← h1]; rfl

attribute [local irreducible] mAt sAt kept keptBlk

variable (V : (c : Dev nD) → (b : Ref sig .tc) → Buf (Elt Ideal) ((c : Thread nD τ).loc b)) (c : Dev nD) (P : Prob)

section
variable (e : ∀ n h, outsAt1 V c n h = (keptBlk P (4 + n), mAt P (4 + n + 1), sAt P (4 + n + 1)))
include e

/-- The lanes' maxima after the chunk. -/
theorem max1 : (dat1 V c).arrAt 9 cfg1.N = mAt P 16 := by
  refine (dat1 V c).arrAt_eq_of_after_last 9 ⟨11, by decide⟩ (by decide +kernel) _ fun j => ?_
  refine (congrFun (after1_9 V c ⟨11, by decide⟩) _).trans ((congrFun (show (outsAt1 V c 11 (by decide)).2.1 = mAt P 16 from congrArg (·.2.1) (e 11 (by decide))) _).trans ?_)
  exact congrArg (mAt P 16) (funext fun a => match a with | ⟨0, _⟩ => rfl | ⟨1, _⟩ => rfl)

/-- The lanes' sums after the chunk. -/
theorem sum1 : (dat1 V c).arrAt 10 cfg1.N = sAt P 16 := by
  refine (dat1 V c).arrAt_eq_of_after_last 10 ⟨11, by decide⟩ (by decide +kernel) _ fun j => ?_
  refine (congrFun (after1_10 V c ⟨11, by decide⟩) _).trans ((congrFun (show (outsAt1 V c 11 (by decide)).2.2 = sAt P 16 from congrArg (·.2.2) (e 11 (by decide))) _).trans ?_)
  exact congrArg (sAt P 16) (funext fun a => match a with | ⟨0, _⟩ => rfl | ⟨1, _⟩ => rfl)

/-- The kept logits of the columns so far. -/
theorem kept1 (h0 : ∀ (R : Fin 640) (j : Fin 65536), j.val < 1024 * 4 → V c main_v15_0 (Idealize.ShloMosaic.ix2 R j) = kept P (R.castLE (by decide)) j.val)
    (R : Fin 640) (j : Fin 65536) (hj : j.val < 1024 * 16) :
    (dat1 V c).arrAt 8 cfg1.N (Idealize.ShloMosaic.ix2 R j) = kept P (R.castLE (by decide)) j.val := by
  refine (dat1 V c).arrAt_forall_of_coversWhere 8
    (fun (i : S640x65536.Idx) (v : EReal) => (i 1).val < 1024 * 16 → v = kept P ⟨(i 0).val, Nat.lt_of_lt_of_le (i 0).isLt (by decide)⟩ (i 1).val)
    (fun β => 4 ≤ β (1 : Fin 2) ∧ β (1 : Fin 2) < 16) (by decide +kernel) (fun t hf y hj => ?_) (fun j hj hl => ?_) (Idealize.ShloMosaic.ix2 R j) (Memref.isWhole_whole _) hj
  · refine (congrFun (after1_8 V c t) _).trans ((congrFun (show (outsAt1 V c t.val t.isLt).1 = keptBlk P (4 + t.val) from congrArg (·.1) (e t.val t.isLt)) _).trans ?_)
    have e8 : win1_8.index t = ![0, 4 + t.val] := (idx1 t).2.2.2.2.2.2.2.2
    have hx : ((cfg1.win 8).xinj (cfg1.grid.coords t) y 1).val = (y 1).val := rfl
    refine keptBlk_at1 P _ _ _ _ ?_ ?_
    · blk_simp [e8]
    · blk_simp [e8]
      omega
  · blk_simp [Pipeline.Window.cell_apply] at hj hl
    have hb : (j 1).val < 1024 * 4 := by omega
    have hA : (dat1 V c).A 8 = V c main_v15_0 := rfl
    rw [hA]
    refine Eq.trans (congrArg (V c main_v15_0) (?_ : _ = Idealize.ShloMosaic.ix2 (j 0) (j 1))) ((h0 (j 0) (j 1) hb).trans ?_)
    · funext a
      match a with | ⟨0, _⟩ => exact Fin.ext (by blk_simp; rfl) | ⟨1, _⟩ => exact Fin.ext (by blk_simp; rfl)
    · exact congr (congrArg (kept P) (Fin.ext (by blk_simp; rfl))) (by blk_simp)
end

end Cert.Proof.Chunk

end
-- ==== Proof.Block2.lean ====
/- What a grid point of chunk 2 leaves in its three output blocks. -/
module

public import proofs.«01_k».proof.Proof.Pieces
public import proofs.«01_k».proof.Proof.Scratch
public import proofs.«01_k».proof.Proof.Gen.KernelIdeal.Frame.Region2
import all proofs.«01_k».proof.Proof.Gen.KernelIdeal.Frame.Region2

@[expose] public section

noncomputable section

namespace Cert.Proof.Step

open Idealize.ShloMosaic Idealize.SL Cert.KernelIdeal Cert.KernelIdeal.Gen Cert.Proof.Dequant

/-- The loop of this chunk stores what the first chunk's does. -/
theorem loop2 (i' : grid0.Coords) (c : Dev nD) (i : grid2.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .hbm S640x65536 .f32) (harg9 : arg9.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (X2 : arg2.view.ty.Contents (Elt Ideal)) (X3 : arg3.view.ty.Contents (Elt Ideal)) :
    ∀ n, n ≤ k0_t1_loop.trips → pb_k2_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 n
      = pb_k0_t1 (F := Ideal) Variants.none c none i' arg1 harg1 arg2 harg2 arg3 harg3 arg4 harg4 arg5 harg5 arg6 harg6 arg7 harg7 arg8 harg8 arg10 harg10 arg11 harg11 arg12 harg12 arg13 harg13 X2 X3 n
  | 0, _ => rfl
  | n + 1, h => by
    have e := pb_k2_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 ⟨n, h⟩
    have e' := pb_k0_t1_succ (F := Ideal) Variants.none c none i' arg1 harg1 arg2 harg2 arg3 harg3 arg4 harg4 arg5 harg5 arg6 harg6 arg7 harg7 arg8 harg8 arg10 harg10 arg11 harg11 arg12 harg12 arg13 harg13 X2 X3 ⟨n, h⟩
    refine e.trans (Eq.trans ?_ e'.symm)
    refine congr (congrArg _ ?_) (loop2 i' c i arg1 harg1 arg2 harg2 arg3 harg3 arg4 harg4 arg5 harg5 arg6 harg6 arg7 harg7 arg8 harg8 arg9 harg9 arg10 harg10 arg11 harg11 arg12 harg12 arg13 harg13 X2 X3 n (Nat.le_of_succ_le h))
    unfold tripL_k2_t1 tripL_k0_t1 trip_k2_t1 trip_k0_t1
    rfl

set_option maxHeartbeats 2000000 in
/-- The blocks at the first point of the chunk, which starts from the lanes given to it. -/
theorem outs2_A (c : Dev nD) (i : grid2.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : cond2_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) :
    out2_A_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = nBlk x0 (scr x1 x2) x3 x4 x5
    ∧ out2_A_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = mBlk x0 (scr x1 x2) x3 x4 x5 x6
    ∧ out2_A_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = sBlk x0 (scr x1 x2) x3 x4 x5 x6 x7 := by
  unfold out2_A_8 out2_A_9 out2_A_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k2_t1 (F := Ideal) Variants.none c none i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 (harg2.unread x1) (harg3.unread x2) (Scf.trips k2_t1_loop.lb k2_t1_loop.ub k2_t1_loop.st)))
    (start (View.readAt (Elt Ideal) arg7.view (Rect.unit (s := S1280x128) ![0, 0] S1280x128.size inb_S1280x128_S1280x128_0_0).toLoadRect (harg7.unread x6))) (start (View.readAt (Elt Ideal) arg8.view (Rect.unit (s := S1280x128) ![0, 0] S1280x128.size inb_S1280x128_S1280x128_0_0).toLoadRect (harg8.unread x7)))
    (arg11.view.readCov (start (View.readAt (Elt Ideal) arg7.view (Rect.unit (s := S1280x128) ![0, 0] S1280x128.size inb_S1280x128_S1280x128_0_0).toLoadRect (harg7.unread x6))) lo.toLoadRect)
    (arg11.view.readCov (Tile.mP2 (loads arg1.view arg4.view arg5.view arg6.view arg13.view (harg1.unread x0) (harg4.unread x3) (harg5.unread x4) (harg6.unread x5) (pb_k2_t1 (F := Ideal) Variants.none c none i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 (harg2.unread x1) (harg3.unread x2) (Scf.trips k2_t1_loop.lb k2_t1_loop.ub k2_t1_loop.st))) (arg11.view.readCov (start (View.readAt (Elt Ideal) arg7.view (Rect.unit (s := S1280x128) ![0, 0] S1280x128.size inb_S1280x128_S1280x128_0_0).toLoadRect (harg7.unread x6))) lo.toLoadRect) (start (View.readAt (Elt Ideal) arg7.view (Rect.unit (s := S1280x128) ![0, 0] S1280x128.size inb_S1280x128_S1280x128_0_0).toLoadRect (harg7.unread x6)))) hi.toLoadRect)
    (arg12.view.readCov (start (View.readAt (Elt Ideal) arg8.view (Rect.unit (s := S1280x128) ![0, 0] S1280x128.size inb_S1280x128_S1280x128_0_0).toLoadRect (harg8.unread x7))) lo.toLoadRect)
    (arg12.view.readCov (Tile.sP2 (loads arg1.view arg4.view arg5.view arg6.view arg13.view (harg1.unread x0) (harg4.unread x3) (harg5.unread x4) (harg6.unread x5) (pb_k2_t1 (F := Ideal) Variants.none c none i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 (harg2.unread x1) (harg3.unread x2) (Scf.trips k2_t1_loop.lb k2_t1_loop.ub k2_t1_loop.st))) (arg11.view.readCov (start (View.readAt (Elt Ideal) arg7.view (Rect.unit (s := S1280x128) ![0, 0] S1280x128.size inb_S1280x128_S1280x128_0_0).toLoadRect (harg7.unread x6))) lo.toLoadRect) (arg12.view.readCov (start (View.readAt (Elt Ideal) arg8.view (Rect.unit (s := S1280x128) ![0, 0] S1280x128.size inb_S1280x128_S1280x128_0_0).toLoadRect (harg8.unread x7))) lo.toLoadRect) (start (View.readAt (Elt Ideal) arg8.view (Rect.unit (s := S1280x128) ![0, 0] S1280x128.size inb_S1280x128_S1280x128_0_0).toLoadRect (harg8.unread x7)))) hi.toLoadRect)
    x0 (scr x1 x2) x3 x4 x5 x6 x7 _ _ _ ?_ ?_ ?_
    (loads_eq _ _ _ _ _ _ _ _ _ _ _ _ _ _ _ (harg1.read_unread x0) (harg4.read_unread x3) (harg5.read_unread x4) (harg6.read_unread x5)
      (by refine (congrArg View.canon (loop2 (fun _ => ⟨0, by decide +revert⟩) c i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 _ _ _ le_rfl)).trans (funext fun y => ?_); rw [loop_canon, harg2.read_unread, harg3.read_unread]))
    (by rw [start_lo, View.readAt_eq_ld, harg7.read_unread, ld_whole]) (by rw [start_hi, View.readAt_eq_ld, harg7.read_unread, ld_whole]) (by rw [start_lo, View.readAt_eq_ld, harg8.read_unread, ld_whole]) (by rw [start_hi', View.readAt_eq_ld, harg8.read_unread, ld_whole])
  all_goals sl_kernel_rfl

set_option maxHeartbeats 2000000 in
/-- The blocks at a later point, from the lanes the point before left. -/
theorem outs2_B (c : Dev nD) (i : grid2.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : ¬cond2_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) (xo9 : Vec Ideal S1280x128 .f32) (xo10 : Vec Ideal S1280x128 .f32) :
    out2_B_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = nBlk x0 (scr x1 x2) x3 x4 x5
    ∧ out2_B_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = mBlk x0 (scr x1 x2) x3 x4 x5 xo9
    ∧ out2_B_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = sBlk x0 (scr x1 x2) x3 x4 x5 xo9 xo10 := by
  unfold out2_B_8 out2_B_9 out2_B_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k2_t1 (F := Ideal) Variants.none c none i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 (harg2.unread x1) (harg3.unread x2) (Scf.trips k2_t1_loop.lb k2_t1_loop.ub k2_t1_loop.st)))
    [] []
    (View.readAt (Elt Ideal) arg11.view lo.toLoadRect (harg11.unread xo9))
    (View.readAt (Elt Ideal) arg11.view hi.toLoadRect (harg11.unread xo9))
    (View.readAt (Elt Ideal) arg12.view lo.toLoadRect (harg12.unread xo10))
    (View.readAt (Elt Ideal) arg12.view hi.toLoadRect (harg12.unread xo10))
    x0 (scr x1 x2) x3 x4 x5 xo9 xo10 _ _ _ ?_ ?_ ?_
    (loads_eq _ _ _ _ _ _ _ _ _ _ _ _ _ _ _ (harg1.read_unread x0) (harg4.read_unread x3) (harg5.read_unread x4) (harg6.read_unread x5)
      (by refine (congrArg View.canon (loop2 (fun _ => ⟨0, by decide +revert⟩) c i arg1 harg1 arg2 harg2 arg3 harg3 arg4 harg4 arg5 harg5 arg6 harg6 arg7 harg7 arg8 harg8 (Memref.whole main_v15_0) (Memref.isWhole_whole _) arg10 harg10 arg11 harg11 arg12 harg12 arg13 harg13 _ _ _ le_rfl)).trans (funext fun y => ?_); rw [loop_canon, harg2.read_unread, harg3.read_unread]))
    (by rw [View.readAt_eq_ld, harg11.read_unread]) (by rw [View.readAt_eq_ld, harg11.read_unread]) (by rw [View.readAt_eq_ld, harg12.read_unread]) (by rw [View.readAt_eq_ld, harg12.read_unread])
  all_goals sl_kernel_rfl

end Cert.Proof.Step
-- ==== Proof.Outs2.lean ====
/- What each grid point of chunk 2 leaves: the kept logits of its columns, and the lanes' maxima and sums so far. -/
module

public import proofs.«01_k».proof.Proof.Problem
public import proofs.«01_k».proof.Proof.Block2
public import Idealize.ShloMosaic.Lib.Pipeline.ValueKit

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

variable (V : (c : Dev nD) → (b : Ref sig .tc) → Buf (Elt Ideal) ((c : Thread nD τ).loc b)) (c : Dev nD) (P : Prob)

theorem idx2 : ∀ t : Fin cfg2.N, win2_0.index t = ![0, 0] ∧ win2_1.index t = ![t.val, 0, 0, 0] ∧ win2_2.index t = ![t.val, 0, 0]
    ∧ win2_3.index t = ![0, t.val] ∧ win2_4.index t = ![0, t.val] ∧ win2_5.index t = ![0, 0] ∧ win2_6.index t = ![0, 0] ∧ win2_7.index t = ![0, 0]
    ∧ win2_8.index t = ![0, 16 + t.val] := by decide +kernel

section
variable (hX : ∀ R k, V c main_v0 (Idealize.ShloMosaic.ix2 R k) = P.x R k)
    (hW : ∀ (k : Fin 512) (r : Fin 32) col, tab (V c main_arg4) (V c main_arg10) k r col = P.w (1024 * 16 + (32 * k.val + r.val)) col)
    (hI : ∀ j : Fin 16384, V c main_v18 (Idealize.ShloMosaic.ix2 (0 : Fin 1) j) = P.ids (1024 * 16 + j.val))
    (hQ : ∀ j : Fin 16384, V c main_v19 (Idealize.ShloMosaic.ix2 (0 : Fin 1) j) = P.lq (1024 * 16 + j.val))
    (hT : ∀ R l, V c main_v3 (Idealize.ShloMosaic.ix2 R l) = P.tg R)
    (hM : V c main_v15_1 = mAt P 16) (hS : V c main_v15_2 = sAt P 16)
include hX hW hI hQ hT hM hS

set_option maxHeartbeats 4000000 in
/-- What each point leaves. -/
theorem outs2 : ∀ n h, outsAt2 V c n h = (keptBlk P (16 + n), mAt P (16 + n + 1), sAt P (16 + n + 1)) := by
  have hN : cfg2.N = 16 := by decide
  have h6 : ∀ t : Fin cfg2.N, iblk2 V c 6 t = V c main_v15_1 := fun t => by
    obtain ⟨-, -, -, -, -, -, e, -⟩ := idx2 t
    funext y; blk_ext [iblk2, e]
  have h7 : ∀ t : Fin cfg2.N, iblk2 V c 7 t = V c main_v15_2 := fun t => by
    obtain ⟨-, -, -, -, -, -, -, e, -⟩ := idx2 t
    funext y; blk_ext [iblk2, e]
  refine chunk_points P 16 (outsAt2 V c) (fun n h => iblk2 V c 0 ⟨n, h⟩) (fun n h => scr (iblk2 V c 1 ⟨n, h⟩) (iblk2 V c 2 ⟨n, h⟩))
    (fun n h => iblk2 V c 3 ⟨n, h⟩) (fun n h => iblk2 V c 4 ⟨n, h⟩) (fun n h => iblk2 V c 5 ⟨n, h⟩) (V c main_v15_1) (V c main_v15_2) ?_ hM hS ?_ ?_
  · intro n h
    obtain ⟨e0, e1, e2, e3, e4, e5, -⟩ := idx2 ⟨n, h⟩
    refine isTile_of P 16 n _ _ _ _ _ _ (V c main_arg4) (V c main_arg10) (V c main_v18) (V c main_v19) (by omega) (by omega)
      (fun k a b l => ?_) (fun k b l => ?_) (fun r => ?_) (fun r => ?_) (fun R k => (?_ : _ = _).trans (hX R k)) hW hI hQ
      (fun R l => (?_ : _ = _).trans (hT R l))
    · blk_ext [iblk2, e1]
    · blk_ext [iblk2, e2]
    · blk_ext [iblk2, e3]
    · blk_ext [iblk2, e4]
    · blk_ext [iblk2, e0]
    · blk_ext [iblk2, e5]
  · intro h
    have o := outs2_A c (grid2.coords ⟨0, h⟩) _ (hs2_0 ⟨0, h⟩) _ (hs2_1 ⟨0, h⟩) _ (hs2_2 ⟨0, h⟩) _ (hs2_3 ⟨0, h⟩) _ (hs2_4 ⟨0, h⟩) _ (hs2_5 ⟨0, h⟩) _ (hs2_6 ⟨0, h⟩) _ (hs2_7 ⟨0, h⟩) _ (hs2_8 ⟨0, h⟩) _ (hs2_9 ⟨0, h⟩) _ (hs2_10 ⟨0, h⟩) scM2_0 (Memref.isWhole_whole _)
      ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩)
    refine (outsAt2_A V c ⟨0, h⟩ (Nat.zero_mod _)).trans (Prod.ext o.1 (Prod.ext (o.2.1.trans ?_) (o.2.2.trans ?_)))
    · rw [h6]
    · rw [h6, h7]
  · intro n h
    have h0 : ¬ (n + 1) % 16 = 0 := by omega
    have o := outs2_B c (grid2.coords ⟨n + 1, h⟩) _ (hs2_0 ⟨n + 1, h⟩) _ (hs2_1 ⟨n + 1, h⟩) _ (hs2_2 ⟨n + 1, h⟩) _ (hs2_3 ⟨n + 1, h⟩) _ (hs2_4 ⟨n + 1, h⟩) _ (hs2_5 ⟨n + 1, h⟩) _ (hs2_6 ⟨n + 1, h⟩) _ (hs2_7 ⟨n + 1, h⟩) _ (hs2_8 ⟨n + 1, h⟩) _ (hs2_9 ⟨n + 1, h⟩) _ (hs2_10 ⟨n + 1, h⟩) scM2_0 (Memref.isWhole_whole _)
      (fun hh => h0 ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩)
      (outsAt2 V c n (Nat.lt_of_succ_lt h)).2.1 (outsAt2 V c n (Nat.lt_of_succ_lt h)).2.2
    exact (outsAt2_B V c ⟨n + 1, h⟩ h0).trans (Prod.ext o.1 (Prod.ext o.2.1 o.2.2))

end

end Cert.Proof.Chunk

end
-- ==== Proof.Chunk2.lean ====
/- What chunk 2 leaves in its three results: the kept logits of the columns so far, and the lanes' maxima and sums. -/
module

public import proofs.«01_k».proof.Proof.Outs2
public import proofs.«01_k».proof.Proof.Gen.KernelIdeal.Frame.Region2
public import Idealize.ShloMosaic.Lib.Pipeline.ValueKit
import all proofs.«01_k».proof.Proof.Gen.KernelIdeal.Frame.Region2

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

/-- The kept logits of a tile, entry by entry. -/
theorem keptBlk_at2 (P : Prob) (n : ℕ) (y : S640x1024.Idx) (R : Fin 1280) (j : ℕ) (h0 : (y 0).val = R.val) (h1 : 1024 * n + (y 1).val = j) :
    keptBlk P n y = kept P R j := by
  obtain rfl : R = ⟨(y 0).val, Nat.lt_of_lt_of_le (y 0).isLt (by decide)⟩ := Fin.ext h0.symm
  rw [← h1]; rfl

attribute [local irreducible] mAt sAt kept keptBlk

variable (V : (c : Dev nD) → (b : Ref sig .tc) → Buf (Elt Ideal) ((c : Thread nD τ).loc b)) (c : Dev nD) (P : Prob)

section
variable (e : ∀ n h, outsAt2 V c n h = (keptBlk P (16 + n), mAt P (16 + n + 1), sAt P (16 + n + 1)))
include e

/-- The lanes' maxima after the chunk. -/
theorem max2 : (dat2 V c).arrAt 9 cfg2.N = mAt P 32 := by
  refine (dat2 V c).arrAt_eq_of_after_last 9 ⟨15, by decide⟩ (by decide +kernel) _ fun j => ?_
  refine (congrFun (after2_9 V c ⟨15, by decide⟩) _).trans ((congrFun (show (outsAt2 V c 15 (by decide)).2.1 = mAt P 32 from congrArg (·.2.1) (e 15 (by decide))) _).trans ?_)
  exact congrArg (mAt P 32) (funext fun a => match a with | ⟨0, _⟩ => rfl | ⟨1, _⟩ => rfl)

/-- The lanes' sums after the chunk. -/
theorem sum2 : (dat2 V c).arrAt 10 cfg2.N = sAt P 32 := by
  refine (dat2 V c).arrAt_eq_of_after_last 10 ⟨15, by decide⟩ (by decide +kernel) _ fun j => ?_
  refine (congrFun (after2_10 V c ⟨15, by decide⟩) _).trans ((congrFun (show (outsAt2 V c 15 (by decide)).2.2 = sAt P 32 from congrArg (·.2.2) (e 15 (by decide))) _).trans ?_)
  exact congrArg (sAt P 32) (funext fun a => match a with | ⟨0, _⟩ => rfl | ⟨1, _⟩ => rfl)

/-- The kept logits of the columns so far. -/
theorem kept2 (h0 : ∀ (R : Fin 640) (j : Fin 65536), j.val < 1024 * 16 → V c main_v20_0 (Idealize.ShloMosaic.ix2 R j) = kept P (R.castLE (by decide)) j.val)
    (R : Fin 640) (j : Fin 65536) (hj : j.val < 1024 * 32) :
    (dat2 V c).arrAt 8 cfg2.N (Idealize.ShloMosaic.ix2 R j) = kept P (R.castLE (by decide)) j.val := by
  refine (dat2 V c).arrAt_forall_of_coversWhere 8
    (fun (i : S640x65536.Idx) (v : EReal) => (i 1).val < 1024 * 32 → v = kept P ⟨(i 0).val, Nat.lt_of_lt_of_le (i 0).isLt (by decide)⟩ (i 1).val)
    (fun β => 16 ≤ β (1 : Fin 2) ∧ β (1 : Fin 2) < 32) (by decide +kernel) (fun t hf y hj => ?_) (fun j hj hl => ?_) (Idealize.ShloMosaic.ix2 R j) (Memref.isWhole_whole _) hj
  · refine (congrFun (after2_8 V c t) _).trans ((congrFun (show (outsAt2 V c t.val t.isLt).1 = keptBlk P (16 + t.val) from congrArg (·.1) (e t.val t.isLt)) _).trans ?_)
    have e8 : win2_8.index t = ![0, 16 + t.val] := (idx2 t).2.2.2.2.2.2.2.2
    have hx : ((cfg2.win 8).xinj (cfg2.grid.coords t) y 1).val = (y 1).val := rfl
    refine keptBlk_at2 P _ _ _ _ ?_ ?_
    · blk_simp [e8]
    · blk_simp [e8]
      omega
  · blk_simp [Pipeline.Window.cell_apply] at hj hl
    have hb : (j 1).val < 1024 * 16 := by omega
    have hA : (dat2 V c).A 8 = V c main_v20_0 := rfl
    rw [hA]
    refine Eq.trans (congrArg (V c main_v20_0) (?_ : _ = Idealize.ShloMosaic.ix2 (j 0) (j 1))) ((h0 (j 0) (j 1) hb).trans ?_)
    · funext a
      match a with | ⟨0, _⟩ => exact Fin.ext (by blk_simp; rfl) | ⟨1, _⟩ => exact Fin.ext (by blk_simp; rfl)
    · exact congr (congrArg (kept P) (Fin.ext (by blk_simp; rfl))) (by blk_simp)
end

end Cert.Proof.Chunk

end
-- ==== Proof.Block3.lean ====
/- What a grid point of chunk 3 leaves in its three output blocks. -/
module

public import proofs.«01_k».proof.Proof.Pieces
public import proofs.«01_k».proof.Proof.Scratch
public import proofs.«01_k».proof.Proof.Gen.KernelIdeal.Frame.Region3
import all proofs.«01_k».proof.Proof.Gen.KernelIdeal.Frame.Region3

@[expose] public section

noncomputable section

namespace Cert.Proof.Step

open Idealize.ShloMosaic Idealize.SL Cert.KernelIdeal Cert.KernelIdeal.Gen Cert.Proof.Dequant

/-- The loop of this chunk stores what the first chunk's does. -/
theorem loop3 (i' : grid0.Coords) (c : Dev nD) (i : grid3.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .hbm S640x65536 .f32) (harg9 : arg9.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (X2 : arg2.view.ty.Contents (Elt Ideal)) (X3 : arg3.view.ty.Contents (Elt Ideal)) :
    ∀ n, n ≤ k0_t1_loop.trips → pb_k3_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 n
      = pb_k0_t1 (F := Ideal) Variants.none c none i' arg1 harg1 arg2 harg2 arg3 harg3 arg4 harg4 arg5 harg5 arg6 harg6 arg7 harg7 arg8 harg8 arg10 harg10 arg11 harg11 arg12 harg12 arg13 harg13 X2 X3 n
  | 0, _ => rfl
  | n + 1, h => by
    have e := pb_k3_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 ⟨n, h⟩
    have e' := pb_k0_t1_succ (F := Ideal) Variants.none c none i' arg1 harg1 arg2 harg2 arg3 harg3 arg4 harg4 arg5 harg5 arg6 harg6 arg7 harg7 arg8 harg8 arg10 harg10 arg11 harg11 arg12 harg12 arg13 harg13 X2 X3 ⟨n, h⟩
    refine e.trans (Eq.trans ?_ e'.symm)
    refine congr (congrArg _ ?_) (loop3 i' c i arg1 harg1 arg2 harg2 arg3 harg3 arg4 harg4 arg5 harg5 arg6 harg6 arg7 harg7 arg8 harg8 arg9 harg9 arg10 harg10 arg11 harg11 arg12 harg12 arg13 harg13 X2 X3 n (Nat.le_of_succ_le h))
    unfold tripL_k3_t1 tripL_k0_t1 trip_k3_t1 trip_k0_t1
    rfl

set_option maxHeartbeats 2000000 in
/-- The blocks at the first point of the chunk, which starts from the lanes given to it. -/
theorem outs3_A (c : Dev nD) (i : grid3.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : cond3_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) :
    out3_A_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = nBlk x0 (scr x1 x2) x3 x4 x5
    ∧ out3_A_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = mBlk x0 (scr x1 x2) x3 x4 x5 x6
    ∧ out3_A_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = sBlk x0 (scr x1 x2) x3 x4 x5 x6 x7 := by
  unfold out3_A_8 out3_A_9 out3_A_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k3_t1 (F := Ideal) Variants.none c none i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 (harg2.unread x1) (harg3.unread x2) (Scf.trips k3_t1_loop.lb k3_t1_loop.ub k3_t1_loop.st)))
    (start (View.readAt (Elt Ideal) arg7.view (Rect.unit (s := S1280x128) ![0, 0] S1280x128.size inb_S1280x128_S1280x128_0_0).toLoadRect (harg7.unread x6))) (start (View.readAt (Elt Ideal) arg8.view (Rect.unit (s := S1280x128) ![0, 0] S1280x128.size inb_S1280x128_S1280x128_0_0).toLoadRect (harg8.unread x7)))
    (arg11.view.readCov (start (View.readAt (Elt Ideal) arg7.view (Rect.unit (s := S1280x128) ![0, 0] S1280x128.size inb_S1280x128_S1280x128_0_0).toLoadRect (harg7.unread x6))) lo.toLoadRect)
    (arg11.view.readCov (Tile.mP2 (loads arg1.view arg4.view arg5.view arg6.view arg13.view (harg1.unread x0) (harg4.unread x3) (harg5.unread x4) (harg6.unread x5) (pb_k3_t1 (F := Ideal) Variants.none c none i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 (harg2.unread x1) (harg3.unread x2) (Scf.trips k3_t1_loop.lb k3_t1_loop.ub k3_t1_loop.st))) (arg11.view.readCov (start (View.readAt (Elt Ideal) arg7.view (Rect.unit (s := S1280x128) ![0, 0] S1280x128.size inb_S1280x128_S1280x128_0_0).toLoadRect (harg7.unread x6))) lo.toLoadRect) (start (View.readAt (Elt Ideal) arg7.view (Rect.unit (s := S1280x128) ![0, 0] S1280x128.size inb_S1280x128_S1280x128_0_0).toLoadRect (harg7.unread x6)))) hi.toLoadRect)
    (arg12.view.readCov (start (View.readAt (Elt Ideal) arg8.view (Rect.unit (s := S1280x128) ![0, 0] S1280x128.size inb_S1280x128_S1280x128_0_0).toLoadRect (harg8.unread x7))) lo.toLoadRect)
    (arg12.view.readCov (Tile.sP2 (loads arg1.view arg4.view arg5.view arg6.view arg13.view (harg1.unread x0) (harg4.unread x3) (harg5.unread x4) (harg6.unread x5) (pb_k3_t1 (F := Ideal) Variants.none c none i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 (harg2.unread x1) (harg3.unread x2) (Scf.trips k3_t1_loop.lb k3_t1_loop.ub k3_t1_loop.st))) (arg11.view.readCov (start (View.readAt (Elt Ideal) arg7.view (Rect.unit (s := S1280x128) ![0, 0] S1280x128.size inb_S1280x128_S1280x128_0_0).toLoadRect (harg7.unread x6))) lo.toLoadRect) (arg12.view.readCov (start (View.readAt (Elt Ideal) arg8.view (Rect.unit (s := S1280x128) ![0, 0] S1280x128.size inb_S1280x128_S1280x128_0_0).toLoadRect (harg8.unread x7))) lo.toLoadRect) (start (View.readAt (Elt Ideal) arg8.view (Rect.unit (s := S1280x128) ![0, 0] S1280x128.size inb_S1280x128_S1280x128_0_0).toLoadRect (harg8.unread x7)))) hi.toLoadRect)
    x0 (scr x1 x2) x3 x4 x5 x6 x7 _ _ _ ?_ ?_ ?_
    (loads_eq _ _ _ _ _ _ _ _ _ _ _ _ _ _ _ (harg1.read_unread x0) (harg4.read_unread x3) (harg5.read_unread x4) (harg6.read_unread x5)
      (by refine (congrArg View.canon (loop3 (fun _ => ⟨0, by decide +revert⟩) c i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 _ _ _ le_rfl)).trans (funext fun y => ?_); rw [loop_canon, harg2.read_unread, harg3.read_unread]))
    (by rw [start_lo, View.readAt_eq_ld, harg7.read_unread, ld_whole]) (by rw [start_hi, View.readAt_eq_ld, harg7.read_unread, ld_whole]) (by rw [start_lo, View.readAt_eq_ld, harg8.read_unread, ld_whole]) (by rw [start_hi', View.readAt_eq_ld, harg8.read_unread, ld_whole])
  all_goals sl_kernel_rfl

set_option maxHeartbeats 2000000 in
/-- The blocks at a later point, from the lanes the point before left. -/
theorem outs3_B (c : Dev nD) (i : grid3.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : ¬cond3_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) (xo9 : Vec Ideal S1280x128 .f32) (xo10 : Vec Ideal S1280x128 .f32) :
    out3_B_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = nBlk x0 (scr x1 x2) x3 x4 x5
    ∧ out3_B_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = mBlk x0 (scr x1 x2) x3 x4 x5 xo9
    ∧ out3_B_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = sBlk x0 (scr x1 x2) x3 x4 x5 xo9 xo10 := by
  unfold out3_B_8 out3_B_9 out3_B_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k3_t1 (F := Ideal) Variants.none c none i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 (harg2.unread x1) (harg3.unread x2) (Scf.trips k3_t1_loop.lb k3_t1_loop.ub k3_t1_loop.st)))
    [] []
    (View.readAt (Elt Ideal) arg11.view lo.toLoadRect (harg11.unread xo9))
    (View.readAt (Elt Ideal) arg11.view hi.toLoadRect (harg11.unread xo9))
    (View.readAt (Elt Ideal) arg12.view lo.toLoadRect (harg12.unread xo10))
    (View.readAt (Elt Ideal) arg12.view hi.toLoadRect (harg12.unread xo10))
    x0 (scr x1 x2) x3 x4 x5 xo9 xo10 _ _ _ ?_ ?_ ?_
    (loads_eq _ _ _ _ _ _ _ _ _ _ _ _ _ _ _ (harg1.read_unread x0) (harg4.read_unread x3) (harg5.read_unread x4) (harg6.read_unread x5)
      (by refine (congrArg View.canon (loop3 (fun _ => ⟨0, by decide +revert⟩) c i arg1 harg1 arg2 harg2 arg3 harg3 arg4 harg4 arg5 harg5 arg6 harg6 arg7 harg7 arg8 harg8 (Memref.whole main_v20_0) (Memref.isWhole_whole _) arg10 harg10 arg11 harg11 arg12 harg12 arg13 harg13 _ _ _ le_rfl)).trans (funext fun y => ?_); rw [loop_canon, harg2.read_unread, harg3.read_unread]))
    (by rw [View.readAt_eq_ld, harg11.read_unread]) (by rw [View.readAt_eq_ld, harg11.read_unread]) (by rw [View.readAt_eq_ld, harg12.read_unread]) (by rw [View.readAt_eq_ld, harg12.read_unread])
  all_goals sl_kernel_rfl

end Cert.Proof.Step
-- ==== Proof.Outs3.lean ====
/- What each grid point of chunk 3 leaves: the kept logits of its columns, and the lanes' maxima and sums so far. -/
module

public import proofs.«01_k».proof.Proof.Problem
public import proofs.«01_k».proof.Proof.Block3
public import Idealize.ShloMosaic.Lib.Pipeline.ValueKit

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

variable (V : (c : Dev nD) → (b : Ref sig .tc) → Buf (Elt Ideal) ((c : Thread nD τ).loc b)) (c : Dev nD) (P : Prob)

theorem idx3 : ∀ t : Fin cfg3.N, win3_0.index t = ![0, 0] ∧ win3_1.index t = ![t.val, 0, 0, 0] ∧ win3_2.index t = ![t.val, 0, 0]
    ∧ win3_3.index t = ![0, t.val] ∧ win3_4.index t = ![0, t.val] ∧ win3_5.index t = ![0, 0] ∧ win3_6.index t = ![0, 0] ∧ win3_7.index t = ![0, 0]
    ∧ win3_8.index t = ![0, 32 + t.val] := by decide +kernel

section
variable (hX : ∀ R k, V c main_v0 (Idealize.ShloMosaic.ix2 R k) = P.x R k)
    (hW : ∀ (k : Fin 512) (r : Fin 32) col, tab (V c main_arg5) (V c main_arg11) k r col = P.w (1024 * 32 + (32 * k.val + r.val)) col)
    (hI : ∀ j : Fin 16384, V c main_v23 (Idealize.ShloMosaic.ix2 (0 : Fin 1) j) = P.ids (1024 * 32 + j.val))
    (hQ : ∀ j : Fin 16384, V c main_v24 (Idealize.ShloMosaic.ix2 (0 : Fin 1) j) = P.lq (1024 * 32 + j.val))
    (hT : ∀ R l, V c main_v3 (Idealize.ShloMosaic.ix2 R l) = P.tg R)
    (hM : V c main_v20_1 = mAt P 32) (hS : V c main_v20_2 = sAt P 32)
include hX hW hI hQ hT hM hS

set_option maxHeartbeats 4000000 in
/-- What each point leaves. -/
theorem outs3 : ∀ n h, outsAt3 V c n h = (keptBlk P (32 + n), mAt P (32 + n + 1), sAt P (32 + n + 1)) := by
  have hN : cfg3.N = 16 := by decide
  have h6 : ∀ t : Fin cfg3.N, iblk3 V c 6 t = V c main_v20_1 := fun t => by
    obtain ⟨-, -, -, -, -, -, e, -⟩ := idx3 t
    funext y; blk_ext [iblk3, e]
  have h7 : ∀ t : Fin cfg3.N, iblk3 V c 7 t = V c main_v20_2 := fun t => by
    obtain ⟨-, -, -, -, -, -, -, e, -⟩ := idx3 t
    funext y; blk_ext [iblk3, e]
  refine chunk_points P 32 (outsAt3 V c) (fun n h => iblk3 V c 0 ⟨n, h⟩) (fun n h => scr (iblk3 V c 1 ⟨n, h⟩) (iblk3 V c 2 ⟨n, h⟩))
    (fun n h => iblk3 V c 3 ⟨n, h⟩) (fun n h => iblk3 V c 4 ⟨n, h⟩) (fun n h => iblk3 V c 5 ⟨n, h⟩) (V c main_v20_1) (V c main_v20_2) ?_ hM hS ?_ ?_
  · intro n h
    obtain ⟨e0, e1, e2, e3, e4, e5, -⟩ := idx3 ⟨n, h⟩
    refine isTile_of P 32 n _ _ _ _ _ _ (V c main_arg5) (V c main_arg11) (V c main_v23) (V c main_v24) (by omega) (by omega)
      (fun k a b l => ?_) (fun k b l => ?_) (fun r => ?_) (fun r => ?_) (fun R k => (?_ : _ = _).trans (hX R k)) hW hI hQ
      (fun R l => (?_ : _ = _).trans (hT R l))
    · blk_ext [iblk3, e1]
    · blk_ext [iblk3, e2]
    · blk_ext [iblk3, e3]
    · blk_ext [iblk3, e4]
    · blk_ext [iblk3, e0]
    · blk_ext [iblk3, e5]
  · intro h
    have o := outs3_A c (grid3.coords ⟨0, h⟩) _ (hs3_0 ⟨0, h⟩) _ (hs3_1 ⟨0, h⟩) _ (hs3_2 ⟨0, h⟩) _ (hs3_3 ⟨0, h⟩) _ (hs3_4 ⟨0, h⟩) _ (hs3_5 ⟨0, h⟩) _ (hs3_6 ⟨0, h⟩) _ (hs3_7 ⟨0, h⟩) _ (hs3_8 ⟨0, h⟩) _ (hs3_9 ⟨0, h⟩) _ (hs3_10 ⟨0, h⟩) scM3_0 (Memref.isWhole_whole _)
      ((hcond3_0 ⟨0, h⟩).mpr (Nat.zero_mod _)) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩) (iblk3 V c 7 ⟨0, h⟩)
    refine (outsAt3_A V c ⟨0, h⟩ (Nat.zero_mod _)).trans (Prod.ext o.1 (Prod.ext (o.2.1.trans ?_) (o.2.2.trans ?_)))
    · rw [h6]
    · rw [h6, h7]
  · intro n h
    have h0 : ¬ (n + 1) % 16 = 0 := by omega
    have o := outs3_B c (grid3.coords ⟨n + 1, h⟩) _ (hs3_0 ⟨n + 1, h⟩) _ (hs3_1 ⟨n + 1, h⟩) _ (hs3_2 ⟨n + 1, h⟩) _ (hs3_3 ⟨n + 1, h⟩) _ (hs3_4 ⟨n + 1, h⟩) _ (hs3_5 ⟨n + 1, h⟩) _ (hs3_6 ⟨n + 1, h⟩) _ (hs3_7 ⟨n + 1, h⟩) _ (hs3_8 ⟨n + 1, h⟩) _ (hs3_9 ⟨n + 1, h⟩) _ (hs3_10 ⟨n + 1, h⟩) scM3_0 (Memref.isWhole_whole _)
      (fun hh => h0 ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (iblk3 V c 7 ⟨n + 1, h⟩)
      (outsAt3 V c n (Nat.lt_of_succ_lt h)).2.1 (outsAt3 V c n (Nat.lt_of_succ_lt h)).2.2
    exact (outsAt3_B V c ⟨n + 1, h⟩ h0).trans (Prod.ext o.1 (Prod.ext o.2.1 o.2.2))

end

end Cert.Proof.Chunk

end
-- ==== Proof.Chunk3.lean ====
/- What chunk 3 leaves in its three results: the kept logits of the columns so far, and the lanes' maxima and sums. -/
module

public import proofs.«01_k».proof.Proof.Outs3
public import proofs.«01_k».proof.Proof.Gen.KernelIdeal.Frame.Region3
public import Idealize.ShloMosaic.Lib.Pipeline.ValueKit
import all proofs.«01_k».proof.Proof.Gen.KernelIdeal.Frame.Region3

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

/-- The kept logits of a tile, entry by entry. -/
theorem keptBlk_at3 (P : Prob) (n : ℕ) (y : S640x1024.Idx) (R : Fin 1280) (j : ℕ) (h0 : (y 0).val = R.val) (h1 : 1024 * n + (y 1).val = j) :
    keptBlk P n y = kept P R j := by
  obtain rfl : R = ⟨(y 0).val, Nat.lt_of_lt_of_le (y 0).isLt (by decide)⟩ := Fin.ext h0.symm
  rw [← h1]; rfl

attribute [local irreducible] mAt sAt kept keptBlk

variable (V : (c : Dev nD) → (b : Ref sig .tc) → Buf (Elt Ideal) ((c : Thread nD τ).loc b)) (c : Dev nD) (P : Prob)

section
variable (e : ∀ n h, outsAt3 V c n h = (keptBlk P (32 + n), mAt P (32 + n + 1), sAt P (32 + n + 1)))
include e

/-- The lanes' maxima after the chunk. -/
theorem max3 : (dat3 V c).arrAt 9 cfg3.N = mAt P 48 := by
  refine (dat3 V c).arrAt_eq_of_after_last 9 ⟨15, by decide⟩ (by decide +kernel) _ fun j => ?_
  refine (congrFun (after3_9 V c ⟨15, by decide⟩) _).trans ((congrFun (show (outsAt3 V c 15 (by decide)).2.1 = mAt P 48 from congrArg (·.2.1) (e 15 (by decide))) _).trans ?_)
  exact congrArg (mAt P 48) (funext fun a => match a with | ⟨0, _⟩ => rfl | ⟨1, _⟩ => rfl)

/-- The lanes' sums after the chunk. -/
theorem sum3 : (dat3 V c).arrAt 10 cfg3.N = sAt P 48 := by
  refine (dat3 V c).arrAt_eq_of_after_last 10 ⟨15, by decide⟩ (by decide +kernel) _ fun j => ?_
  refine (congrFun (after3_10 V c ⟨15, by decide⟩) _).trans ((congrFun (show (outsAt3 V c 15 (by decide)).2.2 = sAt P 48 from congrArg (·.2.2) (e 15 (by decide))) _).trans ?_)
  exact congrArg (sAt P 48) (funext fun a => match a with | ⟨0, _⟩ => rfl | ⟨1, _⟩ => rfl)

/-- The kept logits of the columns so far. -/
theorem kept3 (h0 : ∀ (R : Fin 640) (j : Fin 65536), j.val < 1024 * 32 → V c main_v25_0 (Idealize.ShloMosaic.ix2 R j) = kept P (R.castLE (by decide)) j.val)
    (R : Fin 640) (j : Fin 65536) (hj : j.val < 1024 * 48) :
    (dat3 V c).arrAt 8 cfg3.N (Idealize.ShloMosaic.ix2 R j) = kept P (R.castLE (by decide)) j.val := by
  refine (dat3 V c).arrAt_forall_of_coversWhere 8
    (fun (i : S640x65536.Idx) (v : EReal) => (i 1).val < 1024 * 48 → v = kept P ⟨(i 0).val, Nat.lt_of_lt_of_le (i 0).isLt (by decide)⟩ (i 1).val)
    (fun β => 32 ≤ β (1 : Fin 2) ∧ β (1 : Fin 2) < 48) (by decide +kernel) (fun t hf y hj => ?_) (fun j hj hl => ?_) (Idealize.ShloMosaic.ix2 R j) (Memref.isWhole_whole _) hj
  · refine (congrFun (after3_8 V c t) _).trans ((congrFun (show (outsAt3 V c t.val t.isLt).1 = keptBlk P (32 + t.val) from congrArg (·.1) (e t.val t.isLt)) _).trans ?_)
    have e8 : win3_8.index t = ![0, 32 + t.val] := (idx3 t).2.2.2.2.2.2.2.2
    have hx : ((cfg3.win 8).xinj (cfg3.grid.coords t) y 1).val = (y 1).val := rfl
    refine keptBlk_at3 P _ _ _ _ ?_ ?_
    · blk_simp [e8]
    · blk_simp [e8]
      omega
  · blk_simp [Pipeline.Window.cell_apply] at hj hl
    have hb : (j 1).val < 1024 * 32 := by omega
    have hA : (dat3 V c).A 8 = V c main_v25_0 := rfl
    rw [hA]
    refine Eq.trans (congrArg (V c main_v25_0) (?_ : _ = Idealize.ShloMosaic.ix2 (j 0) (j 1))) ((h0 (j 0) (j 1) hb).trans ?_)
    · funext a
      match a with | ⟨0, _⟩ => exact Fin.ext (by blk_simp; rfl) | ⟨1, _⟩ => exact Fin.ext (by blk_simp; rfl)
    · exact congr (congrArg (kept P) (Fin.ext (by blk_simp; rfl))) (by blk_simp)
end

end Cert.Proof.Chunk

end
-- ==== Proof.Block4.lean ====
/- What a grid point of chunk 4 leaves in its three output blocks. -/
module

public import proofs.«01_k».proof.Proof.Pieces
public import proofs.«01_k».proof.Proof.Scratch
public import proofs.«01_k».proof.Proof.Gen.KernelIdeal.Frame.Region4
import all proofs.«01_k».proof.Proof.Gen.KernelIdeal.Frame.Region4

@[expose] public section

noncomputable section

namespace Cert.Proof.Step

open Idealize.ShloMosaic Idealize.SL Cert.KernelIdeal Cert.KernelIdeal.Gen Cert.Proof.Dequant

/-- The loop of this chunk stores what the first chunk's does. -/
theorem loop4 (i' : grid0.Coords) (c : Dev nD) (i : grid4.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg9 : Memref sig .tc .hbm S640x65536 .f32) (harg9 : arg9.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (X2 : arg2.view.ty.Contents (Elt Ideal)) (X3 : arg3.view.ty.Contents (Elt Ideal)) :
    ∀ n, n ≤ k0_t1_loop.trips → pb_k4_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 n
      = pb_k0_t1 (F := Ideal) Variants.none c none i' arg1 harg1 arg2 harg2 arg3 harg3 arg4 harg4 arg5 harg5 arg6 harg6 arg7 harg7 arg8 harg8 arg10 harg10 arg11 harg11 arg12 harg12 arg13 harg13 X2 X3 n
  | 0, _ => rfl
  | n + 1, h => by
    have e := pb_k4_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X2 X3 ⟨n, h⟩
    have e' := pb_k0_t1_succ (F := Ideal) Variants.none c none i' arg1 harg1 arg2 harg2 arg3 harg3 arg4 harg4 arg5 harg5 arg6 harg6 arg7 harg7 arg8 harg8 arg10 harg10 arg11 harg11 arg12 harg12 arg13 harg13 X2 X3 ⟨n, h⟩
    refine e.trans (Eq.trans ?_ e'.symm)
    refine congr (congrArg _ ?_) (loop4 i' c i arg1 harg1 arg2 harg2 arg3 harg3 arg4 harg4 arg5 harg5 arg6 harg6 arg7 harg7 arg8 harg8 arg9 harg9 arg10 harg10 arg11 harg11 arg12 harg12 arg13 harg13 X2 X3 n (Nat.le_of_succ_le h))
    unfold tripL_k4_t1 tripL_k0_t1 trip_k4_t1 trip_k0_t1
    rfl

set_option maxHeartbeats 2000000 in
/-- The blocks at the first point of the chunk, which starts from the lanes given to it. -/
theorem outs4_A (c : Dev nD) (i : grid4.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : cond4_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) :
    out4_A_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = nBlk x0 (scr x1 x2) x3 x4 x5
    ∧ out4_A_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = mBlk x0 (scr x1 x2) x3 x4 x5 x6
    ∧ out4_A_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 = sBlk x0 (scr x1 x2) x3 x4 x5 x6 x7 := by
  unfold out4_A_8 out4_A_9 out4_A_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k4_t1 (F := Ideal) Variants.none c none i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 (harg2.unread x1) (harg3.unread x2) (Scf.trips k4_t1_loop.lb k4_t1_loop.ub k4_t1_loop.st)))
    (start (View.readAt (Elt Ideal) arg7.view (Rect.unit (s := S1280x128) ![0, 0] S1280x128.size inb_S1280x128_S1280x128_0_0).toLoadRect (harg7.unread x6))) (start (View.readAt (Elt Ideal) arg8.view (Rect.unit (s := S1280x128) ![0, 0] S1280x128.size inb_S1280x128_S1280x128_0_0).toLoadRect (harg8.unread x7)))
    (arg11.view.readCov (start (View.readAt (Elt Ideal) arg7.view (Rect.unit (s := S1280x128) ![0, 0] S1280x128.size inb_S1280x128_S1280x128_0_0).toLoadRect (harg7.unread x6))) lo.toLoadRect)
    (arg11.view.readCov (Tile.mP2 (loads arg1.view arg4.view arg5.view arg6.view arg13.view (harg1.unread x0) (harg4.unread x3) (harg5.unread x4) (harg6.unread x5) (pb_k4_t1 (F := Ideal) Variants.none c none i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 (harg2.unread x1) (harg3.unread x2) (Scf.trips k4_t1_loop.lb k4_t1_loop.ub k4_t1_loop.st))) (arg11.view.readCov (start (View.readAt (Elt Ideal) arg7.view (Rect.unit (s := S1280x128) ![0, 0] S1280x128.size inb_S1280x128_S1280x128_0_0).toLoadRect (harg7.unread x6))) lo.toLoadRect) (start (View.readAt (Elt Ideal) arg7.view (Rect.unit (s := S1280x128) ![0, 0] S1280x128.size inb_S1280x128_S1280x128_0_0).toLoadRect (harg7.unread x6)))) hi.toLoadRect)
    (arg12.view.readCov (start (View.readAt (Elt Ideal) arg8.view (Rect.unit (s := S1280x128) ![0, 0] S1280x128.size inb_S1280x128_S1280x128_0_0).toLoadRect (harg8.unread x7))) lo.toLoadRect)
    (arg12.view.readCov (Tile.sP2 (loads arg1.view arg4.view arg5.view arg6.view arg13.view (harg1.unread x0) (harg4.unread x3) (harg5.unread x4) (harg6.unread x5) (pb_k4_t1 (F := Ideal) Variants.none c none i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 (harg2.unread x1) (harg3.unread x2) (Scf.trips k4_t1_loop.lb k4_t1_loop.ub k4_t1_loop.st))) (arg11.view.readCov (start (View.readAt (Elt Ideal) arg7.view (Rect.unit (s := S1280x128) ![0, 0] S1280x128.size inb_S1280x128_S1280x128_0_0).toLoadRect (harg7.unread x6))) lo.toLoadRect) (arg12.view.readCov (start (View.readAt (Elt Ideal) arg8.view (Rect.unit (s := S1280x128) ![0, 0] S1280x128.size inb_S1280x128_S1280x128_0_0).toLoadRect (harg8.unread x7))) lo.toLoadRect) (start (View.readAt (Elt Ideal) arg8.view (Rect.unit (s := S1280x128) ![0, 0] S1280x128.size inb_S1280x128_S1280x128_0_0).toLoadRect (harg8.unread x7)))) hi.toLoadRect)
    x0 (scr x1 x2) x3 x4 x5 x6 x7 _ _ _ ?_ ?_ ?_
    (loads_eq _ _ _ _ _ _ _ _ _ _ _ _ _ _ _ (harg1.read_unread x0) (harg4.read_unread x3) (harg5.read_unread x4) (harg6.read_unread x5)
      (by refine (congrArg View.canon (loop4 (fun _ => ⟨0, by decide +revert⟩) c i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 _ _ _ le_rfl)).trans (funext fun y => ?_); rw [loop_canon, harg2.read_unread, harg3.read_unread]))
    (by rw [start_lo, View.readAt_eq_ld, harg7.read_unread, ld_whole]) (by rw [start_hi, View.readAt_eq_ld, harg7.read_unread, ld_whole]) (by rw [start_lo, View.readAt_eq_ld, harg8.read_unread, ld_whole]) (by rw [start_hi', View.readAt_eq_ld, harg8.read_unread, ld_whole])
  all_goals sl_kernel_rfl

set_option maxHeartbeats 2000000 in
/-- The blocks at a later point, from the lanes the point before left. -/
theorem outs4_B (c : Dev nD) (i : grid4.Coords) (arg1 : Memref sig .tc .vmem S1280x1536 .bf16) (harg1 : arg1.IsWhole) (arg2 : Memref sig .tc .vmem S32x12x8x128 .i32) (harg2 : arg2.IsWhole) (arg3 : Memref sig .tc .vmem S32x8x128 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1280x128 .i32) (harg6 : arg6.IsWhole) (arg7 : Memref sig .tc .vmem S1280x128 .f32) (harg7 : arg7.IsWhole) (arg8 : Memref sig .tc .vmem S1280x128 .f32) (harg8 : arg8.IsWhole) (arg10 : Memref sig .tc .vmem S640x1024 .f32) (harg10 : arg10.IsWhole) (arg11 : Memref sig .tc .vmem S1280x128 .f32) (harg11 : arg11.IsWhole) (arg12 : Memref sig .tc .vmem S1280x128 .f32) (harg12 : arg12.IsWhole) (arg13 : Memref sig .tc .vmem S1024x1536 .bf16) (harg13 : arg13.IsWhole) (hc0 : ¬cond4_0 i)
    (x0 : Vec Ideal S1280x1536 .bf16) (x1 : Vec Ideal S32x12x8x128 .i32) (x2 : Vec Ideal S32x8x128 .i32) (x3 : Vec Ideal S1x1024 .i32) (x4 : Vec Ideal S1x1024 .f32) (x5 : Vec Ideal S1280x128 .i32) (x6 : Vec Ideal S1280x128 .f32) (x7 : Vec Ideal S1280x128 .f32) (xo9 : Vec Ideal S1280x128 .f32) (xo10 : Vec Ideal S1280x128 .f32) :
    out4_B_8 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = nBlk x0 (scr x1 x2) x3 x4 x5
    ∧ out4_B_9 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = mBlk x0 (scr x1 x2) x3 x4 x5 xo9
    ∧ out4_B_10 (F := Ideal) c i arg1 harg1 arg2 harg2 arg3 harg3 arg4 harg4 arg5 harg5 arg6 harg6 arg7 harg7 arg8 harg8 arg10 harg10 arg11 harg11 arg12 harg12 arg13 harg13 hc0 x0 x1 x2 x3 x4 x5 x6 x7 xo9 xo10 = sBlk x0 (scr x1 x2) x3 x4 x5 xo9 xo10 := by
  unfold out4_B_8 out4_B_9 out4_B_10
  rw [View.read_writes_junk_eq_canon, View.read_writes_junk_eq_canon, View.read_writes_junk_eq_canon]
  refine point_outs arg11.view arg12.view
    (loads arg1.view arg4.view arg5.view arg6.view arg13.view (harg1.unread x0) (harg4.unread x3) (harg5.unread x4) (harg6.unread x5) (pb_k4_t1 (F := Ideal) Variants.none c none i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 (harg2.unread x1) (harg3.unread x2) (Scf.trips k4_t1_loop.lb k4_t1_loop.ub k4_t1_loop.st)))
    [] []
    (View.readAt (Elt Ideal) arg11.view lo.toLoadRect (harg11.unread xo9))
    (View.readAt (Elt Ideal) arg11.view hi.toLoadRect (harg11.unread xo9))
    (View.readAt (Elt Ideal) arg12.view lo.toLoadRect (harg12.unread xo10))
    (View.readAt (Elt Ideal) arg12.view hi.toLoadRect (harg12.unread xo10))
    x0 (scr x1 x2) x3 x4 x5 xo9 xo10 _ _ _ ?_ ?_ ?_
    (loads_eq _ _ _ _ _ _ _ _ _ _ _ _ _ _ _ (harg1.read_unread x0) (harg4.read_unread x3) (harg5.read_unread x4) (harg6.read_unread x5)
      (by refine (congrArg View.canon (loop4 (fun _ => ⟨0, by decide +revert⟩) c i arg1 harg1 arg2 harg2 arg3 harg3 arg4 harg4 arg5 harg5 arg6 harg6 arg7 harg7 arg8 harg8 (Memref.whole main_v25_0) (Memref.isWhole_whole _) arg10 harg10 arg11 harg11 arg12 harg12 arg13 harg13 _ _ _ le_rfl)).trans (funext fun y => ?_); rw [loop_canon, harg2.read_unread, harg3.read_unread]))
    (by rw [View.readAt_eq_ld, harg11.read_unread]) (by rw [View.readAt_eq_ld, harg11.read_unread]) (by rw [View.readAt_eq_ld, harg12.read_unread]) (by rw [View.readAt_eq_ld, harg12.read_unread])
  all_goals sl_kernel_rfl

end Cert.Proof.Step
-- ==== Proof.Outs4.lean ====
/- What each grid point of chunk 4 leaves: the kept logits of its columns, and the lanes' maxima and sums so far. -/
module

public import proofs.«01_k».proof.Proof.Problem
public import proofs.«01_k».proof.Proof.Block4
public import Idealize.ShloMosaic.Lib.Pipeline.ValueKit

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

variable (V : (c : Dev nD) → (b : Ref sig .tc) → Buf (Elt Ideal) ((c : Thread nD τ).loc b)) (c : Dev nD) (P : Prob)

theorem idx4 : ∀ t : Fin cfg4.N, win4_0.index t = ![0, 0] ∧ win4_1.index t = ![t.val, 0, 0, 0] ∧ win4_2.index t = ![t.val, 0, 0]
    ∧ win4_3.index t = ![0, t.val] ∧ win4_4.index t = ![0, t.val] ∧ win4_5.index t = ![0, 0] ∧ win4_6.index t = ![0, 0] ∧ win4_7.index t = ![0, 0]
    ∧ win4_8.index t = ![0, 48 + t.val] := by decide +kernel

section
variable (hX : ∀ R k, V c main_v0 (Idealize.ShloMosaic.ix2 R k) = P.x R k)
    (hW : ∀ (k : Fin 512) (r : Fin 32) col, tab (V c main_arg6) (V c main_arg12) k r col = P.w (1024 * 48 + (32 * k.val + r.val)) col)
    (hI : ∀ j : Fin 16384, V c main_v28 (Idealize.ShloMosaic.ix2 (0 : Fin 1) j) = P.ids (1024 * 48 + j.val))
    (hQ : ∀ j : Fin 16384, V c main_v29 (Idealize.ShloMosaic.ix2 (0 : Fin 1) j) = P.lq (1024 * 48 + j.val))
    (hT : ∀ R l, V c main_v3 (Idealize.ShloMosaic.ix2 R l) = P.tg R)
    (hM : V c main_v25_1 = mAt P 48) (hS : V c main_v25_2 = sAt P 48)
include hX hW hI hQ hT hM hS

set_option maxHeartbeats 4000000 in
/-- What each point leaves. -/
theorem outs4 : ∀ n h, outsAt4 V c n h = (keptBlk P (48 + n), mAt P (48 + n + 1), sAt P (48 + n + 1)) := by
  have hN : cfg4.N = 16 := by decide
  have h6 : ∀ t : Fin cfg4.N, iblk4 V c 6 t = V c main_v25_1 := fun t => by
    obtain ⟨-, -, -, -, -, -, e, -⟩ := idx4 t
    funext y; blk_ext [iblk4, e]
  have h7 : ∀ t : Fin cfg4.N, iblk4 V c 7 t = V c main_v25_2 := fun t => by
    obtain ⟨-, -, -, -, -, -, -, e, -⟩ := idx4 t
    funext y; blk_ext [iblk4, e]
  refine chunk_points P 48 (outsAt4 V c) (fun n h => iblk4 V c 0 ⟨n, h⟩) (fun n h => scr (iblk4 V c 1 ⟨n, h⟩) (iblk4 V c 2 ⟨n, h⟩))
    (fun n h => iblk4 V c 3 ⟨n, h⟩) (fun n h => iblk4 V c 4 ⟨n, h⟩) (fun n h => iblk4 V c 5 ⟨n, h⟩) (V c main_v25_1) (V c main_v25_2) ?_ hM hS ?_ ?_
  · intro n h
    obtain ⟨e0, e1, e2, e3, e4, e5, -⟩ := idx4 ⟨n, h⟩
    refine isTile_of P 48 n _ _ _ _ _ _ (V c main_arg6) (V c main_arg12) (V c main_v28) (V c main_v29) (by omega) (by omega)
      (fun k a b l => ?_) (fun k b l => ?_) (fun r => ?_) (fun r => ?_) (fun R k => (?_ : _ = _).trans (hX R k)) hW hI hQ
      (fun R l => (?_ : _ = _).trans (hT R l))
    · blk_ext [iblk4, e1]
    · blk_ext [iblk4, e2]
    · blk_ext [iblk4, e3]
    · blk_ext [iblk4, e4]
    · blk_ext [iblk4, e0]
    · blk_ext [iblk4, e5]
  · intro h
    have o := outs4_A c (grid4.coords ⟨0, h⟩) _ (hs4_0 ⟨0, h⟩) _ (hs4_1 ⟨0, h⟩) _ (hs4_2 ⟨0, h⟩) _ (hs4_3 ⟨0, h⟩) _ (hs4_4 ⟨0, h⟩) _ (hs4_5 ⟨0, h⟩) _ (hs4_6 ⟨0, h⟩) _ (hs4_7 ⟨0, h⟩) _ (hs4_8 ⟨0, h⟩) _ (hs4_9 ⟨0, h⟩) _ (hs4_10 ⟨0, h⟩) scM4_0 (Memref.isWhole_whole _)
      ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (iblk4 V c 6 ⟨0, h⟩) (iblk4 V c 7 ⟨0, h⟩)
    refine (outsAt4_A V c ⟨0, h⟩ (Nat.zero_mod _)).trans (Prod.ext o.1 (Prod.ext (o.2.1.trans ?_) (o.2.2.trans ?_)))
    · rw [h6]
    · rw [h6, h7]
  · intro n h
    have h0 : ¬ (n + 1) % 16 = 0 := by omega
    have o := outs4_B c (grid4.coords ⟨n + 1, h⟩) _ (hs4_0 ⟨n + 1, h⟩) _ (hs4_1 ⟨n + 1, h⟩) _ (hs4_2 ⟨n + 1, h⟩) _ (hs4_3 ⟨n + 1, h⟩) _ (hs4_4 ⟨n + 1, h⟩) _ (hs4_5 ⟨n + 1, h⟩) _ (hs4_6 ⟨n + 1, h⟩) _ (hs4_7 ⟨n + 1, h⟩) _ (hs4_8 ⟨n + 1, h⟩) _ (hs4_9 ⟨n + 1, h⟩) _ (hs4_10 ⟨n + 1, h⟩) scM4_0 (Memref.isWhole_whole _)
      (fun hh => h0 ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩)
      (outsAt4 V c n (Nat.lt_of_succ_lt h)).2.1 (outsAt4 V c n (Nat.lt_of_succ_lt h)).2.2
    exact (outsAt4_B V c ⟨n + 1, h⟩ h0).trans (Prod.ext o.1 (Prod.ext o.2.1 o.2.2))

end

end Cert.Proof.Chunk

end
-- ==== Proof.Chunk4.lean ====
/- What chunk 4 leaves in its three results: the kept logits of the columns so far, and the lanes' maxima and sums. -/
module

public import proofs.«01_k».proof.Proof.Outs4
public import proofs.«01_k».proof.Proof.Gen.KernelIdeal.Frame.Region4
public import Idealize.ShloMosaic.Lib.Pipeline.ValueKit
import all proofs.«01_k».proof.Proof.Gen.KernelIdeal.Frame.Region4

@[expose] public section

set_option maxRecDepth 16384

noncomputable section

namespace Cert.Proof.Chunk

open Idealize.ShloMosaic Idealize.ShloMosaic.TcCoe Idealize.SL Cert.KernelIdeal Cert.KernelIdeal.Gen Cert.Proof.Step Cert.Proof.Problem Cert.Proof.Dequant

/-- The kept logits of a tile, entry by entry. -/
theorem keptBlk_at4 (P : Prob) (n : ℕ) (y : S640x1024.Idx) (R : Fin 1280) (j : ℕ) (h0 : (y 0).val = R.val) (h1 : 1024 * n + (y 1).val = j) :
    keptBlk P n y = kept P R j := by
  obtain rfl : R = ⟨(y 0).val, Nat.lt_of_lt_of_le (y 0).isLt (by decide)⟩ := Fin.ext h0.symm
  rw [← h1]; rfl

attribute [local irreducible] mAt sAt kept keptBlk

variable (V : (c : Dev nD) → (b : Ref sig .tc) → Buf (Elt Ideal) ((c : Thread nD τ).loc b)) (c : Dev nD) (P : Prob)

section
variable (e : ∀ n h, outsAt4 V c n h = (keptBlk P (48 + n), mAt P (48 + n + 1), sAt P (48 + n + 1)))
include e

/-- The lanes' maxima after the chunk. -/
theorem max4 : (dat4 V c).arrAt 9 cfg4.N = mAt P 64 := by
  refine (dat4 V c).arrAt_eq_of_after_last 9 ⟨15, by decide⟩ (by decide +kernel) _ fun j => ?_
  refine (congrFun (after4_9 V c ⟨15, by decide⟩) _).trans ((congrFun (show (outsAt4 V c 15 (by decide)).2.1 = mAt P 64 from congrArg (·.2.1) (e 15 (by decide))) _).trans ?_)
  exact congrArg (mAt P 64) (funext fun a => match a with | ⟨0, _⟩ => rfl | ⟨1, _⟩ => rfl)

/-- The lanes' sums after the chunk. -/
theorem sum4 : (dat4 V c).arrAt 10 cfg4.N = sAt P 64 := by
  refine (dat4 V c).arrAt_eq_of_after_last 10 ⟨15, by decide⟩ (by decide +kernel) _ fun j => ?_
  refine (congrFun (after4_10 V c ⟨15, by decide⟩) _).trans ((congrFun (show (outsAt4 V c 15 (by decide)).2.2 = sAt P 64 from congrArg (·.2.2) (e 15 (by decide))) _).trans ?_)
  exact congrArg (sAt P 64) (funext fun a => match a with | ⟨0, _⟩ => rfl | ⟨1, _⟩ => rfl)

/-- The kept logits of the columns so far. -/
theorem kept4 (h0 : ∀ (R : Fin 640) (j : Fin 65536), j.val < 1024 * 48 → V c main_v30_0 (Idealize.ShloMosaic.ix2 R j) = kept P (R.castLE (by decide)) j.val)
    (R : Fin 640) (j : Fin 65536) (hj : j.val < 1024 * 64) :
    (dat4 V c).arrAt 8 cfg4.N (Idealize.ShloMosaic.ix2 R j) = kept P (R.castLE (by decide)) j.val := by
  refine (dat4 V c).arrAt_forall_of_coversWhere 8
    (fun (i : S640x65536.Idx) (v : EReal) => (i 1).val < 1024 * 64 → v = kept P ⟨(i 0).val, Nat.lt_of_lt_of_le (i 0).isLt (by decide)⟩ (i 1).val)
    (fun β => 48 ≤ β (1 : Fin 2) ∧ β (1 : Fin 2) < 64) (by decide +kernel) (fun t hf y hj => ?_) (fun j hj hl => ?_) (Idealize.ShloMosaic.ix2 R j) (Memref.isWhole_whole _) hj
  · refine (congrFun (after4_8 V c t) _).trans ((congrFun (show (outsAt4 V c t.val t.isLt).1 = keptBlk P (48 + t.val) from congrArg (·.1) (e t.val t.isLt)) _).trans ?_)
    have e8 : win4_8.index t = ![0, 48 + t.val] := (idx4 t).2.2.2.2.2.2.2.2
    have hx : ((cfg4.win 8).xinj (cfg4.grid.coords t) y 1).val = (y 1).val := rfl
    refine keptBlk_at4 P _ _ _ _ ?_ ?_
    · blk_simp [e8]
    · blk_simp [e8]
      omega
  · blk_simp [Pipeline.Window.cell_apply] at hj hl
    have hb : (j 1).val < 1024 * 48 := by omega
    have hA : (dat4 V c).A 8 = V c main_v30_0 := rfl
    rw [hA]
    refine Eq.trans (congrArg (V c main_v30_0) (?_ : _ = Idealize.ShloMosaic.ix2 (j 0) (j 1))) ((h0 (j 0) (j 1) hb).trans ?_)
    · funext a
      match a with | ⟨0, _⟩ => exact Fin.ext (by blk_simp; rfl) | ⟨1, _⟩ => exact Fin.ext (by blk_simp; rfl)
    · exact congr (congrArg (kept P) (Fin.ext (by blk_simp; rfl))) (by blk_simp)
end

end Cert.Proof.Chunk

end
-- ==== Proof.Chain.lean ====
/- The five loss calls one after the other, from the arguments: the kept logits of every column, and every lane's maximum and sum. -/
module

public import proofs.«01_k».proof.Proof.Launch
public import proofs.«01_k».proof.Proof.Chunk0
public import proofs.«01_k».proof.Proof.Chunk1
public import proofs.«01_k».proof.Proof.Chunk2
public import proofs.«01_k».proof.Proof.Chunk3
public import proofs.«01_k».proof.Proof.Chunk4
import all proofs.«01_k».proof.Proof.Gen.KernelIdeal.Frame.Fold0

@[expose] public section

set_option maxRecDepth 16384

noncomputable section

namespace Cert.Proof.Chain

open Idealize.ShloMosaic Idealize.ShloMosaic.TcCoe Idealize.SL Cert.KernelIdeal Cert.KernelIdeal.Gen Cert.Proof.Problem Cert.Proof.Dequant Cert.Proof.Launch Cert.Proof.Chunk

variable (m : (ℓ : Loc nD τ sig) → Buf (Elt Ideal) ℓ) (ρ : Dev nD → PrngReg) (c : Dev nD)

/-- The rows, as every call reads them. -/
theorem x1 (R : Fin 1280) (k : Fin 1536) : W1 m ρ c (Proc.devRef .tc main_v0) (Idealize.ShloMosaic.ix2 R k) = (probOf m c).x R k :=
  congrFun (first_x (W0 m ρ c)) _

/-- The targets, as every call reads them. -/
theorem t1 (R : Fin 1280) (l : Fin 128) : W1 m ρ c (Proc.devRef .tc main_v3) (Idealize.ShloMosaic.ix2 R l) = (probOf m c).tg R := by
  refine (congrFun (first_t (W0 m ρ c)) _).trans ?_
  rw [broadcastInDim_apply _ _ _ _ (Idealize.ShloMosaic.ix2 R (0 : Fin 1)) (fun a => match a with | ⟨0, _⟩ => rfl | ⟨1, _⟩ => rfl),
    broadcastInDim_apply _ _ _ _ (ix1 R) (fun a => match a with | ⟨0, _⟩ => rfl)]
  rfl

theorem m1 : W1 m ρ c (Proc.devRef .tc main_v4) = mAt (probOf m c) 0 :=
  (first_m (W0 m ρ c)).trans (funext fun y => rfl)

theorem s1 : W1 m ρ c (Proc.devRef .tc main_v5) = sAt (probOf m c) 0 :=
  (first_s (W0 m ρ c)).trans (funext fun y => (show Ideal.ofBits .f32 0x00000000#32 = 0 from by simp [Ideal.ofBits, Ideal.ieee]))

attribute [local irreducible] mAt sAt kept

/-- Rows and targets at boundary 3, as at the first. -/
theorem x3 (R : Fin 1280) (k : Fin 1536) : W3 m ρ c (Proc.devRef .tc main_v0) (Idealize.ShloMosaic.ix2 R k) = (probOf m c).x R k :=
  (congrFun ((W3_of m ρ c main_v0 (by decide)).trans (W2_of m ρ c main_v0 (by decide))) _).trans (x1 m ρ c R k)
theorem t3 (R : Fin 1280) (l : Fin 128) : W3 m ρ c (Proc.devRef .tc main_v3) (Idealize.ShloMosaic.ix2 R l) = (probOf m c).tg R :=
  (congrFun ((W3_of m ρ c main_v3 (by decide)).trans (W2_of m ρ c main_v3 (by decide))) _).trans (t1 m ρ c R l)

/-- Rows and targets at boundary 5, as at the first. -/
theorem x5 (R : Fin 1280) (k : Fin 1536) : W5 m ρ c (Proc.devRef .tc main_v0) (Idealize.ShloMosaic.ix2 R k) = (probOf m c).x R k :=
  (congrFun ((W5_of m ρ c main_v0 (by decide)).trans (W4_of m ρ c main_v0 (by decide))) _).trans (x3 m ρ c R k)
theorem t5 (R : Fin 1280) (l : Fin 128) : W5 m ρ c (Proc.devRef .tc main_v3) (Idealize.ShloMosaic.ix2 R l) = (probOf m c).tg R :=
  (congrFun ((W5_of m ρ c main_v3 (by decide)).trans (W4_of m ρ c main_v3 (by decide))) _).trans (t3 m ρ c R l)

/-- Rows and targets at boundary 7, as at the first. -/
theorem x7 (R : Fin 1280) (k : Fin 1536) : W7 m ρ c (Proc.devRef .tc main_v0) (Idealize.ShloMosaic.ix2 R k) = (probOf m c).x R k :=
  (congrFun ((W7_of m ρ c main_v0 (by decide)).trans (W6_of m ρ c main_v0 (by decide))) _).trans (x5 m ρ c R k)
theorem t7 (R : Fin 1280) (l : Fin 128) : W7 m ρ c (Proc.devRef .tc main_v3) (Idealize.ShloMosaic.ix2 R l) = (probOf m c).tg R :=
  (congrFun ((W7_of m ρ c main_v3 (by decide)).trans (W6_of m ρ c main_v3 (by decide))) _).trans (t5 m ρ c R l)

/-- Rows and targets at boundary 9, as at the first. -/
theorem x9 (R : Fin 1280) (k : Fin 1536) : W9 m ρ c (Proc.devRef .tc main_v0) (Idealize.ShloMosaic.ix2 R k) = (probOf m c).x R k :=
  (congrFun ((W9_of m ρ c main_v0 (by decide)).trans (W8_of m ρ c main_v0 (by decide))) _).trans (x7 m ρ c R k)
theorem t9 (R : Fin 1280) (l : Fin 128) : W9 m ρ c (Proc.devRef .tc main_v3) (Idealize.ShloMosaic.ix2 R l) = (probOf m c).tg R :=
  (congrFun ((W9_of m ρ c main_v3 (by decide)).trans (W8_of m ρ c main_v3 (by decide))) _).trans (t7 m ρ c R l)

/-- Rows and targets at boundary 11, as at the first. -/
theorem x11 (R : Fin 1280) (k : Fin 1536) : W11 m ρ c (Proc.devRef .tc main_v0) (Idealize.ShloMosaic.ix2 R k) = (probOf m c).x R k :=
  (congrFun ((W11_of m ρ c main_v0 (by decide)).trans (W10_of m ρ c main_v0 (by decide))) _).trans (x9 m ρ c R k)
set_option maxHeartbeats 1000000 in
/-- After call 0. -/
theorem stage0 : (∀ (R : Fin 640) (j : Fin 65536), j.val < 1024 * 4 → W2 m ρ c (Proc.devRef .tc main_v10_0) (Idealize.ShloMosaic.ix2 R j) = kept (probOf m c) (R.castLE (by decide)) j.val)
    ∧ W2 m ρ c (Proc.devRef .tc main_v10_1) = mAt (probOf m c) 4 ∧ W2 m ρ c (Proc.devRef .tc main_v10_2) = sAt (probOf m c) 4 := by
  have hW : ∀ (k : Fin 128) (r : Fin 32) col, tab (V1 m ρ c main_arg2) (V1 m ρ c main_arg8) k r col = (probOf m c).w (1024 * 0 + (32 * k.val + r.val)) col := fun k r col => by
    rw [show V1 m ρ c main_arg2 = m ((c : Thread nD τ).loc main_arg2) from W1_args m ρ c main_arg2 (by decide),
      show V1 m ρ c main_arg8 = m ((c : Thread nD τ).loc main_arg8) from W1_args m ρ c main_arg8 (by decide)]
    exact w_0 m c k r col
  have hI : ∀ j : Fin 4096, V1 m ρ c main_v8 (Idealize.ShloMosaic.ix2 (0 : Fin 1) j) = (probOf m c).ids (1024 * 0 + j.val) := fun j =>
    (congrFun (first_i (W0 m ρ c)) _).trans ((congrFun (congrArg (fun z => broadcastInDim S1x4096 ![1] bcast_S4096_S1x4096_1 (extractStridedSlice S4096 ![0] z slices_S65536_S4096_0)) (rfl : _ = m ((c : Thread nD τ).loc main_arg14))) _).trans ((row_at 0 (by decide) _ _ _ j).trans (ids_at m c (1024 * 0 + j.val) (by omega)).symm))
  have hQ : ∀ j : Fin 4096, V1 m ρ c main_v9 (Idealize.ShloMosaic.ix2 (0 : Fin 1) j) = (probOf m c).lq (1024 * 0 + j.val) := fun j =>
    (congrFun (first_q (W0 m ρ c)) _).trans ((congrFun (congrArg (fun z => broadcastInDim S1x4096 ![1] bcast_S4096_S1x4096_1 (extractStridedSlice S4096 ![0] z slices_S65536_S4096_0)) (rfl : _ = m ((c : Thread nD τ).loc main_arg15))) _).trans ((row_at 0 (by decide) _ _ _ j).trans (lq_at m c (1024 * 0 + j.val) (by omega)).symm))
  have e := outs0 (V1 m ρ) c (probOf m c) (x1 m ρ c) hW hI hQ (t1 m ρ c) (m1 m ρ c) (s1 m ρ c)
  refine ⟨fun R j hj => (congrFun (W2_arr m ρ c 8) _).trans (kept0 (V1 m ρ) c (probOf m c) e (fun R j hj => ?_) R j hj),
    (W2_arr m ρ c 9).trans (max0 (V1 m ρ) c (probOf m c) e), (W2_arr m ρ c 10).trans (sum0 (V1 m ρ) c (probOf m c) e)⟩
  omega

set_option maxHeartbeats 1000000 in
/-- After call 1. -/
theorem stage1 : (∀ (R : Fin 640) (j : Fin 65536), j.val < 1024 * 16 → W4 m ρ c (Proc.devRef .tc main_v15_0) (Idealize.ShloMosaic.ix2 R j) = kept (probOf m c) (R.castLE (by decide)) j.val)
    ∧ W4 m ρ c (Proc.devRef .tc main_v15_1) = mAt (probOf m c) 16 ∧ W4 m ρ c (Proc.devRef .tc main_v15_2) = sAt (probOf m c) 16 := by
  obtain ⟨ho, hm, hs⟩ := stage0 m ρ c
  have hW : ∀ (k : Fin 384) (r : Fin 32) col, tab (V3 m ρ c main_arg3) (V3 m ρ c main_arg9) k r col = (probOf m c).w (1024 * 4 + (32 * k.val + r.val)) col := fun k r col => by
    rw [show V3 m ρ c main_arg3 = m ((c : Thread nD τ).loc main_arg3) from W3_args m ρ c main_arg3 (by decide),
      show V3 m ρ c main_arg9 = m ((c : Thread nD τ).loc main_arg9) from W3_args m ρ c main_arg9 (by decide)]
    exact w_1 m c k r col
  have hI : ∀ j : Fin 12288, V3 m ρ c main_v13 (Idealize.ShloMosaic.ix2 (0 : Fin 1) j) = (probOf m c).ids (1024 * 4 + j.val) := fun j =>
    (congrFun (next1_i (W2 m ρ c)) _).trans ((congrFun (congrArg (fun z => broadcastInDim S1x12288 ![1] bcast_S12288_S1x12288_1 (extractStridedSlice S12288 ![4096] z slices_S65536_S12288_4096)) (W2_args m ρ c main_arg14 (by decide))) _).trans ((row_at 4096 (by decide) _ _ _ j).trans (ids_at m c (1024 * 4 + j.val) (by omega)).symm))
  have hQ : ∀ j : Fin 12288, V3 m ρ c main_v14 (Idealize.ShloMosaic.ix2 (0 : Fin 1) j) = (probOf m c).lq (1024 * 4 + j.val) := fun j =>
    (congrFun (next1_q (W2 m ρ c)) _).trans ((congrFun (congrArg (fun z => broadcastInDim S1x12288 ![1] bcast_S12288_S1x12288_1 (extractStridedSlice S12288 ![4096] z slices_S65536_S12288_4096)) (W2_args m ρ c main_arg15 (by decide))) _).trans ((row_at 4096 (by decide) _ _ _ j).trans (lq_at m c (1024 * 4 + j.val) (by omega)).symm))
  have e := outs1 (V3 m ρ) c (probOf m c) (x3 m ρ c) hW hI hQ (t3 m ρ c) ((W3_of m ρ c main_v10_1 (by decide)).trans hm) ((W3_of m ρ c main_v10_2 (by decide)).trans hs)
  refine ⟨fun R j hj => (congrFun (W4_arr m ρ c 8) _).trans (kept1 (V3 m ρ) c (probOf m c) e (fun R j hj => ?_) R j hj),
    (W4_arr m ρ c 9).trans (max1 (V3 m ρ) c (probOf m c) e), (W4_arr m ρ c 10).trans (sum1 (V3 m ρ) c (probOf m c) e)⟩
  exact (congrFun (next1_o (W2 m ρ c)) _).trans (ho R j hj)

set_option maxHeartbeats 1000000 in
/-- After call 2. -/
theorem stage2 : (∀ (R : Fin 640) (j : Fin 65536), j.val < 1024 * 32 → W6 m ρ c (Proc.devRef .tc main_v20_0) (Idealize.ShloMosaic.ix2 R j) = kept (probOf m c) (R.castLE (by decide)) j.val)
    ∧ W6 m ρ c (Proc.devRef .tc main_v20_1) = mAt (probOf m c) 32 ∧ W6 m ρ c (Proc.devRef .tc main_v20_2) = sAt (probOf m c) 32 := by
  obtain ⟨ho, hm, hs⟩ := stage1 m ρ c
  have hW : ∀ (k : Fin 512) (r : Fin 32) col, tab (V5 m ρ c main_arg4) (V5 m ρ c main_arg10) k r col = (probOf m c).w (1024 * 16 + (32 * k.val + r.val)) col := fun k r col => by
    rw [show V5 m ρ c main_arg4 = m ((c : Thread nD τ).loc main_arg4) from W5_args m ρ c main_arg4 (by decide),
      show V5 m ρ c main_arg10 = m ((c : Thread nD τ).loc main_arg10) from W5_args m ρ c main_arg10 (by decide)]
    exact w_2 m c k r col
  have hI : ∀ j : Fin 16384, V5 m ρ c main_v18 (Idealize.ShloMosaic.ix2 (0 : Fin 1) j) = (probOf m c).ids (1024 * 16 + j.val) := fun j =>
    (congrFun (next2_i (W4 m ρ c)) _).trans ((congrFun (congrArg (fun z => broadcastInDim S1x16384 ![1] bcast_S16384_S1x16384_1 (extractStridedSlice S16384 ![16384] z slices_S65536_S16384_16384)) (W4_args m ρ c main_arg14 (by decide))) _).trans ((row_at 16384 (by decide) _ _ _ j).trans (ids_at m c (1024 * 16 + j.val) (by omega)).symm))
  have hQ : ∀ j : Fin 16384, V5 m ρ c main_v19 (Idealize.ShloMosaic.ix2 (0 : Fin 1) j) = (probOf m c).lq (1024 * 16 + j.val) := fun j =>
    (congrFun (next2_q (W4 m ρ c)) _).trans ((congrFun (congrArg (fun z => broadcastInDim S1x16384 ![1] bcast_S16384_S1x16384_1 (extractStridedSlice S16384 ![16384] z slices_S65536_S16384_16384)) (W4_args m ρ c main_arg15 (by decide))) _).trans ((row_at 16384 (by decide) _ _ _ j).trans (lq_at m c (1024 * 16 + j.val) (by omega)).symm))
  have e := outs2 (V5 m ρ) c (probOf m c) (x5 m ρ c) hW hI hQ (t5 m ρ c) ((W5_of m ρ c main_v15_1 (by decide)).trans hm) ((W5_of m ρ c main_v15_2 (by decide)).trans hs)
  refine ⟨fun R j hj => (congrFun (W6_arr m ρ c 8) _).trans (kept2 (V5 m ρ) c (probOf m c) e (fun R j hj => ?_) R j hj),
    (W6_arr m ρ c 9).trans (max2 (V5 m ρ) c (probOf m c) e), (W6_arr m ρ c 10).trans (sum2 (V5 m ρ) c (probOf m c) e)⟩
  exact (congrFun (next2_o (W4 m ρ c)) _).trans (ho R j hj)

set_option maxHeartbeats 1000000 in
/-- After call 3. -/
theorem stage3 : (∀ (R : Fin 640) (j : Fin 65536), j.val < 1024 * 48 → W8 m ρ c (Proc.devRef .tc main_v25_0) (Idealize.ShloMosaic.ix2 R j) = kept (probOf m c) (R.castLE (by decide)) j.val)
    ∧ W8 m ρ c (Proc.devRef .tc main_v25_1) = mAt (probOf m c) 48 ∧ W8 m ρ c (Proc.devRef .tc main_v25_2) = sAt (probOf m c) 48 := by
  obtain ⟨ho, hm, hs⟩ := stage2 m ρ c
  have hW : ∀ (k : Fin 512) (r : Fin 32) col, tab (V7 m ρ c main_arg5) (V7 m ρ c main_arg11) k r col = (probOf m c).w (1024 * 32 + (32 * k.val + r.val)) col := fun k r col => by
    rw [show V7 m ρ c main_arg5 = m ((c : Thread nD τ).loc main_arg5) from W7_args m ρ c main_arg5 (by decide),
      show V7 m ρ c main_arg11 = m ((c : Thread nD τ).loc main_arg11) from W7_args m ρ c main_arg11 (by decide)]
    exact w_3 m c k r col
  have hI : ∀ j : Fin 16384, V7 m ρ c main_v23 (Idealize.ShloMosaic.ix2 (0 : Fin 1) j) = (probOf m c).ids (1024 * 32 + j.val) := fun j =>
    (congrFun (next3_i (W6 m ρ c)) _).trans ((congrFun (congrArg (fun z => broadcastInDim S1x16384 ![1] bcast_S16384_S1x16384_1 (extractStridedSlice S16384 ![32768] z slices_S65536_S16384_32768)) (W6_args m ρ c main_arg14 (by decide))) _).trans ((row_at 32768 (by decide) _ _ _ j).trans (ids_at m c (1024 * 32 + j.val) (by omega)).symm))
  have hQ : ∀ j : Fin 16384, V7 m ρ c main_v24 (Idealize.ShloMosaic.ix2 (0 : Fin 1) j) = (probOf m c).lq (1024 * 32 + j.val) := fun j =>
    (congrFun (next3_q (W6 m ρ c)) _).trans ((congrFun (congrArg (fun z => broadcastInDim S1x16384 ![1] bcast_S16384_S1x16384_1 (extractStridedSlice S16384 ![32768] z slices_S65536_S16384_32768)) (W6_args m ρ c main_arg15 (by decide))) _).trans ((row_at 32768 (by decide) _ _ _ j).trans (lq_at m c (1024 * 32 + j.val) (by omega)).symm))
  have e := outs3 (V7 m ρ) c (probOf m c) (x7 m ρ c) hW hI hQ (t7 m ρ c) ((W7_of m ρ c main_v20_1 (by decide)).trans hm) ((W7_of m ρ c main_v20_2 (by decide)).trans hs)
  refine ⟨fun R j hj => (congrFun (W8_arr m ρ c 8) _).trans (kept3 (V7 m ρ) c (probOf m c) e (fun R j hj => ?_) R j hj),
    (W8_arr m ρ c 9).trans (max3 (V7 m ρ) c (probOf m c) e), (W8_arr m ρ c 10).trans (sum3 (V7 m ρ) c (probOf m c) e)⟩
  exact (congrFun (next3_o (W6 m ρ c)) _).trans (ho R j hj)

set_option maxHeartbeats 1000000 in
/-- After call 4. -/
theorem stage4 : (∀ (R : Fin 640) (j : Fin 65536), j.val < 1024 * 64 → W10 m ρ c (Proc.devRef .tc main_v30_0) (Idealize.ShloMosaic.ix2 R j) = kept (probOf m c) (R.castLE (by decide)) j.val)
    ∧ W10 m ρ c (Proc.devRef .tc main_v30_1) = mAt (probOf m c) 64 ∧ W10 m ρ c (Proc.devRef .tc main_v30_2) = sAt (probOf m c) 64 := by
  obtain ⟨ho, hm, hs⟩ := stage3 m ρ c
  have hW : ∀ (k : Fin 512) (r : Fin 32) col, tab (V9 m ρ c main_arg6) (V9 m ρ c main_arg12) k r col = (probOf m c).w (1024 * 48 + (32 * k.val + r.val)) col := fun k r col => by
    rw [show V9 m ρ c main_arg6 = m ((c : Thread nD τ).loc main_arg6) from W9_args m ρ c main_arg6 (by decide),
      show V9 m ρ c main_arg12 = m ((c : Thread nD τ).loc main_arg12) from W9_args m ρ c main_arg12 (by decide)]
    exact w_4 m c k r col
  have hI : ∀ j : Fin 16384, V9 m ρ c main_v28 (Idealize.ShloMosaic.ix2 (0 : Fin 1) j) = (probOf m c).ids (1024 * 48 + j.val) := fun j =>
    (congrFun (next4_i (W8 m ρ c)) _).trans ((congrFun (congrArg (fun z => broadcastInDim S1x16384 ![1] bcast_S16384_S1x16384_1 (extractStridedSlice S16384 ![49152] z slices_S65536_S16384_49152)) (W8_args m ρ c main_arg14 (by decide))) _).trans ((row_at 49152 (by decide) _ _ _ j).trans (ids_at m c (1024 * 48 + j.val) (by omega)).symm))
  have hQ : ∀ j : Fin 16384, V9 m ρ c main_v29 (Idealize.ShloMosaic.ix2 (0 : Fin 1) j) = (probOf m c).lq (1024 * 48 + j.val) := fun j =>
    (congrFun (next4_q (W8 m ρ c)) _).trans ((congrFun (congrArg (fun z => broadcastInDim S1x16384 ![1] bcast_S16384_S1x16384_1 (extractStridedSlice S16384 ![49152] z slices_S65536_S16384_49152)) (W8_args m ρ c main_arg15 (by decide))) _).trans ((row_at 49152 (by decide) _ _ _ j).trans (lq_at m c (1024 * 48 + j.val) (by omega)).symm))
  have e := outs4 (V9 m ρ) c (probOf m c) (x9 m ρ c) hW hI hQ (t9 m ρ c) ((W9_of m ρ c main_v25_1 (by decide)).trans hm) ((W9_of m ρ c main_v25_2 (by decide)).trans hs)
  refine ⟨fun R j hj => (congrFun (W10_arr m ρ c 8) _).trans (kept4 (V9 m ρ) c (probOf m c) e (fun R j hj => ?_) R j hj),
    (W10_arr m ρ c 9).trans (max4 (V9 m ρ) c (probOf m c) e), (W10_arr m ρ c 10).trans (sum4 (V9 m ρ) c (probOf m c) e)⟩
  exact (congrFun (next4_o (W8 m ρ c)) _).trans (ho R j hj)

end Cert.Proof.Chain

end
-- ==== Proof.Results.lean ====
/- The three results of the launch are the reference's, for the same arguments. -/
module

public import proofs.«01_k».proof.Proof.FinalValue
public import proofs.«01_k».proof.Proof.FinalOut
public import proofs.«01_k».proof.Proof.Chain
import all proofs.«01_k».proof.Proof.Gen.KernelIdeal.Frame.Fold0

@[expose] public section

set_option maxRecDepth 16384

noncomputable section

namespace Cert.Proof.Results

open Idealize.ShloMosaic Idealize.ShloMosaic.TcCoe Idealize.SL Cert.KernelIdeal Cert.KernelIdeal.Gen Cert.Proof.Problem Cert.Proof.Dequant Cert.Proof.Launch Cert.Proof.Chain
  Cert.ReferenceIdeal.Read

attribute [local irreducible] mAt sAt kept keptBlk

variable (m : (ℓ : Loc nD τ sig) → Buf (Elt Ideal) ℓ) (ρ : Dev nD → PrngReg) (c : Dev nD)

/-- A row of the true logits' column is a row of the flattened log-probabilities. -/
theorem q_at (x : (⟨S2x640, .f32⟩ : BufTy).Contents (Elt Ideal)) (R : Fin 1280) :
    (shapeCast S1280x1 x shapeCasts_S2x640_S1280x1 : Vec Ideal S1280x1 .f32) (Idealize.ShloMosaic.ix2 R (0 : Fin 1)) = val_main_v2 (F := Ideal) x (ix1 R) := by
  rw [val_main_v2_apply]
  refine shapeCast_apply (s := S2x640) x shapeCasts_S2x640_S1280x1 _ (idx_main_v2 (ix1 R)) ?_
  rw [Shape.rowMajor_val_two, Shape.rowMajor_val_two]
  show R.val / 640 * 640 + R.val % 640 = R.val * 1 + 0
  omega

/-- The log-probabilities at the final call. -/
theorem q11 (R : Fin 1280) : W11 m ρ c (Proc.devRef .tc main_v31) (Idealize.ShloMosaic.ix2 R (0 : Fin 1))
    = val_main_v2 (F := Ideal) (m ((c : Thread nD τ).loc main_arg16)) (ix1 R) := by
  rw [show W11 m ρ c (Proc.devRef .tc main_v31) = shapeCast S1280x1 (W10 m ρ c (Proc.devRef .tc main_arg16)) shapeCasts_S2x640_S1280x1 from last_q (W10 m ρ c),
    W10_args m ρ c main_arg16 (by decide)]
  exact q_at _ R

/-- The final call's true logit of a row. -/
theorem tru_at (R : Fin 1280) :
    k5_pay60 (V11 m ρ c main_v0) (scrF (V11 m ρ c main_arg7) (V11 m ρ c main_arg13)) (V11 m ρ c main_v31) (Idealize.ShloMosaic.ix2 R (0 : Fin 1))
      = RefValue.tru (probOf m c) (val_main_v2 (F := Ideal) (m ((c : Thread nD τ).loc main_arg16)) (ix1 R)) R := by
  rw [FinalValue.pay60_at]
  refine congr (congrArg (fun (a b : EReal) => a - b) (Finset.sum_congr rfl fun k _ => congr (congrArg (fun (a b : EReal) => a * b) (x11 m ρ c R k)) ?_)) (q11 m ρ c R)
  rw [show V11 m ρ c main_arg7 = m ((c : Thread nD τ).loc main_arg7) from W11_args m ρ c main_arg7 (by decide),
    show V11 m ρ c main_arg13 = m ((c : Thread nD τ).loc main_arg13) from W11_args m ρ c main_arg13 (by decide),
    scrF_at _ _ (⟨R.val / 32, by omega⟩ : Fin 40) (⟨R.val % 32, by omega⟩ : Fin 32) k _ (show R.val = 32 * (R.val / 32) + R.val % 32 by omega) rfl, w_t]
  exact congrArg (fun j => (probOf m c).w j k) (show 65536 + (32 * (R.val / 32) + R.val % 32) = 65536 + R.val by omega)

/-- The true logits. -/
theorem result_true : W12 m ρ c (Proc.devRef .tc main_v32_1) = val_main_v84 (F := Ideal) (m ((c : Thread nD τ).loc main_arg0))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  refine ((W12_arr m ρ c 7).trans (Final.final_out (V11 m ρ) c).2).trans (funext fun y => ?_)
  obtain ⟨R, z, rfl⟩ : ∃ (R : Fin 1280) (z : Fin 1), y = Idealize.ShloMosaic.ix2 R z := ⟨y 0, y 1, funext fun a => match a with | ⟨0, _⟩ => rfl | ⟨1, _⟩ => rfl⟩
  obtain rfl : z = 0 := Subsingleton.elim _ _
  rw [tru_at, val_main_v84_apply, show idx_main_v84 (Idealize.ShloMosaic.ix2 R (0 : Fin 1)) = ix1 R from funext fun a => match a with | ⟨0, _⟩ => rfl]
  exact (RefValue.true_at _ (m ((c : Thread nD τ).loc main_arg1)) _ _ _ _ _ _ _ _ _ _ _ _ (m ((c : Thread nD τ).loc main_arg14)) (m ((c : Thread nD τ).loc main_arg15)) _ R).symm

/-- The losses. -/
theorem result_loss : W12 m ρ c (Proc.devRef .tc main_v32_0) = val_main_v83 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨_, hm, hs⟩ := stage4 m ρ c
  have hm' : V11 m ρ c main_v30_1 = mAt (probOf m c) 64 := (W11_of m ρ c main_v30_1 (by decide)).trans hm
  have hs' : V11 m ρ c main_v30_2 = sAt (probOf m c) 64 := (W11_of m ρ c main_v30_2 (by decide)).trans hs
  refine ((W12_arr m ρ c 6).trans (Final.final_out (V11 m ρ) c).1).trans (funext fun y => ?_)
  obtain ⟨R, z, rfl⟩ : ∃ (R : Fin 1280) (z : Fin 1), y = Idealize.ShloMosaic.ix2 R z := ⟨y 0, y 1, funext fun a => match a with | ⟨0, _⟩ => rfl | ⟨1, _⟩ => rfl⟩
  obtain rfl : z = 0 := Subsingleton.elim _ _
  rw [hm', hs', FinalValue.pay61_at, FinalValue.loss_lanes, tru_at, val_main_v83_apply,
    show idx_main_v83 (Idealize.ShloMosaic.ix2 R (0 : Fin 1)) = ix1 R from funext fun a => match a with | ⟨0, _⟩ => rfl]
  exact (RefValue.loss_at _ _ _ _ _ _ _ _ _ _ _ _ _ _ _ _ _ R).symm

/-- The kept logits. -/
theorem result_kept : W12 m ρ c (Proc.devRef .tc main_v30_0) = val_main_v70 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W12_of m ρ c main_v30_0 (by decide)).trans (W11_of m ρ c main_v30_0 (by decide))).trans (funext fun y => ?_)
  obtain ⟨R, j, rfl⟩ : ∃ (R : Fin 640) (j : Fin 65536), y = Idealize.ShloMosaic.ix2 R j := ⟨y 0, y 1, funext fun a => match a with | ⟨0, _⟩ => rfl | ⟨1, _⟩ => rfl⟩
  exact ((stage4 m ρ c).1 R j j.isLt).trans (RefValue.kept_at _ _ _ _ _ _ _ _ _ _ _ _ _ _ _ _ R j).symm

end Cert.Proof.Results

end
-- ==== Proof.lean ====
/- The proof of the certificate: the three programs run to their end with their arguments unchanged, and the kernel's three
   results are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference runs to its end and leaves its arguments as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩) (Cert.ReferenceIdeal.Value.run m ρ)

/-- For the same arguments the kernel and the reference end with the same three results. -/
theorem same_results : Cert.algebraic_KernelIdeal_ReferenceIdeal (hKernelIdeal := Cert.KernelIdeal.Gen.facts) (hReferenceIdeal := Cert.ReferenceIdeal.Gen.facts) := by
  intro m g m' g' _ heq
  refine ⟨fun c => Cert.KernelIdeal.Gen.W12 m g c (Proc.devRef .tc Cert.KernelIdeal.main_v32_0), fun c => Cert.KernelIdeal.Gen.W12 m g c (Proc.devRef .tc Cert.KernelIdeal.main_v32_1),
    fun c => Cert.KernelIdeal.Gen.W12 m g c (Proc.devRef .tc Cert.KernelIdeal.main_v30_0), Cert.KernelIdeal.Gen.run m g,
    (θ_run Cert.ReferenceIdeal.defs _ _).mono (fun r h c => ?_) (Cert.ReferenceIdeal.Value.run m' g')⟩
  obtain ⟨e0, e1, e2, e3, e4, e5, e6, e7, e8, e9, e10, e11, e12, e13, e14, e15, e16⟩ := heq c
  have a0 : StableHlo.launchContents m' c (Proc.devRef .tc Cert.ReferenceIdeal.main_arg0) = m ((c.tc : Thread Cert.KernelIdeal.nD Cert.KernelIdeal.τ).loc Cert.KernelIdeal.main_arg0) := e0
  have a1 : StableHlo.launchContents m' c (Proc.devRef .tc Cert.ReferenceIdeal.main_arg1) = m ((c.tc : Thread Cert.KernelIdeal.nD Cert.KernelIdeal.τ).loc Cert.KernelIdeal.main_arg1) := e1
  have a2 : StableHlo.launchContents m' c (Proc.devRef .tc Cert.ReferenceIdeal.main_arg2) = m ((c.tc : Thread Cert.KernelIdeal.nD Cert.KernelIdeal.τ).loc Cert.KernelIdeal.main_arg2) := e2
  have a3 : StableHlo.launchContents m' c (Proc.devRef .tc Cert.ReferenceIdeal.main_arg3) = m ((c.tc : Thread Cert.KernelIdeal.nD Cert.KernelIdeal.τ).loc Cert.KernelIdeal.main_arg3) := e3
  have a4 : StableHlo.launchContents m' c (Proc.devRef .tc Cert.ReferenceIdeal.main_arg4) = m ((c.tc : Thread Cert.KernelIdeal.nD Cert.KernelIdeal.τ).loc Cert.KernelIdeal.main_arg4) := e4
  have a5 : StableHlo.launchContents m' c (Proc.devRef .tc Cert.ReferenceIdeal.main_arg5) = m ((c.tc : Thread Cert.KernelIdeal.nD Cert.KernelIdeal.τ).loc Cert.KernelIdeal.main_arg5) := e5
  have a6 : StableHlo.launchContents m' c (Proc.devRef .tc Cert.ReferenceIdeal.main_arg6) = m ((c.tc : Thread Cert.KernelIdeal.nD Cert.KernelIdeal.τ).loc Cert.KernelIdeal.main_arg6) := e6
  have a7 : StableHlo.launchContents m' c (Proc.devRef .tc Cert.ReferenceIdeal.main_arg7) = m ((c.tc : Thread Cert.KernelIdeal.nD Cert.KernelIdeal.τ).loc Cert.KernelIdeal.main_arg7) := e7
  have a8 : StableHlo.launchContents m' c (Proc.devRef .tc Cert.ReferenceIdeal.main_arg8) = m ((c.tc : Thread Cert.KernelIdeal.nD Cert.KernelIdeal.τ).loc Cert.KernelIdeal.main_arg8) := e8
  have a9 : StableHlo.launchContents m' c (Proc.devRef .tc Cert.ReferenceIdeal.main_arg9) = m ((c.tc : Thread Cert.KernelIdeal.nD Cert.KernelIdeal.τ).loc Cert.KernelIdeal.main_arg9) := e9
  have a10 : StableHlo.launchContents m' c (Proc.devRef .tc Cert.ReferenceIdeal.main_arg10) = m ((c.tc : Thread Cert.KernelIdeal.nD Cert.KernelIdeal.τ).loc Cert.KernelIdeal.main_arg10) := e10
  have a11 : StableHlo.launchContents m' c (Proc.devRef .tc Cert.ReferenceIdeal.main_arg11) = m ((c.tc : Thread Cert.KernelIdeal.nD Cert.KernelIdeal.τ).loc Cert.KernelIdeal.main_arg11) := e11
  have a12 : StableHlo.launchContents m' c (Proc.devRef .tc Cert.ReferenceIdeal.main_arg12) = m ((c.tc : Thread Cert.KernelIdeal.nD Cert.KernelIdeal.τ).loc Cert.KernelIdeal.main_arg12) := e12
  have a13 : StableHlo.launchContents m' c (Proc.devRef .tc Cert.ReferenceIdeal.main_arg13) = m ((c.tc : Thread Cert.KernelIdeal.nD Cert.KernelIdeal.τ).loc Cert.KernelIdeal.main_arg13) := e13
  have a14 : StableHlo.launchContents m' c (Proc.devRef .tc Cert.ReferenceIdeal.main_arg14) = m ((c.tc : Thread Cert.KernelIdeal.nD Cert.KernelIdeal.τ).loc Cert.KernelIdeal.main_arg14) := e14
  have a15 : StableHlo.launchContents m' c (Proc.devRef .tc Cert.ReferenceIdeal.main_arg15) = m ((c.tc : Thread Cert.KernelIdeal.nD Cert.KernelIdeal.τ).loc Cert.KernelIdeal.main_arg15) := e15
  have a16 : StableHlo.launchContents m' c (Proc.devRef .tc Cert.ReferenceIdeal.main_arg16) = m ((c.tc : Thread Cert.KernelIdeal.nD Cert.KernelIdeal.τ).loc Cert.KernelIdeal.main_arg16) := e16
  refine ⟨(h c).1.trans ((Cert.ReferenceIdeal.Read.val_main_v83_eq (StableHlo.launchContents m' c)).trans (Eq.trans ?_ (Results.result_loss m g c).symm)),
    (h c).2.1.trans ((Cert.ReferenceIdeal.Read.val_main_v84_eq (StableHlo.launchContents m' c)).trans (Eq.trans ?_ (Results.result_true m g c).symm)),
    (h c).2.2.1.trans ((Cert.ReferenceIdeal.Read.val_main_v70_eq (StableHlo.launchContents m' c)).trans (Eq.trans ?_ (Results.result_kept m g c).symm)), (h c).2.2.2⟩
  · exact congr (congr (congr (congr (congr (congr (congr (congr (congr (congr (congr (congr (congr (congr (congr (congr (congrArg (Cert.ReferenceIdeal.Read.val_main_v83 (F := Ideal)) a0) a1) a2) a3) a4) a5) a6) a7) a8) a9) a10) a11) a12) a13) a14) a15) a16
  · exact congr (congr (congr (congr (congr (congr (congr (congr (congr (congr (congr (congr (congr (congrArg (Cert.ReferenceIdeal.Read.val_main_v84 (F := Ideal)) a0) a2) a3) a4) a5) a6) a7) a8) a9) a10) a11) a12) a13) a16
  · exact congr (congr (congr (congr (congr (congr (congr (congr (congr (congr (congr (congr (congr (congr (congr (congrArg (Cert.ReferenceIdeal.Read.val_main_v70 (F := Ideal)) a0) a1) a2) a3) a4) a5) a6) a7) a8) a9) a10) a11) a12) a13) a14) a15

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
